-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))).2.2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v235)) (v1 : (c : Dev Cert.Kernel2Ideal.nD) → Buf (Elt Ideal) ((c.tc : Thread Cert.Kernel2Ideal.nD Cert.Kernel2Ideal.τ).loc Cert.Kernel2Ideal.main_v237)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v235) = v0 c
          ∧ r.2.mem ((c.tc : Thread Cert.Kernel2Ideal.nD Cert.Kernel2Ideal.τ).loc Cert.Kernel2Ideal.main_v237) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v203) = v0 c
          ∧ r.2.mem ((c.tc : Thread Cert.Reference2Ideal.nD Cert.Reference2Ideal.τ).loc Cert.Reference2Ideal.main_v200) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S500x128 : Shape := ⟨2, ![500, 128]⟩
abbrev S500 : Shape := ⟨1, ![500]⟩
abbrev S500x1000 : Shape := ⟨2, ![500, 1000]⟩
abbrev S128 : Shape := ⟨1, ![128]⟩
abbrev S22x32 : Shape := ⟨2, ![22, 32]⟩
abbrev S64x32x3 : Shape := ⟨3, ![64, 32, 3]⟩
abbrev S64 : Shape := ⟨1, ![64]⟩
abbrev S128x64x3 : Shape := ⟨3, ![128, 64, 3]⟩
abbrev S128x128x3 : Shape := ⟨3, ![128, 128, 3]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S22x32 : S_.BroadcastsInDim S22x32 (![] : Fin 0 → Fin S22x32.rank)
  reducesTo_S22x32_S_d0_1 : S22x32.ReducesTo [0, 1] S_
  h_S_ : 0 < S_.numel
  bcast_S_S64x32x3 : S_.BroadcastsInDim S64x32x3 (![] : Fin 0 → Fin S64x32x3.rank)
  reducesTo_S64x32x3_S_d0_1_2 : S64x32x3.ReducesTo [0, 1, 2] S_
  bcast_S_S64 : S_.BroadcastsInDim S64 (![] : Fin 0 → Fin S64.rank)
  reducesTo_S64_S_d0 : S64.ReducesTo [0] S_
  bcast_S_S128x64x3 : S_.BroadcastsInDim S128x64x3 (![] : Fin 0 → Fin S128x64x3.rank)
  reducesTo_S128x64x3_S_d0_1_2 : S128x64x3.ReducesTo [0, 1, 2] S_
  bcast_S_S128 : S_.BroadcastsInDim S128 (![] : Fin 0 → Fin S128.rank)
  reducesTo_S128_S_d0 : S128.ReducesTo [0] S_
  bcast_S_S128x128x3 : S_.BroadcastsInDim S128x128x3 (![] : Fin 0 → Fin S128x128x3.rank)
  reducesTo_S128x128x3_S_d0_1_2 : S128x128x3.ReducesTo [0, 1, 2] S_

variable [Facts]

def fn_part3 {F : FTy → Type} [FloatOps F] (main_arg17 : FVec F S128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v48 : FVec F S128 .f32 := Host.absf main_arg17
  let main_cst_22 : FVec F S_ .f32 := constant S_ .f32 0x7F800000#32
  let main_v49 : FVec F S128 .f32 := broadcastInDim S128 ![] bcast_S_S128 main_cst_22
  let main_v50 : IVec S128 1 := cmpf .olt main_v48 main_v49
  let main_c_23 : IVec S_ 1 := constantI S_ 1 1#1
  let main_v51 : IVec S_ 1 := (fun x v => Host.reduce IntOp.andi x v reducesTo_S128_S_d0 h_S_) main_v50 main_c_23
  (main_v3, main_v7, main_v11, main_v15, main_v19, main_v23, main_v27, main_v31, main_v35, main_v39, main_v43, main_v47, main_v51)

def fn_part2 {F : FTy → Type} [FloatOps F] (main_arg13 : FVec F S128 .f32) (main_arg14 : FVec F S128x128x3 .f32) (main_arg15 : FVec F S128 .f32) (main_arg16 : FVec F S128 .f32) (main_arg17 : FVec F S128 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v32 : FVec F S128 .f32 := Host.absf main_arg13
  let main_cst_14 : FVec F S_ .f32 := constant S_ .f32 0x7F800000#32
  let main_v33 : FVec F S128 .f32 := broadcastInDim S128 ![] bcast_S_S128 main_cst_14
  let main_v34 : IVec S128 1 := cmpf .olt main_v32 main_v33
  let main_c_15 : IVec S_ 1 := constantI S_ 1 1#1
  let main_v35 : IVec S_ 1 := (fun x v => Host.reduce IntOp.andi x v reducesTo_S128_S_d0 h_S_) main_v34 main_c_15
  let main_v36 : FVec F S128x128x3 .f32 := Host.absf main_arg14
  let main_cst_16 : FVec F S_ .f32 := constant S_ .f32 0x7F800000#32
  let main_v37 : FVec F S128x128x3 .f32 := broadcastInDim S128x128x3 ![] bcast_S_S128x128x3 main_cst_16
  let main_v38 : IVec S128x128x3 1 := cmpf .olt main_v36 main_v37
  let main_c_17 : IVec S_ 1 := constantI S_ 1 1#1
  let main_v39 : IVec S_ 1 := (fun x v => Host.reduce IntOp.andi x v reducesTo_S128x128x3_S_d0_1_2 h_S_) main_v38 main_c_17
  let main_v40 : FVec F S128 .f32 := Host.absf main_arg15
  let main_cst_18 : FVec F S_ .f32 := constant S_ .f32 0x7F800000#32
  let main_v41 : FVec F S128 .f32 := broadcastInDim S128 ![] bcast_S_S128 main_cst_18
  let main_v42 : IVec S128 1 := cmpf .olt main_v40 main_v41
  let main_c_19 : IVec S_ 1 := constantI S_ 1 1#1
  let main_v43 : IVec S_ 1 := (fun x v => Host.reduce IntOp.andi x v reducesTo_S128_S_d0 h_S_) main_v42 main_c_19
  let main_v44 : FVec F S128 .f32 := Host.absf main_arg16
  let main_cst_20 : FVec F S_ .f32 := constant S_ .f32 0x7F800000#32
  let main_v45 : FVec F S128 .f32 := broadcastInDim S128 ![] bcast_S_S128 main_cst_20
  let main_v46 : IVec S128 1 := cmpf .olt main_v44 main_v45
  let main_c_21 : IVec S_ 1 := constantI S_ 1 1#1
  let main_v47 : IVec S_ 1 := (fun x v => Host.reduce IntOp.andi x v reducesTo_S128_S_d0 h_S_) main_v46 main_c_21
  fn_part3 (F := F) main_arg17 main_v3 main_v7 main_v11 main_v15 main_v19 main_v23 main_v27 main_v31 main_v35 main_v39 main_v43 main_v47

def fn_part1 {F : FTy → Type} [FloatOps F] (main_arg9 : FVec F S64 .f32) (main_arg10 : FVec F S128x64x3 .f32) (main_arg11 : FVec F S128 .f32) (main_arg12 : FVec F S128 .f32) (main_arg13 : FVec F S128 .f32) (main_arg14 : FVec F S128x128x3 .f32) (main_arg15 : FVec F S128 .f32) (main_arg16 : FVec F S128 .f32) (main_arg17 : FVec F S128 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v16 : FVec F S64 .f32 := Host.absf main_arg9
  let main_cst_6 : FVec F S_ .f32 := constant S_ .f32 0x7F800000#32
  let main_v17 : FVec F S64 .f32 := broadcastInDim S64 ![] bcast_S_S64 main_cst_6
  let main_v18 : IVec S64 1 := cmpf .olt main_v16 main_v17
  let main_c_7 : IVec S_ 1 := constantI S_ 1 1#1
  let main_v19 : IVec S_ 1 := (fun x v => Host.reduce IntOp.andi x v reducesTo_S64_S_d0 h_S_) main_v18 main_c_7
  let main_v20 : FVec F S128x64x3 .f32 := Host.absf main_arg10
  let main_cst_8 : FVec F S_ .f32 := constant S_ .f32 0x7F800000#32
  let main_v21 : FVec F S128x64x3 .f32 := broadcastInDim S128x64x3 ![] bcast_S_S128x64x3 main_cst_8
  let main_v22 : IVec S128x64x3 1 := cmpf .olt main_v20 main_v21
  let main_c_9 : IVec S_ 1 := constantI S_ 1 1#1
  let main_v23 : IVec S_ 1 := (fun x v => Host.reduce IntOp.andi x v reducesTo_S128x64x3_S_d0_1_2 h_S_) main_v22 main_c_9
  let main_v24 : FVec F S128 .f32 := Host.absf main_arg11
  let main_cst_10 : FVec F S_ .f32 := constant S_ .f32 0x7F800000#32
  let main_v25 : FVec F S128 .f32 := broadcastInDim S128 ![] bcast_S_S128 main_cst_10
  let main_v26 : IVec S128 1 := cmpf .olt main_v24 main_v25
  let main_c_11 : IVec S_ 1 := constantI S_ 1 1#1
  let main_v27 : IVec S_ 1 := (fun x v => Host.reduce IntOp.andi x v reducesTo_S128_S_d0 h_S_) main_v26 main_c_11
  let main_v28 : FVec F S128 .f32 := Host.absf main_arg12
  let main_cst_12 : FVec F S_ .f32 := constant S_ .f32 0x7F800000#32
  let main_v29 : FVec F S128 .f32 := broadcastInDim S128 ![] bcast_S_S128 main_cst_12
  let main_v30 : IVec S128 1 := cmpf .olt main_v28 main_v29
  let main_c_13 : IVec S_ 1 := constantI S_ 1 1#1
  let main_v31 : IVec S_ 1 := (fun x v => Host.reduce IntOp.andi x v reducesTo_S128_S_d0 h_S_) main_v30 main_c_13
  fn_part2 (F := F) main_arg13 main_arg14 main_arg15 main_arg16 main_arg17 main_v3 main_v7 main_v11 main_v15 main_v19 main_v23 main_v27 main_v31

def fn {F : FTy → Type} [FloatOps F] (main_arg0 : FVec F S500x128 .f32) (main_arg1 : FVec F S500 .f32) (main_arg2 : IVec S500x1000 32) (main_arg3 : FVec F S128 .f32) (main_arg4 : FVec F S128 .f32) (main_arg5 : FVec F S22x32 .f32) (main_arg6 : FVec F S64x32x3 .f32) (main_arg7 : FVec F S64 .f32) (main_arg8 : FVec F S64 .f32) (main_arg9 : FVec F S64 .f32) (main_arg10 : FVec F S128x64x3 .f32) (main_arg11 : FVec F S128 .f32) (main_arg12 : FVec F S128 .f32) (main_arg13 : FVec F S128 .f32) (main_arg14 : FVec F S128x128x3 .f32) (main_arg15 : FVec F S128 .f32) (main_arg16 : FVec F S128 .f32) (main_arg17 : FVec F S128 .f32) (main_arg18 : FVec F S256x128 .f32) (main_arg19 : FVec F S128 .f32) (main_arg20 : FVec F S128 .f32) (main_arg21 : FVec F S128 .f32) (main_arg22 : FVec F S128x64 .f32) (main_arg23 : FVec F S64 .f32) (main_arg24 : FVec F S64 .f32) (main_arg25 : FVec F S64 .f32) (main_arg26 : FVec F S64x1 .f32) (main_arg27 : FVec F S1 .f32) : IVec S_ 1 × IVec S_ 1 × IVec S_ 1 × IVec S_ 1 × IVec S_ 1 × IVec S_ 1 × IVec S_ 1 × IVec S_ 1 × IVec S_ 1 × IVec S_ 1 × IVec S_ 1 × IVec S_ 1 × IVec S_ 1 :=
  let main_v0 : FVec F S22x32 .f32 := Host.absf main_arg5
  let main_cst : FVec F S_ .f32 := constant S_ .f32 0x7F800000#32
  let main_v1 : FVec F S22x32 .f32 := broadcastInDim S22x32 ![] bcast_S_S22x32 main_cst
  let main_v2 : IVec S22x32 1 := cmpf .olt main_v0 main_v1
  let main_c : IVec S_ 1 := constantI S_ 1 1#1
  let main_v3 : IVec S_ 1 := (fun x v => Host.reduce IntOp.andi x v reducesTo_S22x32_S_d0_1 h_S_) main_v2 main_c
  let main_v4 : FVec F S64x32x3 .f32 := Host.absf main_arg6
  let main_cst_0 : FVec F S_ .f32 := constant S_ .f32 0x7F800000#32
  let main_v5 : FVec F S64x32x3 .f32 := broadcastInDim S64x32x3 ![] bcast_S_S64x32x3 main_cst_0
  let main_v6 : IVec S64x32x3 1 := cmpf .olt main_v4 main_v5
  let main_c_1 : IVec S_ 1 := constantI S_ 1 1#1
  let main_v7 : IVec S_ 1 := (fun x v => Host.reduce IntOp.andi x v reducesTo_S64x32x3_S_d0_1_2 h_S_) main_v6 main_c_1
  let main_v8 : FVec F S64 .f32 := Host.absf main_arg7
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  let main_c_3 : IVec S_ 1 := constantI S_ 1 1#1
  let main_v11 : IVec S_ 1 := (fun x v => Host.reduce IntOp.andi x v reducesTo_S64_S_d0 h_S_) main_v10 main_c_3
  let main_v12 : FVec F S64 .f32 := Host.absf main_arg8
  let main_cst_4 : FVec F S_ .f32 := constant S_ .f32 0x7F800000#32
  let main_v13 : FVec F S64 .f32 := broadcastInDim S64 ![] bcast_S_S64 main_cst_4
  let main_v14 : IVec S64 1 := cmpf .olt main_v12 main_v13
  let main_c_5 : IVec S_ 1 := constantI S_ 1 1#1
  let main_v15 : IVec S_ 1 := (fun x v => Host.reduce IntOp.andi x v reducesTo_S64_S_d0 h_S_) main_v14 main_c_5
  fn_part1 (F := F) main_arg9 main_arg10 main_arg11 main_arg12 main_arg13 main_arg14 main_arg15 main_arg16 main_arg17 main_v3 main_v7 main_v11 main_v15
-- ==== Kernel.lean ====
abbrev S500x128 : Shape := ⟨2, ![500, 128]⟩
abbrev S500 : Shape := ⟨1, ![500]⟩
abbrev S500x1000 : Shape := ⟨2, ![500, 1000]⟩
abbrev S128 : Shape := ⟨1, ![128]⟩
abbrev S22x32 : Shape := ⟨2, ![22, 32]⟩
abbrev S64x32x3 : Shape := ⟨3, ![64, 32, 3]⟩
abbrev S64 : Shape := ⟨1, ![64]⟩
abbrev S128x64x3 : Shape := ⟨3, ![128, 64, 3]⟩
abbrev S128x128x3 : Shape := ⟨3, ![128, 128, 3]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S_ : Shape := ⟨0, ![]⟩
abbrev S500x1 : Shape := ⟨2, ![500, 1]⟩
abbrev S1x128 : Shape := ⟨2, ![1, 128]⟩
abbrev S500x1000x1 : Shape := ⟨3, ![500, 1000, 1]⟩
abbrev S500x1000x32 : Shape := ⟨3, ![500, 1000, 32]⟩
abbrev S3x32x64 : Shape := ⟨3, ![3, 32, 64]⟩
abbrev S96x64 : Shape := ⟨2, ![96, 64]⟩
abbrev S3x64x128 : Shape := ⟨3, ![3, 64, 128]⟩
abbrev S192x128 : Shape := ⟨2, ![192, 128]⟩
abbrev S3x128x128 : Shape := ⟨3, ![3, 128, 128]⟩
abbrev S384x128 : Shape := ⟨2, ![384, 128]⟩
abbrev S1x1x32 : Shape := ⟨3, ![1, 1, 32]⟩
abbrev S1x1x64 : Shape := ⟨3, ![1, 1, 64]⟩
abbrev S500x1000x64 : Shape := ⟨3, ![500, 1000, 64]⟩
abbrev S50x1x64 : Shape := ⟨3, ![50, 1, 64]⟩
abbrev S10x1000x32 : Shape := ⟨3, ![10, 1000, 32]⟩
abbrev S10x1000x64 : Shape := ⟨3, ![10, 1000, 64]⟩
abbrev S10000x32 : Shape := ⟨2, ![10000, 32]⟩
abbrev S32x64 : Shape := ⟨2, ![32, 64]⟩
abbrev S10000x64 : Shape := ⟨2, ![10000, 64]⟩
abbrev S10x998x64 : Shape := ⟨3, ![10, 998, 64]⟩
abbrev S1x998x1 : Shape := ⟨3, ![1, 998, 1]⟩
abbrev S10x2x64 : Shape := ⟨3, ![10, 2, 64]⟩
abbrev S1x64 : Shape := ⟨2, ![1, 64]⟩
abbrev S1x1x128 : Shape := ⟨3, ![1, 1, 128]⟩
abbrev S500x1000x128 : Shape := ⟨3, ![500, 1000, 128]⟩
abbrev S50x1x128 : Shape := ⟨3, ![50, 1, 128]⟩
abbrev S10x1000x128 : Shape := ⟨3, ![10, 1000, 128]⟩
abbrev S1x1000x1 : Shape := ⟨3, ![1, 1000, 1]⟩
abbrev S64x128 : Shape := ⟨2, ![64, 128]⟩
abbrev S10000x128 : Shape := ⟨2, ![10000, 128]⟩
abbrev S10x998x128 : Shape := ⟨3, ![10, 998, 128]⟩
abbrev S10x2x128 : Shape := ⟨3, ![10, 2, 128]⟩
abbrev S128x128 : Shape := ⟨2, ![128, 128]⟩
abbrev S50x10x128 : Shape := ⟨3, ![50, 10, 128]⟩
abbrev S1x10x128 : Shape := ⟨3, ![1, 10, 128]⟩
abbrev S10x128 : Shape := ⟨2, ![10, 128]⟩
abbrev S64x7 : Shape := ⟨2, ![64, 7]⟩
abbrev S64x8 : Shape := ⟨2, ![64, 8]⟩
abbrev S500x8 : Shape := ⟨2, ![500, 8]⟩
abbrev S500x64 : Shape := ⟨2, ![500, 64]⟩
abbrev S1x1 : Shape := ⟨2, ![1, 1]⟩

abbrev nBuf : Space → Nat
  | .hbm => 159
  | .vmem => 58
  | .smem => 0
  | _ => 0

abbrev hbmTy0_0 (i : Nat) : BufTy := match i % 128 with
  | 0 => ⟨S500x128, .f32⟩
  | 1 => ⟨S500, .f32⟩
  | 2 => ⟨S500x1000, .i32⟩
  | 3 => ⟨S128, .f32⟩
  | 4 => ⟨S128, .f32⟩
  | 5 => ⟨S22x32, .f32⟩
  | 6 => ⟨S64x32x3, .f32⟩
  | 7 => ⟨S64, .f32⟩
  | 8 => ⟨S64, .f32⟩
  | 9 => ⟨S64, .f32⟩
  | 10 => ⟨S128x64x3, .f32⟩
  | 11 => ⟨S128, .f32⟩
  | 12 => ⟨S128, .f32⟩
  | 13 => ⟨S128, .f32⟩
  | 14 => ⟨S128x128x3, .f32⟩
  | 15 => ⟨S128, .f32⟩
  | 16 => ⟨S128, .f32⟩
  | 17 => ⟨S128, .f32⟩
  | 18 => ⟨S256x128, .f32⟩
  | 19 => ⟨S128, .f32⟩
  | 20 => ⟨S128, .f32⟩
  | 21 => ⟨S128, .f32⟩
  | 22 => ⟨S128x64, .f32⟩
  | 23 => ⟨S64, .f32⟩
  | 24 => ⟨S64, .f32⟩
  | 25 => ⟨S64, .f32⟩
  | 26 => ⟨S64x1, .f32⟩
  | 27 => ⟨S1, .f32⟩
  | 28 => ⟨S_, .f32⟩
  | 29 => ⟨S_, .f32⟩
  | 30 => ⟨S500, .f32⟩
  | 31 => ⟨S500, .f32⟩
  | 32 => ⟨S_, .f32⟩
  | 33 => ⟨S500, .f32⟩
  | 34 => ⟨S500, .f32⟩
  | 35 => ⟨S500x1, .f32⟩
  | 36 => ⟨S_, .f32⟩
  | 37 => ⟨S1x128, .f32⟩
  | 38 => ⟨S500x128, .f32⟩
  | 39 => ⟨S500x128, .f32⟩
  | 40 => ⟨S500x128, .f32⟩
  | 41 => ⟨S_, .i32⟩
  | 42 => ⟨S500x1000, .i32⟩
  | 43 => ⟨S500x1000, .i1⟩
  | 44 => ⟨S_, .i32⟩
  | 45 => ⟨S500x1000, .i32⟩
  | 46 => ⟨S500x1000, .i32⟩
  | 47 => ⟨S500x1000, .i32⟩
  | 48 => ⟨S500x1000x1, .i32⟩
  | 49 => ⟨S500x1000x32, .f32⟩
  | 50 => ⟨S3x32x64, .f32⟩
  | 51 => ⟨S96x64, .f32⟩
  | 52 => ⟨S3x64x128, .f32⟩
  | 53 => ⟨S192x128, .f32⟩
  | 54 => ⟨S3x128x128, .f32⟩
  | 55 => ⟨S384x128, .f32⟩
  | 56 => ⟨S_, .f32⟩
  | 57 => ⟨S1x1x32, .f32⟩
  | 58 => ⟨S1x1x64, .f32⟩
  | 59 => ⟨S500x1000x64, .f32⟩
  | 60 => ⟨S50x1x64, .f32⟩
  | 61 => ⟨S50x1x64, .f32⟩
  | 62 => ⟨S_, .f32⟩
  | 63 => ⟨S1x64, .f32⟩
  | 64 => ⟨S_, .f32⟩
  | 65 => ⟨S1x64, .f32⟩
  | 66 => ⟨S1x64, .f32⟩
  | 67 => ⟨S_, .f32⟩
  | 68 => ⟨S1x64, .f32⟩
  | 69 => ⟨S_, .f32⟩
  | 70 => ⟨S1x64, .f32⟩
  | 71 => ⟨S1x64, .f32⟩
  | 72 => ⟨S1x64, .f32⟩
  | 73 => ⟨S1x64, .f32⟩
  | 74 => ⟨S_, .f32⟩
  | 75 => ⟨S1x64, .f32⟩
  | 76 => ⟨S1x64, .f32⟩
  | 77 => ⟨S1x64, .f32⟩
  | 78 => ⟨S1x64, .f32⟩
  | 79 => ⟨S1x64, .f32⟩
  | 80 => ⟨S1x64, .f32⟩
  | 81 => ⟨S1x64, .f32⟩
  | 82 => ⟨S1x64, .f32⟩
  | 83 => ⟨S1x1x128, .f32⟩
  | 84 => ⟨S1x1x64, .f32⟩
  | 85 => ⟨S1x1x64, .f32⟩
  | 86 => ⟨S500x1000x128, .f32⟩
  | 87 => ⟨S50x1x128, .f32⟩
  | 88 => ⟨S50x1x128, .f32⟩
  | 89 => ⟨S_, .f32⟩
  | 90 => ⟨S1x128, .f32⟩
  | 91 => ⟨S_, .f32⟩
  | 92 => ⟨S1x128, .f32⟩
  | 93 => ⟨S1x128, .f32⟩
  | 94 => ⟨S_, .f32⟩
  | 95 => ⟨S1x128, .f32⟩
  | 96 => ⟨S_, .f32⟩
  | 97 => ⟨S1x128, .f32⟩
  | 98 => ⟨S1x128, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S1x128, .f32⟩
  | 110 => ⟨S1x1x128, .f32⟩
  | 111 => ⟨S1x1x128, .f32⟩
  | 112 => ⟨S1x1x128, .f32⟩
  | 113 => ⟨S500x1000x128, .f32⟩
  | 114 => ⟨S50x1x128, .f32⟩
  | 115 => ⟨S50x1x128, .f32⟩
  | 116 => ⟨S_, .f32⟩
  | 117 => ⟨S1x128, .f32⟩
  | 118 => ⟨S_, .f32⟩
  | 119 => ⟨S1x128, .f32⟩
  | 120 => ⟨S1x128, .f32⟩
  | 121 => ⟨S_, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S500x128, .f32⟩

abbrev hbmTy0_1 (i : Nat) : BufTy := match i % 128 with
  | 0 => ⟨S_, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S1x1x128, .f32⟩
  | 10 => ⟨S1x1x128, .f32⟩
  | 11 => ⟨S50x10x128, .f32⟩
  | 12 => ⟨S500x128, .f32⟩
  | 13 => ⟨S_, .f32⟩
  | 14 => ⟨S64x7, .f32⟩
  | 15 => ⟨S64x8, .f32⟩
  | 16 => ⟨S1x128, .f32⟩
  | 17 => ⟨S1x128, .f32⟩
  | 18 => ⟨S128x128, .f32⟩
  | 19 => ⟨S128x128, .f32⟩
  | 20 => ⟨S1x128, .f32⟩
  | 21 => ⟨S1x128, .f32⟩
  | 22 => ⟨S1x128, .f32⟩
  | 23 => ⟨S1x64, .f32⟩
  | 24 => ⟨S1x64, .f32⟩
  | 25 => ⟨S1x64, .f32⟩
  | 26 => ⟨S500x8, .f32⟩
  | 27 => ⟨S500x1, .f32⟩
  | 28 => ⟨S1x1, .f32⟩
  | 29 => ⟨S500x1, .f32⟩
  | 30 => ⟨S500x1, .f32⟩
  | _ => ⟨S500x128, .f32⟩

abbrev hbmTy (i : Nat) : BufTy := match i / 128 with
  | 0 => hbmTy0_0 i
  | 1 => hbmTy0_1 i
  | _ => ⟨S500x128, .f32⟩

abbrev bufTy : (tb : Table) → Fin (tcTables nBuf tb) → BufTy
  | .hbm, ⟨i, _⟩ => hbmTy i
  | .local _ .vmem, ⟨0, _⟩ => ⟨S10x1000x32, .f32⟩
  | .local _ .vmem, ⟨1, _⟩ => ⟨S10x1000x32, .f32⟩
  | .local _ .vmem, ⟨2, _⟩ => ⟨S96x64, .f32⟩
  | .local _ .vmem, ⟨3, _⟩ => ⟨S1x1x64, .f32⟩
  | .local _ .vmem, ⟨4, _⟩ => ⟨S1x1x32, .f32⟩
  | .local _ .vmem, ⟨5, _⟩ => ⟨S1x1x32, .f32⟩
  | .local _ .vmem, ⟨6, _⟩ => ⟨S10x1000x64, .f32⟩
  | .local _ .vmem, ⟨7, _⟩ => ⟨S10x1000x64, .f32⟩
  | .local _ .vmem, ⟨8, _⟩ => ⟨S1x1x64, .f32⟩
  | .local _ .vmem, ⟨9, _⟩ => ⟨S1x1x64, .f32⟩
  | .local _ .vmem, ⟨10, _⟩ => ⟨S1x1x64, .f32⟩
  | .local _ .vmem, ⟨11, _⟩ => ⟨S1x1x64, .f32⟩
  | .local _ .vmem, ⟨12, _⟩ => ⟨S10x1000x64, .f32⟩
  | .local _ .vmem, ⟨13, _⟩ => ⟨S10x1000x64, .f32⟩
  | .local _ .vmem, ⟨14, _⟩ => ⟨S192x128, .f32⟩
  | .local _ .vmem, ⟨15, _⟩ => ⟨S1x1x128, .f32⟩
  | .local _ .vmem, ⟨16, _⟩ => ⟨S1x1x64, .f32⟩
  | .local _ .vmem, ⟨17, _⟩ => ⟨S1x1x64, .f32⟩
  | .local _ .vmem, ⟨18, _⟩ => ⟨S10x1000x128, .f32⟩
  | .local _ .vmem, ⟨19, _⟩ => ⟨S10x1000x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S10x1000x128, .f32⟩
  | .local _ .vmem, ⟨25, _⟩ => ⟨S10x1000x128, .f32⟩
  | .local _ .vmem, ⟨26, _⟩ => ⟨S384x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S10x1000x128, .f32⟩
  | .local _ .vmem, ⟨31, _⟩ => ⟨S10x1000x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S10x1000x128, .f32⟩
  | .local _ .vmem, ⟨37, _⟩ => ⟨S10x1000x128, .f32⟩
  | .local _ .vmem, ⟨38, _⟩ => ⟨S1x1x128, .f32⟩
  | .local _ .vmem, ⟨39, _⟩ => ⟨S1x1x128, .f32⟩
  | .local _ .vmem, ⟨40, _⟩ => ⟨S1x10x128, .f32⟩
  | .local _ .vmem, ⟨41, _⟩ => ⟨S1x10x128, .f32⟩
  | .local _ .vmem, ⟨42, _⟩ => ⟨S500x128, .f32⟩
  | .local _ .vmem, ⟨43, _⟩ => ⟨S500x128, .f32⟩
  | .local _ .vmem, ⟨44, _⟩ => ⟨S1x128, .f32⟩
  | .local _ .vmem, ⟨45, _⟩ => ⟨S1x128, .f32⟩
  | .local _ .vmem, ⟨46, _⟩ => ⟨S500x128, .f32⟩
  | .local _ .vmem, ⟨47, _⟩ => ⟨S128x128, .f32⟩
  | .local _ .vmem, ⟨48, _⟩ => ⟨S128x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x64, .f32⟩
  | .local _ .vmem, ⟨53, _⟩ => ⟨S1x64, .f32⟩
  | .local _ .vmem, ⟨54, _⟩ => ⟨S1x64, .f32⟩
  | .local _ .vmem, ⟨55, _⟩ => ⟨S1x64, .f32⟩
  | .local _ .vmem, ⟨56, _⟩ => ⟨S64x8, .f32⟩
  | .local _ .vmem, ⟨57, _⟩ => ⟨S500x8, .f32⟩
  | _, _ => ⟨S500x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_v0 : Ref sig .tc := ⟨.hbm, 31, rfl⟩
abbrev main_cst_0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_cst_1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_c : Ref sig .tc := ⟨.hbm, 41, rfl⟩
abbrev main_v8 : Ref sig .tc := ⟨.hbm, 42, rfl⟩
abbrev main_v9 : Ref sig .tc := ⟨.hbm, 43, rfl⟩
abbrev main_c_2 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_3 : Ref sig .tc := ⟨.hbm, 56, rfl⟩
abbrev main_v21 : Ref sig .tc := ⟨.hbm, 57, rfl⟩
abbrev main_v22 : Ref sig .tc := ⟨.hbm, 58, rfl⟩
abbrev main_v23_0 : Ref sig .tc := ⟨.hbm, 59, rfl⟩
abbrev main_v23_1 : Ref sig .tc := ⟨.hbm, 60, rfl⟩
abbrev main_v23_2 : Ref sig .tc := ⟨.hbm, 61, rfl⟩
abbrev main_cst_4 : Ref sig .tc := ⟨.hbm, 62, rfl⟩
abbrev main_v24 : Ref sig .tc := ⟨.hbm, 63, rfl⟩
abbrev main_cst_5 : Ref sig .tc := ⟨.hbm, 64, rfl⟩
abbrev main_v25 : Ref sig .tc := ⟨.hbm, 65, rfl⟩
abbrev main_v26 : Ref sig .tc := ⟨.hbm, 66, rfl⟩
abbrev main_cst_6 : Ref sig .tc := ⟨.hbm, 67, rfl⟩
abbrev main_v27 : Ref sig .tc := ⟨.hbm, 68, rfl⟩
abbrev main_cst_7 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_8 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43_0 : Ref sig .tc := ⟨.hbm, 86, rfl⟩
abbrev main_v43_1 : Ref sig .tc := ⟨.hbm, 87, rfl⟩
abbrev main_v43_2 : Ref sig .tc := ⟨.hbm, 88, rfl⟩
abbrev main_cst_9 : Ref sig .tc := ⟨.hbm, 89, rfl⟩
abbrev main_v44 : Ref sig .tc := ⟨.hbm, 90, rfl⟩
abbrev main_cst_10 : Ref sig .tc := ⟨.hbm, 91, rfl⟩
abbrev main_v45 : Ref sig .tc := ⟨.hbm, 92, rfl⟩
abbrev main_v46 : Ref sig .tc := ⟨.hbm, 93, rfl⟩
abbrev main_cst_11 : Ref sig .tc := ⟨.hbm, 94, rfl⟩
abbrev main_v47 : Ref sig .tc := ⟨.hbm, 95, rfl⟩
abbrev main_cst_12 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_13 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63_0 : Ref sig .tc := ⟨.hbm, 113, rfl⟩
abbrev main_v63_1 : Ref sig .tc := ⟨.hbm, 114, rfl⟩
abbrev main_v63_2 : Ref sig .tc := ⟨.hbm, 115, rfl⟩
abbrev main_cst_14 : Ref sig .tc := ⟨.hbm, 116, rfl⟩
abbrev main_v64 : Ref sig .tc := ⟨.hbm, 117, rfl⟩
abbrev main_cst_15 : Ref sig .tc := ⟨.hbm, 118, rfl⟩
abbrev main_v65 : Ref sig .tc := ⟨.hbm, 119, rfl⟩
abbrev main_v66 : Ref sig .tc := ⟨.hbm, 120, rfl⟩
abbrev main_cst_16 : Ref sig .tc := ⟨.hbm, 121, rfl⟩
abbrev main_v67 : Ref sig .tc := ⟨.hbm, 122, rfl⟩
abbrev main_cst_17 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_18 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_19 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg3_1 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg8_0 : Ref sig .tc := ⟨.vmem, 50, rfl⟩
abbrev cc4_stg9_0 : Ref sig .tc := ⟨.vmem, 51, rfl⟩
abbrev cc4_stg10_0 : Ref sig .tc := ⟨.vmem, 52, rfl⟩
abbrev cc4_stg11_0 : Ref sig .tc := ⟨.vmem, 53, rfl⟩
abbrev cc4_stg12_0 : Ref sig .tc := ⟨.vmem, 54, rfl⟩
abbrev cc4_stg13_0 : Ref sig .tc := ⟨.vmem, 55, rfl⟩
abbrev cc4_stg14_0 : Ref sig .tc := ⟨.vmem, 56, rfl⟩
abbrev cc4_stg15_0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem3_1 : DmaSem sig := 41
abbrev cc4_sem0_0 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem8_0 : DmaSem sig := 50
abbrev cc4_sem9_0 : DmaSem sig := 51
abbrev cc4_sem10_0 : DmaSem sig := 52
abbrev cc4_sem11_0 : DmaSem sig := 53
abbrev cc4_sem12_0 : DmaSem sig := 54
abbrev cc4_sem13_0 : DmaSem sig := 55
abbrev cc4_sem14_0 : DmaSem sig := 56
abbrev cc4_sem15_0 : DmaSem sig := 57

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x1000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10x1000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10x1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10x1000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10x1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10x1000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S10x1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x10x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

abbrev stage4_0 : Fin 1 → Memref sig .tc .vmem S500x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S500x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S500x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S128x64 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev stage4_11 : Fin 1 → Memref sig .tc .vmem S1x64 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))

abbrev stage4_12 : Fin 1 → Memref sig .tc .vmem S1x64 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))

abbrev stage4_13 : Fin 1 → Memref sig .tc .vmem S1x64 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))

abbrev stage4_14 : Fin 1 → Memref sig .tc .vmem S64x8 .f32 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))

abbrev stage4_15 : Fin 1 → Memref sig .tc .vmem S500x8 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
-- ==== ReferenceIdeal.lean ====
abbrev S500x128 : Shape := ⟨2, ![500, 128]⟩
abbrev S500 : Shape := ⟨1, ![500]⟩
abbrev S500x1000 : Shape := ⟨2, ![500, 1000]⟩
abbrev S128 : Shape := ⟨1, ![128]⟩
abbrev S22x32 : Shape := ⟨2, ![22, 32]⟩
abbrev S64x32x3 : Shape := ⟨3, ![64, 32, 3]⟩
abbrev S64 : Shape := ⟨1, ![64]⟩
abbrev S128x64x3 : Shape := ⟨3, ![128, 64, 3]⟩
abbrev S128x128x3 : Shape := ⟨3, ![128, 128, 3]⟩
abbrev S256x128 : Shape := ⟨2, ![256, 128]⟩
abbrev S128x64 : Shape := ⟨2, ![128, 64]⟩
abbrev S64x1 : Shape := ⟨2, ![64, 1]⟩
abbrev S1 : Shape := ⟨1, ![1]⟩
abbrev S_ : Shape := ⟨0, ![]⟩
abbrev S500x1 : Shape := ⟨2, ![500, 1]⟩
abbrev S1x128 : Shape := ⟨2, ![1, 128]⟩
abbrev S500x1000x1 : Shape := ⟨3, ![500, 1000, 1]⟩
abbrev S500x1000x32 : Shape := ⟨3, ![500, 1000, 32]⟩
abbrev S500x32x1000 : Shape := ⟨3, ![500, 32, 1000]⟩
abbrev S64x32x1 : Shape := ⟨3, ![64, 32, 1]⟩
abbrev S64x32 : Shape := ⟨2, ![64, 32]⟩
abbrev S500x32x998 : Shape := ⟨3, ![500, 32, 998]⟩
abbrev S500x998x64 : Shape := ⟨3, ![500, 998, 64]⟩
abbrev S500x64x998 : Shape := ⟨3, ![500, 64, 998]⟩
abbrev S1x64x1 : Shape := ⟨3, ![1, 64, 1]⟩
abbrev S128x64x1 : Shape := ⟨3, ![128, 64, 1]⟩
abbrev S500x64x996 : Shape := ⟨3, ![500, 64, 996]⟩
abbrev S500x996x128 : Shape := ⟨3, ![500, 996, 128]⟩
abbrev S500x128x996 : Shape := ⟨3, ![500, 128, 996]⟩
abbrev S1x128x1 : Shape := ⟨3, ![1, 128, 1]⟩
abbrev S128x128x1 : Shape := ⟨3, ![128, 128, 1]⟩
abbrev S128x128 : Shape := ⟨2, ![128, 128]⟩
abbrev S500x128x994 : Shape := ⟨3, ![500, 128, 994]⟩
abbrev S500x994x128 : Shape := ⟨3, ![500, 994, 128]⟩
abbrev S500x256 : Shape := ⟨2, ![500, 256]⟩
abbrev S500x64 : Shape := ⟨2, ![500, 64]⟩
abbrev S1x64 : Shape := ⟨2, ![1, 64]⟩
abbrev S1x1 : Shape := ⟨2, ![1, 1]⟩

abbrev nBuf : Space → Nat
  | .hbm => 408
  | .vmem => 0
  | .smem => 0
  | _ => 0

abbrev hbmTy0_0 (i : Nat) : BufTy := match i % 128 with
  | 0 => ⟨S500x128, .f32⟩
  | 1 => ⟨S500, .f32⟩
  | 2 => ⟨S500x1000, .i32⟩
  | 3 => ⟨S128, .f32⟩
  | 4 => ⟨S128, .f32⟩
  | 5 => ⟨S22x32, .f32⟩
  | 6 => ⟨S64x32x3, .f32⟩
  | 7 => ⟨S64, .f32⟩
  | 8 => ⟨S64, .f32⟩
  | 9 => ⟨S64, .f32⟩
  | 10 => ⟨S128x64x3, .f32⟩
  | 11 => ⟨S128, .f32⟩
  | 12 => ⟨S128, .f32⟩
  | 13 => ⟨S128, .f32⟩
  | 14 => ⟨S128x128x3, .f32⟩
  | 15 => ⟨S128, .f32⟩
  | 16 => ⟨S128, .f32⟩
  | 17 => ⟨S128, .f32⟩
  | 18 => ⟨S256x128, .f32⟩
  | 19 => ⟨S128, .f32⟩
  | 20 => ⟨S128, .f32⟩
  | 21 => ⟨S128, .f32⟩
  | 22 => ⟨S128x64, .f32⟩
  | 23 => ⟨S64, .f32⟩
  | 24 => ⟨S64, .f32⟩
  | 25 => ⟨S64, .f32⟩
  | 26 => ⟨S64x1, .f32⟩
  | 27 => ⟨S1, .f32⟩
  | 28 => ⟨S_, .f32⟩
  | 29 => ⟨S_, .f32⟩
  | 30 => ⟨S500, .f32⟩
  | 31 => ⟨S500, .f32⟩
  | 32 => ⟨S500x1, .f32⟩
  | 33 => ⟨S500x128, .f32⟩
  | 34 => ⟨S500x128, .f32⟩
  | 35 => ⟨S_, .f32⟩
  | 36 => ⟨S128, .f32⟩
  | 37 => ⟨S1x128, .f32⟩
  | 38 => ⟨S_, .f32⟩
  | 39 => ⟨S1x128, .f32⟩
  | 40 => ⟨S1x128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S500x128, .f32⟩
  | 49 => ⟨S500x128, .f32⟩
  | 50 => ⟨S500x128, .f32⟩
  | 51 => ⟨S_, .f32⟩
  | 52 => ⟨S_, .f32⟩
  | 53 => ⟨S_, .f32⟩
  | 54 => ⟨S_, .f32⟩
  | 55 => ⟨S128, .f32⟩
  | 56 => ⟨S1x128, .f32⟩
  | 57 => ⟨S1x128, .f32⟩
  | 58 => ⟨S1x128, .f32⟩
  | 59 => ⟨S_, .f32⟩
  | 60 => ⟨S_, .i1⟩
  | 61 => ⟨S_, .f32⟩
  | 62 => ⟨S_, .f32⟩
  | 63 => ⟨S1x128, .f32⟩
  | 64 => ⟨S1x128, .f32⟩
  | 65 => ⟨S1x128, .f32⟩
  | 66 => ⟨S500x128, .f32⟩
  | 67 => ⟨S500x128, .f32⟩
  | 68 => ⟨S500x128, .f32⟩
  | 69 => ⟨S500x128, .f32⟩
  | 70 => ⟨S_, .f32⟩
  | 71 => ⟨S1x128, .f32⟩
  | 72 => ⟨S1x128, .f32⟩
  | 73 => ⟨S1x128, .f32⟩
  | 74 => ⟨S500x128, .f32⟩
  | 75 => ⟨S500x128, .f32⟩
  | 76 => ⟨S1x128, .f32⟩
  | 77 => ⟨S500x128, .f32⟩
  | 78 => ⟨S500x128, .f32⟩
  | 79 => ⟨S_, .i32⟩
  | 80 => ⟨S500x1000, .i32⟩
  | 81 => ⟨S500x1000, .i1⟩
  | 82 => ⟨S_, .i32⟩
  | 83 => ⟨S500x1000, .i32⟩
  | 84 => ⟨S500x1000, .i32⟩
  | 85 => ⟨S500x1000, .i32⟩
  | 86 => ⟨S500x1000x1, .i32⟩
  | 87 => ⟨S500x1000x32, .f32⟩
  | 88 => ⟨S500x32x1000, .f32⟩
  | 89 => ⟨S64x32x1, .f32⟩
  | 90 => ⟨S64x32, .f32⟩
  | 91 => ⟨S500x32x998, .f32⟩
  | 92 => ⟨S500x998x64, .f32⟩
  | 93 => ⟨S500x64x998, .f32⟩
  | 94 => ⟨S_, .f32⟩
  | 95 => ⟨S500x64x998, .f32⟩
  | 96 => ⟨S500x64x998, .f32⟩
  | 97 => ⟨S64x32x1, .f32⟩
  | 98 => ⟨S64x32, .f32⟩
  | 99 => ⟨S500x32x998, .f32⟩
  | 100 => ⟨S500x998x64, .f32⟩
  | 101 => ⟨S500x64x998, .f32⟩
  | 102 => ⟨S500x64x998, .f32⟩
  | 103 => ⟨S64x32x1, .f32⟩
  | 104 => ⟨S64x32, .f32⟩
  | 105 => ⟨S500x32x998, .f32⟩
  | 106 => ⟨S500x998x64, .f32⟩
  | 107 => ⟨S500x64x998, .f32⟩
  | 108 => ⟨S500x64x998, .f32⟩
  | 109 => ⟨S1x64x1, .f32⟩
  | 110 => ⟨S500x64x998, .f32⟩
  | 111 => ⟨S500x64x998, .f32⟩
  | 112 => ⟨S_, .f32⟩
  | 113 => ⟨S64, .f32⟩
  | 114 => ⟨S1x64x1, .f32⟩
  | 115 => ⟨S_, .f32⟩
  | 116 => ⟨S1x64x1, .f32⟩
  | 117 => ⟨S1x64x1, .f32⟩
  | 118 => ⟨S_, .i32⟩
  | 119 => ⟨S_, .f32⟩
  | 120 => ⟨S64, .f32⟩
  | 121 => ⟨S1x64x1, .f32⟩
  | 122 => ⟨S_, .f32⟩
  | 123 => ⟨S1x64x1, .f32⟩
  | 124 => ⟨S1x64x1, .f32⟩
  | 125 => ⟨S500x64x998, .f32⟩
  | 126 => ⟨S500x64x998, .f32⟩
  | 127 => ⟨S500x64x998, .f32⟩
  | _ => ⟨S500x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S64, .f32⟩
  | 5 => ⟨S1x64x1, .f32⟩
  | 6 => ⟨S1x64x1, .f32⟩
  | 7 => ⟨S1x64x1, .f32⟩
  | 8 => ⟨S_, .f32⟩
  | 9 => ⟨S_, .i1⟩
  | 10 => ⟨S_, .f32⟩
  | 11 => ⟨S_, .f32⟩
  | 12 => ⟨S1x64x1, .f32⟩
  | 13 => ⟨S1x64x1, .f32⟩
  | 14 => ⟨S1x64x1, .f32⟩
  | 15 => ⟨S500x64x998, .f32⟩
  | 16 => ⟨S500x64x998, .f32⟩
  | 17 => ⟨S500x64x998, .f32⟩
  | 18 => ⟨S500x64x998, .f32⟩
  | 19 => ⟨S_, .f32⟩
  | 20 => ⟨S1x64x1, .f32⟩
  | 21 => ⟨S1x64x1, .f32⟩
  | 22 => ⟨S1x64x1, .f32⟩
  | 23 => ⟨S500x64x998, .f32⟩
  | 24 => ⟨S500x64x998, .f32⟩
  | 25 => ⟨S1x64x1, .f32⟩
  | 26 => ⟨S500x64x998, .f32⟩
  | 27 => ⟨S500x64x998, .f32⟩
  | 28 => ⟨S_, .f32⟩
  | 29 => ⟨S500x64x998, .f32⟩
  | 30 => ⟨S500x64x998, .f32⟩
  | 31 => ⟨S128x64x1, .f32⟩
  | 32 => ⟨S128x64, .f32⟩
  | 33 => ⟨S500x64x996, .f32⟩
  | 34 => ⟨S500x996x128, .f32⟩
  | 35 => ⟨S500x128x996, .f32⟩
  | 36 => ⟨S_, .f32⟩
  | 37 => ⟨S500x128x996, .f32⟩
  | 38 => ⟨S500x128x996, .f32⟩
  | 39 => ⟨S128x64x1, .f32⟩
  | 40 => ⟨S128x64, .f32⟩
  | 41 => ⟨S500x64x996, .f32⟩
  | 42 => ⟨S500x996x128, .f32⟩
  | 43 => ⟨S500x128x996, .f32⟩
  | 44 => ⟨S500x128x996, .f32⟩
  | 45 => ⟨S128x64x1, .f32⟩
  | 46 => ⟨S128x64, .f32⟩
  | 47 => ⟨S500x64x996, .f32⟩
  | 48 => ⟨S500x996x128, .f32⟩
  | 49 => ⟨S500x128x996, .f32⟩
  | 50 => ⟨S500x128x996, .f32⟩
  | 51 => ⟨S1x128x1, .f32⟩
  | 52 => ⟨S500x128x996, .f32⟩
  | 53 => ⟨S500x128x996, .f32⟩
  | 54 => ⟨S_, .f32⟩
  | 55 => ⟨S128, .f32⟩
  | 56 => ⟨S1x128x1, .f32⟩
  | 57 => ⟨S_, .f32⟩
  | 58 => ⟨S1x128x1, .f32⟩
  | 59 => ⟨S1x128x1, .f32⟩
  | 60 => ⟨S_, .i32⟩
  | 61 => ⟨S_, .f32⟩
  | 62 => ⟨S128, .f32⟩
  | 63 => ⟨S1x128x1, .f32⟩
  | 64 => ⟨S_, .f32⟩
  | 65 => ⟨S1x128x1, .f32⟩
  | 66 => ⟨S1x128x1, .f32⟩
  | 67 => ⟨S500x128x996, .f32⟩
  | 68 => ⟨S500x128x996, .f32⟩
  | 69 => ⟨S500x128x996, .f32⟩
  | 70 => ⟨S_, .f32⟩
  | 71 => ⟨S_, .f32⟩
  | 72 => ⟨S_, .f32⟩
  | 73 => ⟨S_, .f32⟩
  | 74 => ⟨S128, .f32⟩
  | 75 => ⟨S1x128x1, .f32⟩
  | 76 => ⟨S1x128x1, .f32⟩
  | 77 => ⟨S1x128x1, .f32⟩
  | 78 => ⟨S_, .f32⟩
  | 79 => ⟨S_, .i1⟩
  | 80 => ⟨S_, .f32⟩
  | 81 => ⟨S_, .f32⟩
  | 82 => ⟨S1x128x1, .f32⟩
  | 83 => ⟨S1x128x1, .f32⟩
  | 84 => ⟨S1x128x1, .f32⟩
  | 85 => ⟨S500x128x996, .f32⟩
  | 86 => ⟨S500x128x996, .f32⟩
  | 87 => ⟨S500x128x996, .f32⟩
  | 88 => ⟨S500x128x996, .f32⟩
  | 89 => ⟨S_, .f32⟩
  | 90 => ⟨S1x128x1, .f32⟩
  | 91 => ⟨S1x128x1, .f32⟩
  | 92 => ⟨S1x128x1, .f32⟩
  | 93 => ⟨S500x128x996, .f32⟩
  | 94 => ⟨S500x128x996, .f32⟩
  | 95 => ⟨S1x128x1, .f32⟩
  | 96 => ⟨S500x128x996, .f32⟩
  | 97 => ⟨S500x128x996, .f32⟩
  | 98 => ⟨S_, .f32⟩
  | 99 => ⟨S500x128x996, .f32⟩
  | 100 => ⟨S500x128x996, .f32⟩
  | 101 => ⟨S128x128x1, .f32⟩
  | 102 => ⟨S128x128, .f32⟩
  | 103 => ⟨S500x128x994, .f32⟩
  | 104 => ⟨S500x994x128, .f32⟩
  | 105 => ⟨S500x128x994, .f32⟩
  | 106 => ⟨S_, .f32⟩
  | 107 => ⟨S500x128x994, .f32⟩
  | 108 => ⟨S500x128x994, .f32⟩
  | 109 => ⟨S128x128x1, .f32⟩
  | 110 => ⟨S128x128, .f32⟩
  | 111 => ⟨S500x128x994, .f32⟩
  | 112 => ⟨S500x994x128, .f32⟩
  | 113 => ⟨S500x128x994, .f32⟩
  | 114 => ⟨S500x128x994, .f32⟩
  | 115 => ⟨S128x128x1, .f32⟩
  | 116 => ⟨S128x128, .f32⟩
  | 117 => ⟨S500x128x994, .f32⟩
  | 118 => ⟨S500x994x128, .f32⟩
  | 119 => ⟨S500x128x994, .f32⟩
  | 120 => ⟨S500x128x994, .f32⟩
  | 121 => ⟨S1x128x1, .f32⟩
  | 122 => ⟨S500x128x994, .f32⟩
  | 123 => ⟨S500x128x994, .f32⟩
  | 124 => ⟨S_, .f32⟩
  | 125 => ⟨S128, .f32⟩
  | 126 => ⟨S1x128x1, .f32⟩
  | 127 => ⟨S_, .f32⟩
  | _ => ⟨S500x128, .f32⟩

abbrev hbmTy0_2 (i : Nat) : BufTy := match i % 128 with
  | 0 => ⟨S1x128x1, .f32⟩
  | 1 => ⟨S1x128x1, .f32⟩
  | 2 => ⟨S_, .i32⟩
  | 3 => ⟨S_, .f32⟩
  | 4 => ⟨S128, .f32⟩
  | 5 => ⟨S1x128x1, .f32⟩
  | 6 => ⟨S_, .f32⟩
  | 7 => ⟨S1x128x1, .f32⟩
  | 8 => ⟨S1x128x1, .f32⟩
  | 9 => ⟨S500x128x994, .f32⟩
  | 10 => ⟨S500x128x994, .f32⟩
  | 11 => ⟨S500x128x994, .f32⟩
  | 12 => ⟨S_, .f32⟩
  | 13 => ⟨S_, .f32⟩
  | 14 => ⟨S_, .f32⟩
  | 15 => ⟨S_, .f32⟩
  | 16 => ⟨S128, .f32⟩
  | 17 => ⟨S1x128x1, .f32⟩
  | 18 => ⟨S1x128x1, .f32⟩
  | 19 => ⟨S1x128x1, .f32⟩
  | 20 => ⟨S_, .f32⟩
  | 21 => ⟨S_, .i1⟩
  | 22 => ⟨S_, .f32⟩
  | 23 => ⟨S_, .f32⟩
  | 24 => ⟨S1x128x1, .f32⟩
  | 25 => ⟨S1x128x1, .f32⟩
  | 26 => ⟨S1x128x1, .f32⟩
  | 27 => ⟨S500x128x994, .f32⟩
  | 28 => ⟨S500x128x994, .f32⟩
  | 29 => ⟨S500x128x994, .f32⟩
  | 30 => ⟨S500x128x994, .f32⟩
  | 31 => ⟨S_, .f32⟩
  | 32 => ⟨S1x128x1, .f32⟩
  | 33 => ⟨S1x128x1, .f32⟩
  | 34 => ⟨S1x128x1, .f32⟩
  | 35 => ⟨S500x128x994, .f32⟩
  | 36 => ⟨S500x128x994, .f32⟩
  | 37 => ⟨S1x128x1, .f32⟩
  | 38 => ⟨S500x128x994, .f32⟩
  | 39 => ⟨S500x128x994, .f32⟩
  | 40 => ⟨S_, .f32⟩
  | 41 => ⟨S500x128x994, .f32⟩
  | 42 => ⟨S500x128x994, .f32⟩
  | 43 => ⟨S_, .f32⟩
  | 44 => ⟨S500x128, .f32⟩
  | 45 => ⟨S500x256, .f32⟩
  | 46 => ⟨S500x128, .f32⟩
  | 47 => ⟨S1x128, .f32⟩
  | 48 => ⟨S500x128, .f32⟩
  | 49 => ⟨S500x128, .f32⟩
  | 50 => ⟨S_, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S500x128, .f32⟩
  | 64 => ⟨S500x128, .f32⟩
  | 65 => ⟨S500x128, .f32⟩
  | 66 => ⟨S_, .f32⟩
  | 67 => ⟨S_, .f32⟩
  | 68 => ⟨S_, .f32⟩
  | 69 => ⟨S_, .f32⟩
  | 70 => ⟨S128, .f32⟩
  | 71 => ⟨S1x128, .f32⟩
  | 72 => ⟨S1x128, .f32⟩
  | 73 => ⟨S1x128, .f32⟩
  | 74 => ⟨S_, .f32⟩
  | 75 => ⟨S_, .i1⟩
  | 76 => ⟨S_, .f32⟩
  | 77 => ⟨S_, .f32⟩
  | 78 => ⟨S1x128, .f32⟩
  | 79 => ⟨S1x128, .f32⟩
  | 80 => ⟨S1x128, .f32⟩
  | 81 => ⟨S500x128, .f32⟩
  | 82 => ⟨S500x128, .f32⟩
  | 83 => ⟨S500x128, .f32⟩
  | 84 => ⟨S500x128, .f32⟩
  | 85 => ⟨S_, .f32⟩
  | 86 => ⟨S1x128, .f32⟩
  | 87 => ⟨S1x128, .f32⟩
  | 88 => ⟨S1x128, .f32⟩
  | 89 => ⟨S500x128, .f32⟩
  | 90 => ⟨S500x128, .f32⟩
  | 91 => ⟨S1x128, .f32⟩
  | 92 => ⟨S500x128, .f32⟩
  | 93 => ⟨S500x128, .f32⟩
  | 94 => ⟨S_, .f32⟩
  | 95 => ⟨S500x128, .f32⟩
  | 96 => ⟨S500x128, .f32⟩
  | 97 => ⟨S500x64, .f32⟩
  | 98 => ⟨S1x64, .f32⟩
  | 99 => ⟨S500x64, .f32⟩
  | 100 => ⟨S500x64, .f32⟩
  | 101 => ⟨S_, .f32⟩
  | 102 => ⟨S64, .f32⟩
  | 103 => ⟨S1x64, .f32⟩
  | 104 => ⟨S_, .f32⟩
  | 105 => ⟨S1x64, .f32⟩
  | 106 => ⟨S1x64, .f32⟩
  | 107 => ⟨S_, .i32⟩
  | 108 => ⟨S_, .f32⟩
  | 109 => ⟨S64, .f32⟩
  | 110 => ⟨S1x64, .f32⟩
  | 111 => ⟨S_, .f32⟩
  | 112 => ⟨S1x64, .f32⟩
  | 113 => ⟨S1x64, .f32⟩
  | 114 => ⟨S500x64, .f32⟩
  | 115 => ⟨S500x64, .f32⟩
  | 116 => ⟨S500x64, .f32⟩
  | 117 => ⟨S_, .f32⟩
  | 118 => ⟨S_, .f32⟩
  | 119 => ⟨S_, .f32⟩
  | 120 => ⟨S_, .f32⟩
  | 121 => ⟨S64, .f32⟩
  | 122 => ⟨S1x64, .f32⟩
  | 123 => ⟨S1x64, .f32⟩
  | 124 => ⟨S1x64, .f32⟩
  | 125 => ⟨S_, .f32⟩
  | 126 => ⟨S_, .i1⟩
  | 127 => ⟨S_, .f32⟩
  | _ => ⟨S500x128, .f32⟩

abbrev hbmTy0_3 (i : Nat) : BufTy := match i % 128 with
  | 0 => ⟨S_, .f32⟩
  | 1 => ⟨S1x64, .f32⟩
  | 2 => ⟨S1x64, .f32⟩
  | 3 => ⟨S1x64, .f32⟩
  | 4 => ⟨S500x64, .f32⟩
  | 5 => ⟨S500x64, .f32⟩
  | 6 => ⟨S500x64, .f32⟩
  | 7 => ⟨S500x64, .f32⟩
  | 8 => ⟨S_, .f32⟩
  | 9 => ⟨S1x64, .f32⟩
  | 10 => ⟨S1x64, .f32⟩
  | 11 => ⟨S1x64, .f32⟩
  | 12 => ⟨S500x64, .f32⟩
  | 13 => ⟨S500x64, .f32⟩
  | 14 => ⟨S1x64, .f32⟩
  | 15 => ⟨S500x64, .f32⟩
  | 16 => ⟨S500x64, .f32⟩
  | 17 => ⟨S_, .f32⟩
  | 18 => ⟨S500x64, .f32⟩
  | 19 => ⟨S500x64, .f32⟩
  | 20 => ⟨S500x1, .f32⟩
  | 21 => ⟨S1x1, .f32⟩
  | 22 => ⟨S500x1, .f32⟩
  | 23 => ⟨S500x1, .f32⟩
  | _ => ⟨S500x128, .f32⟩

abbrev hbmTy (i : Nat) : BufTy := match i / 128 with
  | 0 => hbmTy0_0 i
  | 1 => hbmTy0_1 i
  | 2 => hbmTy0_2 i
  | 3 => hbmTy0_3 i
  | _ => ⟨S500x128, .f32⟩

abbrev bufTy : (tb : Table) → Fin (tcTables nBuf tb) → BufTy
  | .hbm, ⟨i, _⟩ => hbmTy i
  | _, _ => ⟨S500x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_cst_1 : Ref sig .tc := ⟨.hbm, 38, rfl⟩
abbrev main_v6 : Ref sig .tc := ⟨.hbm, 39, rfl⟩
abbrev main_v7 : Ref sig .tc := ⟨.hbm, 40, rfl⟩
abbrev main_c : Ref sig .tc := ⟨.hbm, 41, rfl⟩
abbrev main_call1_cst : Ref sig .tc := ⟨.hbm, 42, rfl⟩
abbrev main_call1_v0 : Ref sig .tc := ⟨.hbm, 43, rfl⟩
abbrev main_call1_v1 : Ref sig .tc := ⟨.hbm, 44, rfl⟩
abbrev main_call1_cst_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_cst_1 : Ref sig .tc := ⟨.hbm, 52, rfl⟩
abbrev main_call1_v8 : Ref sig .tc := ⟨.hbm, 53, rfl⟩
abbrev main_call1_cst_2 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_v12 : Ref sig .tc := ⟨.hbm, 58, rfl⟩
abbrev main_call1_cst_3 : Ref sig .tc := ⟨.hbm, 59, rfl⟩
abbrev main_call1_v13 : Ref sig .tc := ⟨.hbm, 60, rfl⟩
abbrev main_call1_cst_4 : Ref sig .tc := ⟨.hbm, 61, rfl⟩
abbrev main_call1_call0_v0 : Ref sig .tc := ⟨.hbm, 62, rfl⟩
abbrev main_call1_call0_v1 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_cst_2 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_c_3 : Ref sig .tc := ⟨.hbm, 79, rfl⟩
abbrev main_v22 : Ref sig .tc := ⟨.hbm, 80, rfl⟩
abbrev main_v23 : Ref sig .tc := ⟨.hbm, 81, rfl⟩
abbrev main_c_4 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_cst_5 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_cst_6 : Ref sig .tc := ⟨.hbm, 112, rfl⟩
abbrev main_v52 : Ref sig .tc := ⟨.hbm, 113, rfl⟩
abbrev main_v53 : Ref sig .tc := ⟨.hbm, 114, rfl⟩
abbrev main_cst_7 : Ref sig .tc := ⟨.hbm, 115, rfl⟩
abbrev main_v54 : Ref sig .tc := ⟨.hbm, 116, rfl⟩
abbrev main_v55 : Ref sig .tc := ⟨.hbm, 117, rfl⟩
abbrev main_c_8 : Ref sig .tc := ⟨.hbm, 118, rfl⟩
abbrev main_call2_cst : Ref sig .tc := ⟨.hbm, 119, rfl⟩
abbrev main_call2_v0 : Ref sig .tc := ⟨.hbm, 120, rfl⟩
abbrev main_call2_v1 : Ref sig .tc := ⟨.hbm, 121, rfl⟩
abbrev main_call2_cst_0 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_call2_v5 : Ref sig .tc := ⟨.hbm, 126, rfl⟩
abbrev main_call2_v6 : Ref sig .tc := ⟨.hbm, 127, rfl⟩
abbrev main_call2_v7 : Ref sig .tc := ⟨.hbm, 128, rfl⟩
abbrev main_call2_cst_1 : Ref sig .tc := ⟨.hbm, 129, rfl⟩
abbrev main_call2_v8 : Ref sig .tc := ⟨.hbm, 130, rfl⟩
abbrev main_call2_cst_2 : Ref sig .tc := ⟨.hbm, 131, rfl⟩
abbrev main_call2_v9 : Ref sig .tc := ⟨.hbm, 132, rfl⟩
abbrev main_call2_v10 : Ref sig .tc := ⟨.hbm, 133, rfl⟩
abbrev main_call2_v11 : Ref sig .tc := ⟨.hbm, 134, rfl⟩
abbrev main_call2_v12 : Ref sig .tc := ⟨.hbm, 135, rfl⟩
abbrev main_call2_cst_3 : Ref sig .tc := ⟨.hbm, 136, rfl⟩
abbrev main_call2_v13 : Ref sig .tc := ⟨.hbm, 137, rfl⟩
abbrev main_call2_cst_4 : Ref sig .tc := ⟨.hbm, 138, rfl⟩
abbrev main_call2_call0_v0 : Ref sig .tc := ⟨.hbm, 139, rfl⟩
abbrev main_call2_call0_v1 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_cst_9 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_call3_cst : Ref sig .tc := ⟨.hbm, 156, rfl⟩
abbrev main_call3_v0 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_cst_10 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_cst_11 : Ref sig .tc := ⟨.hbm, 182, rfl⟩
abbrev main_v93 : Ref sig .tc := ⟨.hbm, 183, rfl⟩
abbrev main_v94 : Ref sig .tc := ⟨.hbm, 184, rfl⟩
abbrev main_cst_12 : Ref sig .tc := ⟨.hbm, 185, rfl⟩
abbrev main_v95 : Ref sig .tc := ⟨.hbm, 186, rfl⟩
abbrev main_v96 : Ref sig .tc := ⟨.hbm, 187, rfl⟩
abbrev main_c_13 : Ref sig .tc := ⟨.hbm, 188, rfl⟩
abbrev main_call4_cst : Ref sig .tc := ⟨.hbm, 189, rfl⟩
abbrev main_call4_v0 : Ref sig .tc := ⟨.hbm, 190, rfl⟩
abbrev main_call4_v1 : Ref sig .tc := ⟨.hbm, 191, rfl⟩
abbrev main_call4_cst_0 : Ref sig .tc := ⟨.hbm, 192, rfl⟩
abbrev main_call4_v2 : Ref sig .tc := ⟨.hbm, 193, rfl⟩
abbrev main_call4_v3 : Ref sig .tc := ⟨.hbm, 194, rfl⟩
abbrev main_call4_v4 : Ref sig .tc := ⟨.hbm, 195, rfl⟩
abbrev main_call4_v5 : Ref sig .tc := ⟨.hbm, 196, rfl⟩
abbrev main_call4_v6 : Ref sig .tc := ⟨.hbm, 197, rfl⟩
abbrev main_call4_v7 : Ref sig .tc := ⟨.hbm, 198, rfl⟩
abbrev main_call4_cst_1 : Ref sig .tc := ⟨.hbm, 199, rfl⟩
abbrev main_call4_v8 : Ref sig .tc := ⟨.hbm, 200, rfl⟩
abbrev main_call4_cst_2 : Ref sig .tc := ⟨.hbm, 201, rfl⟩
abbrev main_call4_v9 : Ref sig .tc := ⟨.hbm, 202, rfl⟩
abbrev main_call4_v10 : Ref sig .tc := ⟨.hbm, 203, rfl⟩
abbrev main_call4_v11 : Ref sig .tc := ⟨.hbm, 204, rfl⟩
abbrev main_call4_v12 : Ref sig .tc := ⟨.hbm, 205, rfl⟩
abbrev main_call4_cst_3 : Ref sig .tc := ⟨.hbm, 206, rfl⟩
abbrev main_call4_v13 : Ref sig .tc := ⟨.hbm, 207, rfl⟩
abbrev main_call4_cst_4 : Ref sig .tc := ⟨.hbm, 208, rfl⟩
abbrev main_call4_call0_v0 : Ref sig .tc := ⟨.hbm, 209, rfl⟩
abbrev main_call4_call0_v1 : Ref sig .tc := ⟨.hbm, 210, rfl⟩
abbrev main_v97 : Ref sig .tc := ⟨.hbm, 211, rfl⟩
abbrev main_v98 : Ref sig .tc := ⟨.hbm, 212, rfl⟩
abbrev main_v99 : Ref sig .tc := ⟨.hbm, 213, rfl⟩
abbrev main_v100 : Ref sig .tc := ⟨.hbm, 214, rfl⟩
abbrev main_v101 : Ref sig .tc := ⟨.hbm, 215, rfl⟩
abbrev main_v102 : Ref sig .tc := ⟨.hbm, 216, rfl⟩
abbrev main_cst_14 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_v110 : Ref sig .tc := ⟨.hbm, 225, rfl⟩
abbrev main_call5_cst : Ref sig .tc := ⟨.hbm, 226, rfl⟩
abbrev main_call5_v0 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_v114 : Ref sig .tc := ⟨.hbm, 231, rfl⟩
abbrev main_v115 : Ref sig .tc := ⟨.hbm, 232, rfl⟩
abbrev main_v116 : Ref sig .tc := ⟨.hbm, 233, rfl⟩
abbrev main_cst_15 : Ref sig .tc := ⟨.hbm, 234, rfl⟩
abbrev main_v117 : Ref sig .tc := ⟨.hbm, 235, rfl⟩
abbrev main_v118 : Ref sig .tc := ⟨.hbm, 236, rfl⟩
abbrev main_v119 : Ref sig .tc := ⟨.hbm, 237, rfl⟩
abbrev main_v120 : Ref sig .tc := ⟨.hbm, 238, rfl⟩
abbrev main_v121 : Ref sig .tc := ⟨.hbm, 239, rfl⟩
abbrev main_v122 : Ref sig .tc := ⟨.hbm, 240, rfl⟩
abbrev main_v123 : Ref sig .tc := ⟨.hbm, 241, rfl⟩
abbrev main_v124 : Ref sig .tc := ⟨.hbm, 242, rfl⟩
abbrev main_v125 : Ref sig .tc := ⟨.hbm, 243, rfl⟩
abbrev main_v126 : Ref sig .tc := ⟨.hbm, 244, rfl⟩
abbrev main_v127 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_cst_16 : Ref sig .tc := ⟨.hbm, 252, rfl⟩
abbrev main_v134 : Ref sig .tc := ⟨.hbm, 253, rfl⟩
abbrev main_v135 : Ref sig .tc := ⟨.hbm, 254, rfl⟩
abbrev main_cst_17 : Ref sig .tc := ⟨.hbm, 255, rfl⟩
abbrev main_v136 : Ref sig .tc := ⟨.hbm, 256, rfl⟩
abbrev main_v137 : Ref sig .tc := ⟨.hbm, 257, rfl⟩
abbrev main_c_18 : Ref sig .tc := ⟨.hbm, 258, rfl⟩
abbrev main_call6_cst : Ref sig .tc := ⟨.hbm, 259, rfl⟩
abbrev main_call6_v0 : Ref sig .tc := ⟨.hbm, 260, rfl⟩
abbrev main_call6_v1 : Ref sig .tc := ⟨.hbm, 261, rfl⟩
abbrev main_call6_cst_0 : Ref sig .tc := ⟨.hbm, 262, rfl⟩
abbrev main_call6_v2 : Ref sig .tc := ⟨.hbm, 263, rfl⟩
abbrev main_call6_v3 : Ref sig .tc := ⟨.hbm, 264, rfl⟩
abbrev main_call6_v4 : Ref sig .tc := ⟨.hbm, 265, rfl⟩
abbrev main_call6_v5 : Ref sig .tc := ⟨.hbm, 266, rfl⟩
abbrev main_call6_v6 : Ref sig .tc := ⟨.hbm, 267, rfl⟩
abbrev main_call6_v7 : Ref sig .tc := ⟨.hbm, 268, rfl⟩
abbrev main_call6_cst_1 : Ref sig .tc := ⟨.hbm, 269, rfl⟩
abbrev main_call6_v8 : Ref sig .tc := ⟨.hbm, 270, rfl⟩
abbrev main_call6_cst_2 : Ref sig .tc := ⟨.hbm, 271, rfl⟩
abbrev main_call6_v9 : Ref sig .tc := ⟨.hbm, 272, rfl⟩
abbrev main_call6_v10 : Ref sig .tc := ⟨.hbm, 273, rfl⟩
abbrev main_call6_v11 : Ref sig .tc := ⟨.hbm, 274, rfl⟩
abbrev main_call6_v12 : Ref sig .tc := ⟨.hbm, 275, rfl⟩
abbrev main_call6_cst_3 : Ref sig .tc := ⟨.hbm, 276, rfl⟩
abbrev main_call6_v13 : Ref sig .tc := ⟨.hbm, 277, rfl⟩
abbrev main_call6_cst_4 : Ref sig .tc := ⟨.hbm, 278, rfl⟩
abbrev main_call6_call0_v0 : Ref sig .tc := ⟨.hbm, 279, rfl⟩
abbrev main_call6_call0_v1 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_cst_19 : Ref sig .tc := ⟨.hbm, 287, rfl⟩
abbrev main_v144 : Ref sig .tc := ⟨.hbm, 288, rfl⟩
abbrev main_v145 : Ref sig .tc := ⟨.hbm, 289, rfl⟩
abbrev main_v146 : Ref sig .tc := ⟨.hbm, 290, rfl⟩
abbrev main_v147 : Ref sig .tc := ⟨.hbm, 291, rfl⟩
abbrev main_v148 : Ref sig .tc := ⟨.hbm, 292, rfl⟩
abbrev main_v149 : Ref sig .tc := ⟨.hbm, 293, rfl⟩
abbrev main_v150 : Ref sig .tc := ⟨.hbm, 294, rfl⟩
abbrev main_v151 : Ref sig .tc := ⟨.hbm, 295, rfl⟩
abbrev main_call7_cst : Ref sig .tc := ⟨.hbm, 296, rfl⟩
abbrev main_call7_v0 : Ref sig .tc := ⟨.hbm, 297, rfl⟩
abbrev main_v152 : Ref sig .tc := ⟨.hbm, 298, rfl⟩
abbrev main_cst_20 : Ref sig .tc := ⟨.hbm, 299, rfl⟩
abbrev main_v153 : Ref sig .tc := ⟨.hbm, 300, rfl⟩
abbrev main_v154 : Ref sig .tc := ⟨.hbm, 301, rfl⟩
abbrev main_v155 : Ref sig .tc := ⟨.hbm, 302, rfl⟩
abbrev main_v156 : Ref sig .tc := ⟨.hbm, 303, rfl⟩
abbrev main_v157 : Ref sig .tc := ⟨.hbm, 304, rfl⟩
abbrev main_v158 : Ref sig .tc := ⟨.hbm, 305, rfl⟩
abbrev main_cst_21 : Ref sig .tc := ⟨.hbm, 306, rfl⟩
abbrev main_v159 : Ref sig .tc := ⟨.hbm, 307, rfl⟩
abbrev main_v160 : Ref sig .tc := ⟨.hbm, 308, rfl⟩
abbrev main_cst_22 : Ref sig .tc := ⟨.hbm, 309, rfl⟩
abbrev main_v161 : Ref sig .tc := ⟨.hbm, 310, rfl⟩
abbrev main_v162 : Ref sig .tc := ⟨.hbm, 311, rfl⟩
abbrev main_c_23 : Ref sig .tc := ⟨.hbm, 312, rfl⟩
abbrev main_call8_cst : Ref sig .tc := ⟨.hbm, 313, rfl⟩
abbrev main_call8_v0 : Ref sig .tc := ⟨.hbm, 314, rfl⟩
abbrev main_call8_v1 : Ref sig .tc := ⟨.hbm, 315, rfl⟩
abbrev main_call8_cst_0 : Ref sig .tc := ⟨.hbm, 316, rfl⟩
abbrev main_call8_v2 : Ref sig .tc := ⟨.hbm, 317, rfl⟩
abbrev main_call8_v3 : Ref sig .tc := ⟨.hbm, 318, rfl⟩
abbrev main_call8_v4 : Ref sig .tc := ⟨.hbm, 319, rfl⟩
abbrev main_call8_v5 : Ref sig .tc := ⟨.hbm, 320, rfl⟩
abbrev main_call8_v6 : Ref sig .tc := ⟨.hbm, 321, rfl⟩
abbrev main_call8_v7 : Ref sig .tc := ⟨.hbm, 322, rfl⟩
abbrev main_call8_cst_1 : Ref sig .tc := ⟨.hbm, 323, rfl⟩
abbrev main_call8_v8 : Ref sig .tc := ⟨.hbm, 324, rfl⟩
abbrev main_call8_cst_2 : Ref sig .tc := ⟨.hbm, 325, rfl⟩
abbrev main_call8_v9 : Ref sig .tc := ⟨.hbm, 326, rfl⟩
abbrev main_call8_v10 : Ref sig .tc := ⟨.hbm, 327, rfl⟩
abbrev main_call8_v11 : Ref sig .tc := ⟨.hbm, 328, rfl⟩
abbrev main_call8_v12 : Ref sig .tc := ⟨.hbm, 329, rfl⟩
abbrev main_call8_cst_3 : Ref sig .tc := ⟨.hbm, 330, rfl⟩
abbrev main_call8_v13 : Ref sig .tc := ⟨.hbm, 331, rfl⟩
abbrev main_call8_cst_4 : Ref sig .tc := ⟨.hbm, 332, rfl⟩
abbrev main_call8_call0_v0 : Ref sig .tc := ⟨.hbm, 333, rfl⟩
abbrev main_call8_call0_v1 : Ref sig .tc := ⟨.hbm, 334, rfl⟩
abbrev main_v163 : Ref sig .tc := ⟨.hbm, 335, rfl⟩
abbrev main_v164 : Ref sig .tc := ⟨.hbm, 336, rfl⟩
abbrev main_v165 : Ref sig .tc := ⟨.hbm, 337, rfl⟩
abbrev main_v166 : Ref sig .tc := ⟨.hbm, 338, rfl⟩
abbrev main_v167 : Ref sig .tc := ⟨.hbm, 339, rfl⟩
abbrev main_v168 : Ref sig .tc := ⟨.hbm, 340, rfl⟩
abbrev main_cst_24 : Ref sig .tc := ⟨.hbm, 341, rfl⟩
abbrev main_v169 : Ref sig .tc := ⟨.hbm, 342, rfl⟩
abbrev main_v170 : Ref sig .tc := ⟨.hbm, 343, rfl⟩
abbrev main_v171 : Ref sig .tc := ⟨.hbm, 344, rfl⟩
abbrev main_v172 : Ref sig .tc := ⟨.hbm, 345, rfl⟩
abbrev main_v173 : Ref sig .tc := ⟨.hbm, 346, rfl⟩
abbrev main_v174 : Ref sig .tc := ⟨.hbm, 347, rfl⟩
abbrev main_v175 : Ref sig .tc := ⟨.hbm, 348, rfl⟩
abbrev main_v176 : Ref sig .tc := ⟨.hbm, 349, rfl⟩
abbrev main_call9_cst : Ref sig .tc := ⟨.hbm, 350, rfl⟩
abbrev main_call9_v0 : Ref sig .tc := ⟨.hbm, 351, rfl⟩
abbrev main_v177 : Ref sig .tc := ⟨.hbm, 352, rfl⟩
abbrev main_v178 : Ref sig .tc := ⟨.hbm, 353, rfl⟩
abbrev main_v179 : Ref sig .tc := ⟨.hbm, 354, rfl⟩
abbrev main_v180 : Ref sig .tc := ⟨.hbm, 355, rfl⟩
abbrev main_v181 : Ref sig .tc := ⟨.hbm, 356, rfl⟩
abbrev main_cst_25 : Ref sig .tc := ⟨.hbm, 357, rfl⟩
abbrev main_v182 : Ref sig .tc := ⟨.hbm, 358, rfl⟩
abbrev main_v183 : Ref sig .tc := ⟨.hbm, 359, rfl⟩
abbrev main_cst_26 : Ref sig .tc := ⟨.hbm, 360, rfl⟩
abbrev main_v184 : Ref sig .tc := ⟨.hbm, 361, rfl⟩
abbrev main_v185 : Ref sig .tc := ⟨.hbm, 362, rfl⟩
abbrev main_c_27 : Ref sig .tc := ⟨.hbm, 363, rfl⟩
abbrev main_call10_cst : Ref sig .tc := ⟨.hbm, 364, rfl⟩
abbrev main_call10_v0 : Ref sig .tc := ⟨.hbm, 365, rfl⟩
abbrev main_call10_v1 : Ref sig .tc := ⟨.hbm, 366, rfl⟩
abbrev main_call10_cst_0 : Ref sig .tc := ⟨.hbm, 367, rfl⟩
abbrev main_call10_v2 : Ref sig .tc := ⟨.hbm, 368, rfl⟩
abbrev main_call10_v3 : Ref sig .tc := ⟨.hbm, 369, rfl⟩
abbrev main_call10_v4 : Ref sig .tc := ⟨.hbm, 370, rfl⟩
abbrev main_call10_v5 : Ref sig .tc := ⟨.hbm, 371, rfl⟩
abbrev main_call10_v6 : Ref sig .tc := ⟨.hbm, 372, rfl⟩
abbrev main_call10_v7 : Ref sig .tc := ⟨.hbm, 373, rfl⟩
abbrev main_call10_cst_1 : Ref sig .tc := ⟨.hbm, 374, rfl⟩
abbrev main_call10_v8 : Ref sig .tc := ⟨.hbm, 375, rfl⟩
abbrev main_call10_cst_2 : Ref sig .tc := ⟨.hbm, 376, rfl⟩
abbrev main_call10_v9 : Ref sig .tc := ⟨.hbm, 377, rfl⟩
abbrev main_call10_v10 : Ref sig .tc := ⟨.hbm, 378, rfl⟩
abbrev main_call10_v11 : Ref sig .tc := ⟨.hbm, 379, rfl⟩
abbrev main_call10_v12 : Ref sig .tc := ⟨.hbm, 380, rfl⟩
abbrev main_call10_cst_3 : Ref sig .tc := ⟨.hbm, 381, rfl⟩
abbrev main_call10_v13 : Ref sig .tc := ⟨.hbm, 382, rfl⟩
abbrev main_call10_cst_4 : Ref sig .tc := ⟨.hbm, 383, rfl⟩
abbrev main_call10_call0_v0 : Ref sig .tc := ⟨.hbm, 384, rfl⟩
abbrev main_call10_call0_v1 : Ref sig .tc := ⟨.hbm, 385, rfl⟩
abbrev main_v186 : Ref sig .tc := ⟨.hbm, 386, rfl⟩
abbrev main_v187 : Ref sig .tc := ⟨.hbm, 387, rfl⟩
abbrev main_v188 : Ref sig .tc := ⟨.hbm, 388, rfl⟩
abbrev main_v189 : Ref sig .tc := ⟨.hbm, 389, rfl⟩
abbrev main_v190 : Ref sig .tc := ⟨.hbm, 390, rfl⟩
abbrev main_v191 : Ref sig .tc := ⟨.hbm, 391, rfl⟩
abbrev main_cst_28 : Ref sig .tc := ⟨.hbm, 392, rfl⟩
abbrev main_v192 : Ref sig .tc := ⟨.hbm, 393, rfl⟩
abbrev main_v193 : Ref sig .tc := ⟨.hbm, 394, rfl⟩
abbrev main_v194 : Ref sig .tc := ⟨.hbm, 395, rfl⟩
abbrev main_v195 : Ref sig .tc := ⟨.hbm, 396, rfl⟩
abbrev main_v196 : Ref sig .tc := ⟨.hbm, 397, rfl⟩
abbrev main_v197 : Ref sig .tc := ⟨.hbm, 398, rfl⟩
abbrev main_v198 : Ref sig .tc := ⟨.hbm, 399, rfl⟩
abbrev main_v199 : Ref sig .tc := ⟨.hbm, 400, rfl⟩
abbrev main_call11_cst : Ref sig .tc := ⟨.hbm, 401, rfl⟩
abbrev main_call11_v0 : Ref sig .tc := ⟨.hbm, 402, rfl⟩
abbrev main_v200 : Ref sig .tc := ⟨.hbm, 403, rfl⟩
abbrev main_v201 : Ref sig .tc := ⟨.hbm, 404, rfl⟩
abbrev main_v202 : Ref sig .tc := ⟨.hbm, 405, rfl⟩
abbrev main_v203 : Ref sig .tc := ⟨.hbm, 406, rfl⟩
abbrev main_v204 : Ref sig .tc := ⟨.hbm, 407, rfl⟩

abbrev nD : Nat := 1
abbrev τ : Topo := Topo.v7x

variable {F : FTy → Type} [FloatOps F]
-- ==== Kernel2.lean ====
abbrev S50000 : Shape := ⟨1, ![50000]⟩
abbrev S2x800000 : Shape := ⟨2, ![2, 800000]⟩
abbrev S10x32 : Shape := ⟨2, ![10, 32]⟩
abbrev S32x64 : Shape := ⟨2, ![32, 64]⟩
abbrev S2x32 : Shape := ⟨2, ![2, 32]⟩
abbrev S64 : Shape := ⟨1, ![64]⟩
abbrev S64x128 : Shape := ⟨2, ![64, 128]⟩
abbrev S2x64 : Shape := ⟨2, ![2, 64]⟩
abbrev S128 : Shape := ⟨1, ![128]⟩
abbrev S128x128 : Shape := ⟨2, ![128, 128]⟩
abbrev S1x128 : Shape := ⟨2, ![1, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S50000x1 : Shape := ⟨2, ![50000, 1]⟩
abbrev S50000x32 : Shape := ⟨2, ![50000, 32]⟩
abbrev S64x8 : Shape := ⟨2, ![64, 8]⟩
abbrev S1x32 : Shape := ⟨2, ![1, 32]⟩
abbrev S32 : Shape := ⟨1, ![32]⟩
abbrev S1 : Shape := ⟨1, ![1]⟩
abbrev S2 : Shape := ⟨1, ![2]⟩
abbrev S50000x64 : Shape := ⟨2, ![50000, 64]⟩
abbrev S50000x8 : Shape := ⟨2, ![50000, 8]⟩
abbrev S5000x32 : Shape := ⟨2, ![5000, 32]⟩
abbrev S5000x64 : Shape := ⟨2, ![5000, 64]⟩
abbrev S5000x8 : Shape := ⟨2, ![5000, 8]⟩
abbrev S50000x2 : Shape := ⟨2, ![50000, 2]⟩
abbrev S850000x1 : Shape := ⟨2, ![850000, 1]⟩
abbrev S850000x2 : Shape := ⟨2, ![850000, 2]⟩
abbrev S850000x2x32 : Shape := ⟨3, ![850000, 2, 32]⟩
abbrev S850000x64 : Shape := ⟨2, ![850000, 64]⟩
abbrev S850000x66 : Shape := ⟨2, ![850000, 66]⟩
abbrev S50000x66 : Shape := ⟨2, ![50000, 66]⟩
abbrev S50000x2x32 : Shape := ⟨3, ![50000, 2, 32]⟩
abbrev S128x8 : Shape := ⟨2, ![128, 8]⟩
abbrev S1x64 : Shape := ⟨2, ![1, 64]⟩
abbrev S50000x128 : Shape := ⟨2, ![50000, 128]⟩
abbrev S5000x128 : Shape := ⟨2, ![5000, 128]⟩
abbrev S850000x2x64 : Shape := ⟨3, ![850000, 2, 64]⟩
abbrev S850000x128 : Shape := ⟨2, ![850000, 128]⟩
abbrev S850000x130 : Shape := ⟨2, ![850000, 130]⟩
abbrev S50000x130 : Shape := ⟨2, ![50000, 130]⟩
abbrev S50000x2x64 : Shape := ⟨3, ![50000, 2, 64]⟩
abbrev S850000x1x128 : Shape := ⟨3, ![850000, 1, 128]⟩
abbrev S850000x129 : Shape := ⟨2, ![850000, 129]⟩
abbrev S50000x129 : Shape := ⟨2, ![50000, 129]⟩
abbrev S50000x1x128 : Shape := ⟨3, ![50000, 1, 128]⟩
abbrev S500x129 : Shape := ⟨2, ![500, 129]⟩
abbrev S500x128 : Shape := ⟨2, ![500, 128]⟩
abbrev S500x1 : Shape := ⟨2, ![500, 1]⟩
abbrev S500 : Shape := ⟨1, ![500]⟩

abbrev nBuf : Space → Nat
  | .hbm => 324
  | .vmem => 36
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S10x32, .f32⟩
  | 4 => ⟨S32x64, .f32⟩
  | 5 => ⟨S2x32, .f32⟩
  | 6 => ⟨S2x32, .f32⟩
  | 7 => ⟨S64, .f32⟩
  | 8 => ⟨S64x128, .f32⟩
  | 9 => ⟨S2x64, .f32⟩
  | 10 => ⟨S2x64, .f32⟩
  | 11 => ⟨S128, .f32⟩
  | 12 => ⟨S128x128, .f32⟩
  | 13 => ⟨S1x128, .f32⟩
  | 14 => ⟨S1x128, .f32⟩
  | 15 => ⟨S128, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S50000x32, .f32⟩
  | 32 => ⟨S_, .f32⟩
  | 33 => ⟨S64x8, .f32⟩
  | 34 => ⟨S1x32, .f32⟩
  | 35 => ⟨S32, .f32⟩
  | 36 => ⟨S_, .i32⟩
  | 37 => ⟨S1, .i32⟩
  | 38 => ⟨S_, .i32⟩
  | 39 => ⟨S1, .i32⟩
  | 40 => ⟨S2, .i32⟩
  | 41 => ⟨S64x8, .f32⟩
  | 42 => ⟨S1x32, .f32⟩
  | 43 => ⟨S32, .f32⟩
  | 44 => ⟨S_, .i32⟩
  | 45 => ⟨S1, .i32⟩
  | 46 => ⟨S_, .i32⟩
  | 47 => ⟨S1, .i32⟩
  | 48 => ⟨S2, .i32⟩
  | 49 => ⟨S64x8, .f32⟩
  | 50 => ⟨S_, .f32⟩
  | 51 => ⟨S64x8, .f32⟩
  | 52 => ⟨S1x32, .f32⟩
  | 53 => ⟨S32, .f32⟩
  | 54 => ⟨S_, .i32⟩
  | 55 => ⟨S1, .i32⟩
  | 56 => ⟨S_, .i32⟩
  | 57 => ⟨S1, .i32⟩
  | 58 => ⟨S2, .i32⟩
  | 59 => ⟨S64x8, .f32⟩
  | 60 => ⟨S1x32, .f32⟩
  | 61 => ⟨S32, .f32⟩
  | 62 => ⟨S_, .i32⟩
  | 63 => ⟨S1, .i32⟩
  | 64 => ⟨S_, .i32⟩
  | 65 => ⟨S1, .i32⟩
  | 66 => ⟨S2, .i32⟩
  | 67 => ⟨S64x8, .f32⟩
  | 68 => ⟨S_, .f32⟩
  | 69 => ⟨S1x32, .f32⟩
  | 70 => ⟨S50000x64, .f32⟩
  | 71 => ⟨S50000x8, .f32⟩
  | 72 => ⟨S50000x8, .f32⟩
  | 73 => ⟨S50000x2, .f32⟩
  | 74 => ⟨S50000x2, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x2, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x2, .f32⟩
  | 93 => ⟨S850000x2, .f32⟩
  | 94 => ⟨S_, .f32⟩
  | 95 => ⟨S850000x2, .f32⟩
  | 96 => ⟨S850000x2, .i1⟩
  | 97 => ⟨S_, .f32⟩
  | 98 => ⟨S850000x2, .f32⟩
  | 99 => ⟨S850000x2, .f32⟩
  | 100 => ⟨S850000x2, .f32⟩
  | 101 => ⟨S_, .f32⟩
  | 102 => ⟨S_, .f32⟩
  | 103 => ⟨S850000x2, .f32⟩
  | 104 => ⟨S850000x2, .f32⟩
  | 105 => ⟨S850000x2, .f32⟩
  | 106 => ⟨S850000x2x32, .f32⟩
  | 107 => ⟨S850000x64, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x64, .f32⟩
  | 117 => ⟨S850000x64, .f32⟩
  | 118 => ⟨S850000x66, .f32⟩
  | 119 => ⟨S_, .f32⟩
  | 120 => ⟨S50000x66, .f32⟩
  | 121 => ⟨S850000x1, .i32⟩
  | 122 => ⟨S50000x66, .f32⟩
  | 123 => ⟨S50000x2, .f32⟩
  | 124 => ⟨S50000x2x32, .f32⟩
  | 125 => ⟨S50000x64, .f32⟩
  | 126 => ⟨S50000x64, .f32⟩
  | 127 => ⟨S_, .f32⟩
  | _ => ⟨S50000, .i32⟩

abbrev hbmTy0_1 (i : Nat) : BufTy := match i % 128 with
  | 0 => ⟨S50000x64, .f32⟩
  | 1 => ⟨S50000x64, .f32⟩
  | 2 => ⟨S50000x64, .f32⟩
  | 3 => ⟨S_, .f32⟩
  | 4 => ⟨S128x8, .f32⟩
  | 5 => ⟨S1x64, .f32⟩
  | 6 => ⟨S64, .f32⟩
  | 7 => ⟨S_, .i32⟩
  | 8 => ⟨S1, .i32⟩
  | 9 => ⟨S_, .i32⟩
  | 10 => ⟨S1, .i32⟩
  | 11 => ⟨S2, .i32⟩
  | 12 => ⟨S128x8, .f32⟩
  | 13 => ⟨S1x64, .f32⟩
  | 14 => ⟨S64, .f32⟩
  | 15 => ⟨S_, .i32⟩
  | 16 => ⟨S1, .i32⟩
  | 17 => ⟨S_, .i32⟩
  | 18 => ⟨S1, .i32⟩
  | 19 => ⟨S2, .i32⟩
  | 20 => ⟨S128x8, .f32⟩
  | 21 => ⟨S_, .f32⟩
  | 22 => ⟨S128x8, .f32⟩
  | 23 => ⟨S1x64, .f32⟩
  | 24 => ⟨S64, .f32⟩
  | 25 => ⟨S_, .i32⟩
  | 26 => ⟨S1, .i32⟩
  | 27 => ⟨S_, .i32⟩
  | 28 => ⟨S1, .i32⟩
  | 29 => ⟨S2, .i32⟩
  | 30 => ⟨S128x8, .f32⟩
  | 31 => ⟨S1x64, .f32⟩
  | 32 => ⟨S64, .f32⟩
  | 33 => ⟨S_, .i32⟩
  | 34 => ⟨S1, .i32⟩
  | 35 => ⟨S_, .i32⟩
  | 36 => ⟨S1, .i32⟩
  | 37 => ⟨S2, .i32⟩
  | 38 => ⟨S128x8, .f32⟩
  | 39 => ⟨S1x64, .f32⟩
  | 40 => ⟨S50000x128, .f32⟩
  | 41 => ⟨S50000x8, .f32⟩
  | 42 => ⟨S50000x8, .f32⟩
  | 43 => ⟨S50000x2, .f32⟩
  | 44 => ⟨S50000x2, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000x2, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x2, .f32⟩
  | 63 => ⟨S850000x2, .f32⟩
  | 64 => ⟨S_, .f32⟩
  | 65 => ⟨S850000x2, .f32⟩
  | 66 => ⟨S850000x2, .i1⟩
  | 67 => ⟨S_, .f32⟩
  | 68 => ⟨S850000x2, .f32⟩
  | 69 => ⟨S850000x2, .f32⟩
  | 70 => ⟨S850000x2, .f32⟩
  | 71 => ⟨S_, .f32⟩
  | 72 => ⟨S_, .f32⟩
  | 73 => ⟨S850000x2, .f32⟩
  | 74 => ⟨S850000x2, .f32⟩
  | 75 => ⟨S850000x2, .f32⟩
  | 76 => ⟨S850000x2x64, .f32⟩
  | 77 => ⟨S850000x128, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x128, .f32⟩
  | 87 => ⟨S850000x128, .f32⟩
  | 88 => ⟨S850000x130, .f32⟩
  | 89 => ⟨S_, .f32⟩
  | 90 => ⟨S50000x130, .f32⟩
  | 91 => ⟨S850000x1, .i32⟩
  | 92 => ⟨S50000x130, .f32⟩
  | 93 => ⟨S50000x2, .f32⟩
  | 94 => ⟨S50000x2x64, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .f32⟩
  | 102 => ⟨S128x8, .f32⟩
  | 103 => ⟨S128, .f32⟩
  | 104 => ⟨S_, .i32⟩
  | 105 => ⟨S1, .i32⟩
  | 106 => ⟨S128x8, .f32⟩
  | 107 => ⟨S_, .f32⟩
  | 108 => ⟨S128x8, .f32⟩
  | 109 => ⟨S128, .f32⟩
  | 110 => ⟨S_, .i32⟩
  | 111 => ⟨S1, .i32⟩
  | 112 => ⟨S128x8, .f32⟩
  | 113 => ⟨S1x128, .f32⟩
  | 114 => ⟨S50000x128, .f32⟩
  | 115 => ⟨S50000x8, .f32⟩
  | 116 => ⟨S50000x8, .f32⟩
  | 117 => ⟨S50000x1, .f32⟩
  | 118 => ⟨S50000x1, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x1, .f32⟩
  | _ => ⟨S50000, .i32⟩

abbrev hbmTy0_2 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x1, .f32⟩
  | 9 => ⟨S850000x1, .f32⟩
  | 10 => ⟨S_, .f32⟩
  | 11 => ⟨S850000x1, .f32⟩
  | 12 => ⟨S850000x1, .i1⟩
  | 13 => ⟨S_, .f32⟩
  | 14 => ⟨S850000x1, .f32⟩
  | 15 => ⟨S850000x1, .f32⟩
  | 16 => ⟨S850000x1, .f32⟩
  | 17 => ⟨S_, .f32⟩
  | 18 => ⟨S_, .f32⟩
  | 19 => ⟨S850000x1, .f32⟩
  | 20 => ⟨S850000x1, .f32⟩
  | 21 => ⟨S850000x1, .f32⟩
  | 22 => ⟨S850000x1x128, .f32⟩
  | 23 => ⟨S850000x128, .f32⟩
  | 24 => ⟨S_, .i32⟩
  | 25 => ⟨S850000, .i32⟩
  | 26 => ⟨S850000, .i1⟩
  | 27 => ⟨S_, .i32⟩
  | 28 => ⟨S850000, .i32⟩
  | 29 => ⟨S850000, .i32⟩
  | 30 => ⟨S850000, .i32⟩
  | 31 => ⟨S850000x1, .i32⟩
  | 32 => ⟨S850000x128, .f32⟩
  | 33 => ⟨S850000x128, .f32⟩
  | 34 => ⟨S850000x129, .f32⟩
  | 35 => ⟨S_, .f32⟩
  | 36 => ⟨S50000x129, .f32⟩
  | 37 => ⟨S850000x1, .i32⟩
  | 38 => ⟨S50000x129, .f32⟩
  | 39 => ⟨S50000x1, .f32⟩
  | 40 => ⟨S50000x1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .i1⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S_, .f32⟩
  | 59 => ⟨S50000x1, .f32⟩
  | 60 => ⟨S50000x129, .f32⟩
  | 61 => ⟨S_, .f32⟩
  | 62 => ⟨S500x129, .f32⟩
  | 63 => ⟨S50000x1, .i32⟩
  | 64 => ⟨S500x129, .f32⟩
  | 65 => ⟨S500x128, .f32⟩
  | 66 => ⟨S500x1, .f32⟩
  | 67 => ⟨S500, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S64x8, .f32⟩
  | .local _ .vmem, ⟨4, _⟩ => ⟨S64x8, .f32⟩
  | .local _ .vmem, ⟨5, _⟩ => ⟨S1x32, .f32⟩
  | .local _ .vmem, ⟨6, _⟩ => ⟨S5000x64, .f32⟩
  | .local _ .vmem, ⟨7, _⟩ => ⟨S5000x64, .f32⟩
  | .local _ .vmem, ⟨8, _⟩ => ⟨S5000x8, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S5000x64, .f32⟩
  | .local _ .vmem, ⟨13, _⟩ => ⟨S5000x64, .f32⟩
  | .local _ .vmem, ⟨14, _⟩ => ⟨S64x128, .f32⟩
  | .local _ .vmem, ⟨15, _⟩ => ⟨S128x8, .f32⟩
  | .local _ .vmem, ⟨16, _⟩ => ⟨S128x8, .f32⟩
  | .local _ .vmem, ⟨17, _⟩ => ⟨S1x64, .f32⟩
  | .local _ .vmem, ⟨18, _⟩ => ⟨S5000x128, .f32⟩
  | .local _ .vmem, ⟨19, _⟩ => ⟨S5000x128, .f32⟩
  | .local _ .vmem, ⟨20, _⟩ => ⟨S5000x8, .f32⟩
  | .local _ .vmem, ⟨21, _⟩ => ⟨S5000x8, .f32⟩
  | .local _ .vmem, ⟨22, _⟩ => ⟨S5000x8, .f32⟩
  | .local _ .vmem, ⟨23, _⟩ => ⟨S5000x8, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S128x8, .f32⟩
  | .local _ .vmem, ⟨28, _⟩ => ⟨S128x8, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x8, .f32⟩
  | .local _ .vmem, ⟨33, _⟩ => ⟨S5000x8, .f32⟩
  | .local _ .vmem, ⟨34, _⟩ => ⟨S5000x8, .f32⟩
  | .local _ .vmem, ⟨35, _⟩ => ⟨S5000x8, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_3 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_6 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_8 : Ref sig .tc := ⟨.hbm, 62, rfl⟩
abbrev main_v36 : Ref sig .tc := ⟨.hbm, 63, rfl⟩
abbrev main_c_9 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_10 : Ref sig .tc := ⟨.hbm, 68, rfl⟩
abbrev main_v40 : Ref sig .tc := ⟨.hbm, 69, rfl⟩
abbrev main_v41_0 : Ref sig .tc := ⟨.hbm, 70, rfl⟩
abbrev main_v41_1 : Ref sig .tc := ⟨.hbm, 71, rfl⟩
abbrev main_v41_2 : Ref sig .tc := ⟨.hbm, 72, rfl⟩
abbrev main_v42 : Ref sig .tc := ⟨.hbm, 73, rfl⟩
abbrev main_v43 : Ref sig .tc := ⟨.hbm, 74, rfl⟩
abbrev main_c_11 : Ref sig .tc := ⟨.hbm, 75, rfl⟩
abbrev main_v44 : Ref sig .tc := ⟨.hbm, 76, rfl⟩
abbrev main_v45 : Ref sig .tc := ⟨.hbm, 77, rfl⟩
abbrev main_c_12 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_13 : Ref sig .tc := ⟨.hbm, 84, rfl⟩
abbrev main_v51 : Ref sig .tc := ⟨.hbm, 85, rfl⟩
abbrev main_v52 : Ref sig .tc := ⟨.hbm, 86, rfl⟩
abbrev main_c_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_15 : Ref sig .tc := ⟨.hbm, 94, rfl⟩
abbrev main_v59 : Ref sig .tc := ⟨.hbm, 95, rfl⟩
abbrev main_v60 : Ref sig .tc := ⟨.hbm, 96, rfl⟩
abbrev main_cst_16 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_17 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_18 : Ref sig .tc := ⟨.hbm, 108, rfl⟩
abbrev main_v70 : Ref sig .tc := ⟨.hbm, 109, rfl⟩
abbrev main_v71 : Ref sig .tc := ⟨.hbm, 110, rfl⟩
abbrev main_c_19 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_20 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_21 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_22 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_23 : Ref sig .tc := ⟨.hbm, 135, rfl⟩
abbrev main_v92 : Ref sig .tc := ⟨.hbm, 136, rfl⟩
abbrev main_c_24 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_25 : Ref sig .tc := ⟨.hbm, 143, rfl⟩
abbrev main_v98 : Ref sig .tc := ⟨.hbm, 144, rfl⟩
abbrev main_c_26 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_27 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_c_28 : Ref sig .tc := ⟨.hbm, 153, rfl⟩
abbrev main_v105 : Ref sig .tc := ⟨.hbm, 154, rfl⟩
abbrev main_c_29 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_c_30 : Ref sig .tc := ⟨.hbm, 161, rfl⟩
abbrev main_v111 : Ref sig .tc := ⟨.hbm, 162, rfl⟩
abbrev main_c_31 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116_0 : Ref sig .tc := ⟨.hbm, 168, rfl⟩
abbrev main_v116_1 : Ref sig .tc := ⟨.hbm, 169, rfl⟩
abbrev main_v116_2 : Ref sig .tc := ⟨.hbm, 170, rfl⟩
abbrev main_v117 : Ref sig .tc := ⟨.hbm, 171, rfl⟩
abbrev main_v118 : Ref sig .tc := ⟨.hbm, 172, rfl⟩
abbrev main_c_32 : Ref sig .tc := ⟨.hbm, 173, rfl⟩
abbrev main_v119 : Ref sig .tc := ⟨.hbm, 174, rfl⟩
abbrev main_v120 : Ref sig .tc := ⟨.hbm, 175, rfl⟩
abbrev main_c_33 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_c_34 : Ref sig .tc := ⟨.hbm, 182, rfl⟩
abbrev main_v126 : Ref sig .tc := ⟨.hbm, 183, rfl⟩
abbrev main_v127 : Ref sig .tc := ⟨.hbm, 184, rfl⟩
abbrev main_c_35 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_36 : Ref sig .tc := ⟨.hbm, 192, rfl⟩
abbrev main_v134 : Ref sig .tc := ⟨.hbm, 193, rfl⟩
abbrev main_v135 : Ref sig .tc := ⟨.hbm, 194, rfl⟩
abbrev main_cst_37 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_cst_38 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_v144 : Ref sig .tc := ⟨.hbm, 205, rfl⟩
abbrev main_c_39 : Ref sig .tc := ⟨.hbm, 206, rfl⟩
abbrev main_v145 : Ref sig .tc := ⟨.hbm, 207, rfl⟩
abbrev main_v146 : Ref sig .tc := ⟨.hbm, 208, rfl⟩
abbrev main_c_40 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_cst_41 : Ref sig .tc := ⟨.hbm, 217, rfl⟩
abbrev main_v154 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_cst_42 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_cst_43 : Ref sig .tc := ⟨.hbm, 229, rfl⟩
abbrev main_v164 : Ref sig .tc := ⟨.hbm, 230, rfl⟩
abbrev main_v165 : Ref sig .tc := ⟨.hbm, 231, rfl⟩
abbrev main_c_44 : Ref sig .tc := ⟨.hbm, 232, rfl⟩
abbrev main_v166 : Ref sig .tc := ⟨.hbm, 233, rfl⟩
abbrev main_v167 : Ref sig .tc := ⟨.hbm, 234, rfl⟩
abbrev main_cst_45 : Ref sig .tc := ⟨.hbm, 235, rfl⟩
abbrev main_v168 : Ref sig .tc := ⟨.hbm, 236, rfl⟩
abbrev main_v169 : Ref sig .tc := ⟨.hbm, 237, rfl⟩
abbrev main_c_46 : Ref sig .tc := ⟨.hbm, 238, rfl⟩
abbrev main_v170 : Ref sig .tc := ⟨.hbm, 239, rfl⟩
abbrev main_v171 : Ref sig .tc := ⟨.hbm, 240, rfl⟩
abbrev main_v172 : Ref sig .tc := ⟨.hbm, 241, rfl⟩
abbrev main_v173_0 : Ref sig .tc := ⟨.hbm, 242, rfl⟩
abbrev main_v173_1 : Ref sig .tc := ⟨.hbm, 243, rfl⟩
abbrev main_v173_2 : Ref sig .tc := ⟨.hbm, 244, rfl⟩
abbrev main_v174 : Ref sig .tc := ⟨.hbm, 245, rfl⟩
abbrev main_v175 : Ref sig .tc := ⟨.hbm, 246, rfl⟩
abbrev main_c_47 : Ref sig .tc := ⟨.hbm, 247, rfl⟩
abbrev main_v176 : Ref sig .tc := ⟨.hbm, 248, rfl⟩
abbrev main_v177 : Ref sig .tc := ⟨.hbm, 249, rfl⟩
abbrev main_c_48 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_c_49 : Ref sig .tc := ⟨.hbm, 256, rfl⟩
abbrev main_v183 : Ref sig .tc := ⟨.hbm, 257, rfl⟩
abbrev main_v184 : Ref sig .tc := ⟨.hbm, 258, rfl⟩
abbrev main_c_50 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_cst_51 : Ref sig .tc := ⟨.hbm, 266, rfl⟩
abbrev main_v191 : Ref sig .tc := ⟨.hbm, 267, rfl⟩
abbrev main_v192 : Ref sig .tc := ⟨.hbm, 268, rfl⟩
abbrev main_cst_52 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_cst_53 : Ref sig .tc := ⟨.hbm, 273, rfl⟩
abbrev main_v196 : Ref sig .tc := ⟨.hbm, 274, rfl⟩
abbrev main_v197 : Ref sig .tc := ⟨.hbm, 275, rfl⟩
abbrev main_v198 : Ref sig .tc := ⟨.hbm, 276, rfl⟩
abbrev main_v199 : Ref sig .tc := ⟨.hbm, 277, rfl⟩
abbrev main_v200 : Ref sig .tc := ⟨.hbm, 278, rfl⟩
abbrev main_v201 : Ref sig .tc := ⟨.hbm, 279, rfl⟩
abbrev main_c_54 : Ref sig .tc := ⟨.hbm, 280, rfl⟩
abbrev main_v202 : Ref sig .tc := ⟨.hbm, 281, rfl⟩
abbrev main_v203 : Ref sig .tc := ⟨.hbm, 282, rfl⟩
abbrev main_c_55 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_cst_56 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_cst_57 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_cst_58 : Ref sig .tc := ⟨.hbm, 306, rfl⟩
abbrev main_v224 : Ref sig .tc := ⟨.hbm, 307, rfl⟩
abbrev main_v225 : Ref sig .tc := ⟨.hbm, 308, rfl⟩
abbrev main_v226 : Ref sig .tc := ⟨.hbm, 309, rfl⟩
abbrev main_cst_59 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_cst_60 : Ref sig .tc := ⟨.hbm, 314, rfl⟩
abbrev main_v230 : Ref sig .tc := ⟨.hbm, 315, rfl⟩
abbrev main_v231 : Ref sig .tc := ⟨.hbm, 316, rfl⟩
abbrev main_cst_61 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_v235 : Ref sig .tc := ⟨.hbm, 321, rfl⟩
abbrev main_v236 : Ref sig .tc := ⟨.hbm, 322, rfl⟩
abbrev main_v237 : Ref sig .tc := ⟨.hbm, 323, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x8 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x8 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== Reference2Ideal.lean ====
abbrev S50000 : Shape := ⟨1, ![50000]⟩
abbrev S2x800000 : Shape := ⟨2, ![2, 800000]⟩
abbrev S10x32 : Shape := ⟨2, ![10, 32]⟩
abbrev S32x64 : Shape := ⟨2, ![32, 64]⟩
abbrev S2x32 : Shape := ⟨2, ![2, 32]⟩
abbrev S64 : Shape := ⟨1, ![64]⟩
abbrev S64x128 : Shape := ⟨2, ![64, 128]⟩
abbrev S2x64 : Shape := ⟨2, ![2, 64]⟩
abbrev S128 : Shape := ⟨1, ![128]⟩
abbrev S128x128 : Shape := ⟨2, ![128, 128]⟩
abbrev S1x128 : Shape := ⟨2, ![1, 128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S50000x1 : Shape := ⟨2, ![50000, 1]⟩
abbrev S50000x32 : Shape := ⟨2, ![50000, 32]⟩
abbrev S50000x64 : Shape := ⟨2, ![50000, 64]⟩
abbrev S50000x2x32 : Shape := ⟨3, ![50000, 2, 32]⟩
abbrev S1x2x32 : Shape := ⟨3, ![1, 2, 32]⟩
abbrev S50000x2 : Shape := ⟨2, ![50000, 2]⟩
abbrev S850000x1 : Shape := ⟨2, ![850000, 1]⟩
abbrev S850000x2 : Shape := ⟨2, ![850000, 2]⟩
abbrev S850000x2x32 : Shape := ⟨3, ![850000, 2, 32]⟩
abbrev S850000x2x1 : Shape := ⟨3, ![850000, 2, 1]⟩
abbrev S1x64 : Shape := ⟨2, ![1, 64]⟩
abbrev S50000x128 : Shape := ⟨2, ![50000, 128]⟩
abbrev S50000x2x64 : Shape := ⟨3, ![50000, 2, 64]⟩
abbrev S1x2x64 : Shape := ⟨3, ![1, 2, 64]⟩
abbrev S850000x2x64 : Shape := ⟨3, ![850000, 2, 64]⟩
abbrev S50000x1x128 : Shape := ⟨3, ![50000, 1, 128]⟩
abbrev S1x1x128 : Shape := ⟨3, ![1, 1, 128]⟩
abbrev S850000x1x128 : Shape := ⟨3, ![850000, 1, 128]⟩
abbrev S850000x1x1 : Shape := ⟨3, ![850000, 1, 1]⟩
abbrev S500 : Shape := ⟨1, ![500]⟩
abbrev S500x128 : Shape := ⟨2, ![500, 128]⟩

abbrev nBuf : Space → Nat
  | .hbm => 330
  | .vmem => 0
  | .smem => 0
  | _ => 0

abbrev hbmTy0_0 (i : Nat) : BufTy := match i % 128 with
  | 0 => ⟨S50000, .i32⟩
  | 1 => ⟨S2x800000, .i32⟩
  | 2 => ⟨S50000, .i32⟩
  | 3 => ⟨S10x32, .f32⟩
  | 4 => ⟨S32x64, .f32⟩
  | 5 => ⟨S2x32, .f32⟩
  | 6 => ⟨S2x32, .f32⟩
  | 7 => ⟨S64, .f32⟩
  | 8 => ⟨S64x128, .f32⟩
  | 9 => ⟨S2x64, .f32⟩
  | 10 => ⟨S2x64, .f32⟩
  | 11 => ⟨S128, .f32⟩
  | 12 => ⟨S128x128, .f32⟩
  | 13 => ⟨S1x128, .f32⟩
  | 14 => ⟨S1x128, .f32⟩
  | 15 => ⟨S128, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .i32⟩
  | 24 => ⟨S50000, .i32⟩
  | 25 => ⟨S50000, .i1⟩
  | 26 => ⟨S_, .i32⟩
  | 27 => ⟨S50000, .i32⟩
  | 28 => ⟨S50000, .i32⟩
  | 29 => ⟨S50000, .i32⟩
  | 30 => ⟨S50000x1, .i32⟩
  | 31 => ⟨S50000x32, .f32⟩
  | 32 => ⟨S50000x64, .f32⟩
  | 33 => ⟨S50000x2x32, .f32⟩
  | 34 => ⟨S1x2x32, .f32⟩
  | 35 => ⟨S50000x2x32, .f32⟩
  | 36 => ⟨S50000x2x32, .f32⟩
  | 37 => ⟨S_, .f32⟩
  | 38 => ⟨S50000x2, .f32⟩
  | 39 => ⟨S1x2x32, .f32⟩
  | 40 => ⟨S50000x2x32, .f32⟩
  | 41 => ⟨S50000x2x32, .f32⟩
  | 42 => ⟨S_, .f32⟩
  | 43 => ⟨S50000x2, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x2, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x2, .f32⟩
  | 62 => ⟨S850000x2, .f32⟩
  | 63 => ⟨S_, .f32⟩
  | 64 => ⟨S_, .f32⟩
  | 65 => ⟨S850000x2, .f32⟩
  | 66 => ⟨S850000x2, .i1⟩
  | 67 => ⟨S_, .f32⟩
  | 68 => ⟨S850000x2, .f32⟩
  | 69 => ⟨S850000x2, .f32⟩
  | 70 => ⟨S850000x2, .f32⟩
  | 71 => ⟨S_, .f32⟩
  | 72 => ⟨S_, .f32⟩
  | 73 => ⟨S850000x2, .f32⟩
  | 74 => ⟨S850000x2, .f32⟩
  | 75 => ⟨S850000x2, .f32⟩
  | 76 => ⟨S_, .f32⟩
  | 77 => ⟨S50000x2, .f32⟩
  | 78 => ⟨S850000x1, .i32⟩
  | 79 => ⟨S50000x2, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000x2, .f32⟩
  | 89 => ⟨S_, .f32⟩
  | 90 => ⟨S850000x2, .f32⟩
  | 91 => ⟨S850000x2, .f32⟩
  | 92 => ⟨S850000x2, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x2x32, .f32⟩
  | 102 => ⟨S850000x2x1, .f32⟩
  | 103 => ⟨S850000x2x32, .f32⟩
  | 104 => ⟨S850000x2x32, .f32⟩
  | 105 => ⟨S_, .f32⟩
  | 106 => ⟨S50000x2x32, .f32⟩
  | 107 => ⟨S850000x1, .i32⟩
  | 108 => ⟨S50000x2x32, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .i1⟩
  | 116 => ⟨S_, .f32⟩
  | 117 => ⟨S50000x64, .f32⟩
  | 118 => ⟨S50000x64, .i1⟩
  | 119 => ⟨S_, .f32⟩
  | 120 => ⟨S_, .f32⟩
  | 121 => ⟨S50000x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S50000x64, .f32⟩
  | _ => ⟨S50000, .i32⟩

abbrev hbmTy0_1 (i : Nat) : BufTy := match i % 128 with
  | 0 => ⟨S50000x128, .f32⟩
  | 1 => ⟨S50000x2x64, .f32⟩
  | 2 => ⟨S1x2x64, .f32⟩
  | 3 => ⟨S50000x2x64, .f32⟩
  | 4 => ⟨S50000x2x64, .f32⟩
  | 5 => ⟨S_, .f32⟩
  | 6 => ⟨S50000x2, .f32⟩
  | 7 => ⟨S1x2x64, .f32⟩
  | 8 => ⟨S50000x2x64, .f32⟩
  | 9 => ⟨S50000x2x64, .f32⟩
  | 10 => ⟨S_, .f32⟩
  | 11 => ⟨S50000x2, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000x2, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x2, .f32⟩
  | 30 => ⟨S850000x2, .f32⟩
  | 31 => ⟨S_, .f32⟩
  | 32 => ⟨S_, .f32⟩
  | 33 => ⟨S850000x2, .f32⟩
  | 34 => ⟨S850000x2, .i1⟩
  | 35 => ⟨S_, .f32⟩
  | 36 => ⟨S850000x2, .f32⟩
  | 37 => ⟨S850000x2, .f32⟩
  | 38 => ⟨S850000x2, .f32⟩
  | 39 => ⟨S_, .f32⟩
  | 40 => ⟨S_, .f32⟩
  | 41 => ⟨S850000x2, .f32⟩
  | 42 => ⟨S850000x2, .f32⟩
  | 43 => ⟨S850000x2, .f32⟩
  | 44 => ⟨S_, .f32⟩
  | 45 => ⟨S50000x2, .f32⟩
  | 46 => ⟨S850000x1, .i32⟩
  | 47 => ⟨S50000x2, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x2, .f32⟩
  | 57 => ⟨S_, .f32⟩
  | 58 => ⟨S850000x2, .f32⟩
  | 59 => ⟨S850000x2, .f32⟩
  | 60 => ⟨S850000x2, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x2x64, .f32⟩
  | 70 => ⟨S850000x2x1, .f32⟩
  | 71 => ⟨S850000x2x64, .f32⟩
  | 72 => ⟨S850000x2x64, .f32⟩
  | 73 => ⟨S_, .f32⟩
  | 74 => ⟨S50000x2x64, .f32⟩
  | 75 => ⟨S850000x1, .i32⟩
  | 76 => ⟨S50000x2x64, .f32⟩
  | 77 => ⟨S50000x128, .f32⟩
  | 78 => ⟨S1x128, .f32⟩
  | 79 => ⟨S50000x128, .f32⟩
  | 80 => ⟨S50000x128, .f32⟩
  | 81 => ⟨S_, .f32⟩
  | 82 => ⟨S50000x128, .f32⟩
  | 83 => ⟨S50000x128, .i1⟩
  | 84 => ⟨S_, .f32⟩
  | 85 => ⟨S50000x128, .f32⟩
  | 86 => ⟨S50000x128, .i1⟩
  | 87 => ⟨S_, .f32⟩
  | 88 => ⟨S_, .f32⟩
  | 89 => ⟨S50000x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S50000x128, .f32⟩
  | 97 => ⟨S50000x1x128, .f32⟩
  | 98 => ⟨S1x1x128, .f32⟩
  | 99 => ⟨S50000x1x128, .f32⟩
  | 100 => ⟨S50000x1x128, .f32⟩
  | 101 => ⟨S_, .f32⟩
  | 102 => ⟨S50000x1, .f32⟩
  | 103 => ⟨S1x1x128, .f32⟩
  | 104 => ⟨S50000x1x128, .f32⟩
  | 105 => ⟨S50000x1x128, .f32⟩
  | 106 => ⟨S_, .f32⟩
  | 107 => ⟨S50000x1, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x1, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x1, .f32⟩
  | 126 => ⟨S850000x1, .f32⟩
  | 127 => ⟨S_, .f32⟩
  | _ => ⟨S50000, .i32⟩

abbrev hbmTy0_2 (i : Nat) : BufTy := match i % 128 with
  | 0 => ⟨S_, .f32⟩
  | 1 => ⟨S850000x1, .f32⟩
  | 2 => ⟨S850000x1, .i1⟩
  | 3 => ⟨S_, .f32⟩
  | 4 => ⟨S850000x1, .f32⟩
  | 5 => ⟨S850000x1, .f32⟩
  | 6 => ⟨S850000x1, .f32⟩
  | 7 => ⟨S_, .f32⟩
  | 8 => ⟨S_, .f32⟩
  | 9 => ⟨S850000x1, .f32⟩
  | 10 => ⟨S850000x1, .f32⟩
  | 11 => ⟨S850000x1, .f32⟩
  | 12 => ⟨S_, .f32⟩
  | 13 => ⟨S50000x1, .f32⟩
  | 14 => ⟨S850000x1, .i32⟩
  | 15 => ⟨S50000x1, .f32⟩
  | 16 => ⟨S_, .i32⟩
  | 17 => ⟨S850000, .i32⟩
  | 18 => ⟨S850000, .i1⟩
  | 19 => ⟨S_, .i32⟩
  | 20 => ⟨S850000, .i32⟩
  | 21 => ⟨S850000, .i32⟩
  | 22 => ⟨S850000, .i32⟩
  | 23 => ⟨S850000x1, .i32⟩
  | 24 => ⟨S850000x1, .f32⟩
  | 25 => ⟨S_, .f32⟩
  | 26 => ⟨S850000x1, .f32⟩
  | 27 => ⟨S850000x1, .f32⟩
  | 28 => ⟨S850000x1, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000x1x128, .f32⟩
  | 38 => ⟨S850000x1x1, .f32⟩
  | 39 => ⟨S850000x1x128, .f32⟩
  | 40 => ⟨S850000x1x128, .f32⟩
  | 41 => ⟨S_, .f32⟩
  | 42 => ⟨S50000x1x128, .f32⟩
  | 43 => ⟨S850000x1, .i32⟩
  | 44 => ⟨S50000x1x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .i1⟩
  | 52 => ⟨S_, .f32⟩
  | 53 => ⟨S50000x128, .f32⟩
  | 54 => ⟨S50000x128, .i1⟩
  | 55 => ⟨S_, .f32⟩
  | 56 => ⟨S_, .f32⟩
  | 57 => ⟨S50000x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S50000x128, .f32⟩
  | 64 => ⟨S_, .f32⟩
  | 65 => ⟨S50000, .f32⟩
  | 66 => ⟨S_, .f32⟩
  | 67 => ⟨S500, .f32⟩
  | 68 => ⟨S50000x1, .i32⟩
  | 69 => ⟨S500, .f32⟩
  | 70 => ⟨S_, .f32⟩
  | 71 => ⟨S500x128, .f32⟩
  | 72 => ⟨S50000x1, .i32⟩
  | 73 => ⟨S500x128, .f32⟩
  | _ => ⟨S50000, .i32⟩

abbrev hbmTy (i : Nat) : BufTy := match i / 128 with
  | 0 => hbmTy0_0 i
  | 1 => hbmTy0_1 i
  | 2 => hbmTy0_2 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_v8 : Ref sig .tc := ⟨.hbm, 25, rfl⟩
abbrev main_c_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_c_3 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_4 : Ref sig .tc := ⟨.hbm, 53, rfl⟩
abbrev main_v31 : Ref sig .tc := ⟨.hbm, 54, rfl⟩
abbrev main_v32 : Ref sig .tc := ⟨.hbm, 55, rfl⟩
abbrev main_c_5 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_call0_cst : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_9 : Ref sig .tc := ⟨.hbm, 80, rfl⟩
abbrev main_v47 : Ref sig .tc := ⟨.hbm, 81, rfl⟩
abbrev main_v48 : Ref sig .tc := ⟨.hbm, 82, rfl⟩
abbrev main_c_10 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_12 : Ref sig .tc := ⟨.hbm, 93, rfl⟩
abbrev main_v57 : Ref sig .tc := ⟨.hbm, 94, rfl⟩
abbrev main_v58 : Ref sig .tc := ⟨.hbm, 95, rfl⟩
abbrev main_c_13 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_call1_cst : Ref sig .tc := ⟨.hbm, 113, rfl⟩
abbrev main_call1_v0 : Ref sig .tc := ⟨.hbm, 114, rfl⟩
abbrev main_call1_v1 : Ref sig .tc := ⟨.hbm, 115, rfl⟩
abbrev main_call1_cst_0 : Ref sig .tc := ⟨.hbm, 116, rfl⟩
abbrev main_call1_v2 : Ref sig .tc := ⟨.hbm, 117, rfl⟩
abbrev main_call1_v3 : Ref sig .tc := ⟨.hbm, 118, rfl⟩
abbrev main_call1_cst_1 : Ref sig .tc := ⟨.hbm, 119, rfl⟩
abbrev main_call1_call0_v0 : Ref sig .tc := ⟨.hbm, 120, rfl⟩
abbrev main_call1_call0_v1 : Ref sig .tc := ⟨.hbm, 121, rfl⟩
abbrev main_call1_v4 : Ref sig .tc := ⟨.hbm, 122, rfl⟩
abbrev main_call1_v5 : Ref sig .tc := ⟨.hbm, 123, rfl⟩
abbrev main_call1_cst_2 : Ref sig .tc := ⟨.hbm, 124, rfl⟩
abbrev main_call1_v6 : Ref sig .tc := ⟨.hbm, 125, rfl⟩
abbrev main_call1_v7 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_15 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_16 : Ref sig .tc := ⟨.hbm, 138, rfl⟩
abbrev main_v84 : Ref sig .tc := ⟨.hbm, 139, rfl⟩
abbrev main_c_17 : Ref sig .tc := ⟨.hbm, 140, rfl⟩
abbrev main_v85 : Ref sig .tc := ⟨.hbm, 141, rfl⟩
abbrev main_v86 : Ref sig .tc := ⟨.hbm, 142, rfl⟩
abbrev main_c_18 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_c_19 : Ref sig .tc := ⟨.hbm, 149, rfl⟩
abbrev main_v92 : Ref sig .tc := ⟨.hbm, 150, rfl⟩
abbrev main_v93 : Ref sig .tc := ⟨.hbm, 151, rfl⟩
abbrev main_c_20 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_21 : Ref sig .tc := ⟨.hbm, 159, rfl⟩
abbrev main_call2_cst : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_v100 : Ref sig .tc := ⟨.hbm, 166, rfl⟩
abbrev main_cst_22 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_23 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_c_24 : Ref sig .tc := ⟨.hbm, 176, rfl⟩
abbrev main_v108 : Ref sig .tc := ⟨.hbm, 177, rfl⟩
abbrev main_v109 : Ref sig .tc := ⟨.hbm, 178, rfl⟩
abbrev main_c_25 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_cst_26 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_c_27 : Ref sig .tc := ⟨.hbm, 189, rfl⟩
abbrev main_v118 : Ref sig .tc := ⟨.hbm, 190, rfl⟩
abbrev main_v119 : Ref sig .tc := ⟨.hbm, 191, rfl⟩
abbrev main_c_28 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_cst_29 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_call3_cst : Ref sig .tc := ⟨.hbm, 209, rfl⟩
abbrev main_call3_v0 : Ref sig .tc := ⟨.hbm, 210, rfl⟩
abbrev main_call3_v1 : Ref sig .tc := ⟨.hbm, 211, rfl⟩
abbrev main_call3_cst_0 : Ref sig .tc := ⟨.hbm, 212, rfl⟩
abbrev main_call3_v2 : Ref sig .tc := ⟨.hbm, 213, rfl⟩
abbrev main_call3_v3 : Ref sig .tc := ⟨.hbm, 214, rfl⟩
abbrev main_call3_cst_1 : Ref sig .tc := ⟨.hbm, 215, rfl⟩
abbrev main_call3_call0_v0 : Ref sig .tc := ⟨.hbm, 216, rfl⟩
abbrev main_call3_call0_v1 : Ref sig .tc := ⟨.hbm, 217, rfl⟩
abbrev main_call3_v4 : Ref sig .tc := ⟨.hbm, 218, rfl⟩
abbrev main_call3_v5 : Ref sig .tc := ⟨.hbm, 219, rfl⟩
abbrev main_call3_cst_2 : Ref sig .tc := ⟨.hbm, 220, rfl⟩
abbrev main_call3_v6 : Ref sig .tc := ⟨.hbm, 221, rfl⟩
abbrev main_call3_v7 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_cst_30 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_cst_31 : Ref sig .tc := ⟨.hbm, 234, rfl⟩
abbrev main_v145 : Ref sig .tc := ⟨.hbm, 235, rfl⟩
abbrev main_c_32 : Ref sig .tc := ⟨.hbm, 236, rfl⟩
abbrev main_v146 : Ref sig .tc := ⟨.hbm, 237, rfl⟩
abbrev main_v147 : Ref sig .tc := ⟨.hbm, 238, rfl⟩
abbrev main_c_33 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_c_34 : Ref sig .tc := ⟨.hbm, 245, rfl⟩
abbrev main_v153 : Ref sig .tc := ⟨.hbm, 246, rfl⟩
abbrev main_v154 : Ref sig .tc := ⟨.hbm, 247, rfl⟩
abbrev main_c_35 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_cst_36 : Ref sig .tc := ⟨.hbm, 255, rfl⟩
abbrev main_call4_cst : Ref sig .tc := ⟨.hbm, 256, rfl⟩
abbrev main_call4_v0 : Ref sig .tc := ⟨.hbm, 257, rfl⟩
abbrev main_call4_v1 : Ref sig .tc := ⟨.hbm, 258, rfl⟩
abbrev main_call4_v2 : Ref sig .tc := ⟨.hbm, 259, rfl⟩
abbrev main_call4_v3 : Ref sig .tc := ⟨.hbm, 260, rfl⟩
abbrev main_call4_v4 : Ref sig .tc := ⟨.hbm, 261, rfl⟩
abbrev main_v161 : Ref sig .tc := ⟨.hbm, 262, rfl⟩
abbrev main_cst_37 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_38 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_c_39 : Ref sig .tc := ⟨.hbm, 272, rfl⟩
abbrev main_v169 : Ref sig .tc := ⟨.hbm, 273, rfl⟩
abbrev main_v170 : Ref sig .tc := ⟨.hbm, 274, rfl⟩
abbrev main_c_40 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_cst_41 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_c_42 : Ref sig .tc := ⟨.hbm, 285, rfl⟩
abbrev main_v179 : Ref sig .tc := ⟨.hbm, 286, rfl⟩
abbrev main_v180 : Ref sig .tc := ⟨.hbm, 287, rfl⟩
abbrev main_c_43 : Ref sig .tc := ⟨.hbm, 288, rfl⟩
abbrev main_v181 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_cst_44 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_call5_cst : Ref sig .tc := ⟨.hbm, 305, rfl⟩
abbrev main_call5_v0 : Ref sig .tc := ⟨.hbm, 306, rfl⟩
abbrev main_call5_v1 : Ref sig .tc := ⟨.hbm, 307, rfl⟩
abbrev main_call5_cst_0 : Ref sig .tc := ⟨.hbm, 308, rfl⟩
abbrev main_call5_v2 : Ref sig .tc := ⟨.hbm, 309, rfl⟩
abbrev main_call5_v3 : Ref sig .tc := ⟨.hbm, 310, rfl⟩
abbrev main_call5_cst_1 : Ref sig .tc := ⟨.hbm, 311, rfl⟩
abbrev main_call5_call0_v0 : Ref sig .tc := ⟨.hbm, 312, rfl⟩
abbrev main_call5_call0_v1 : Ref sig .tc := ⟨.hbm, 313, rfl⟩
abbrev main_call5_v4 : Ref sig .tc := ⟨.hbm, 314, rfl⟩
abbrev main_call5_v5 : Ref sig .tc := ⟨.hbm, 315, rfl⟩
abbrev main_call5_cst_2 : Ref sig .tc := ⟨.hbm, 316, rfl⟩
abbrev main_call5_v6 : Ref sig .tc := ⟨.hbm, 317, rfl⟩
abbrev main_call5_v7 : Ref sig .tc := ⟨.hbm, 318, rfl⟩
abbrev main_v196 : Ref sig .tc := ⟨.hbm, 319, rfl⟩
abbrev main_cst_45 : Ref sig .tc := ⟨.hbm, 320, rfl⟩
abbrev main_v197 : Ref sig .tc := ⟨.hbm, 321, rfl⟩
abbrev main_cst_46 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_cst_47 : Ref sig .tc := ⟨.hbm, 326, rfl⟩
abbrev main_v201 : Ref sig .tc := ⟨.hbm, 327, rfl⟩
abbrev main_v202 : Ref sig .tc := ⟨.hbm, 328, rfl⟩
abbrev main_v203 : Ref sig .tc := ⟨.hbm, 329, rfl⟩

abbrev nD : Nat := 1
abbrev τ : Topo := Topo.v7x

variable {F : FTy → Type} [FloatOps F]
-- ==== Proof.Norm.lean ====
/- Batch normalisation over the extended reals: the two-pass form of the reference, the one-pass form of the
   kernel (scale and shift from the sums of the values and of their squares), and that they agree on finite values. -/
module

public import Idealize.ShloMosaic.PureOps.Ideal
public import Idealize.ShloMosaic.PureOps.Ideal.Laws

@[expose] public section

noncomputable section

namespace Cert.Protein

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max_zero {x : EReal} (hx : IsReal x) : IsReal (max x 0) := by
  obtain ⟨a, rfl⟩ := hx
  rcases le_total (a : EReal) 0 with h | h
  · rw [max_eq_right h]; exact ⟨0, rfl⟩
  · rw [max_eq_left h]; exact ⟨a, rfl⟩

theorem isReal_zero : IsReal 0 := ⟨0, rfl⟩

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem isReal_of_abs_lt_top {x : EReal} (h : max x (-x) < ⊤) : IsReal x := by
  induction x using EReal.rec with
  | bot => simp at h
  | coe r => exact ⟨r, rfl⟩
  | top => simp at h

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe_coe (x : ℝ) {y : ℝ} (h : y ≠ 0) : Ideal.div (x : EReal) (y : EReal) = ((x / y : ℝ) : EReal) := by
  rw [Ideal.div_coe h, ← EReal.coe_mul, mul_one_div]

theorem sqrt_coe_pos {r : ℝ} (h : 0 ≤ r) : Ideal.sqrt (r : EReal) = ((Real.sqrt r : ℝ) : EReal) := by
  show (if r < 0 then (⊥ : EReal) else (Real.sqrt r : EReal)) = _
  rw [if_neg (not_lt.2 h)]

/-- The mean of the squares less the square of the mean is the mean square distance from the mean. -/
theorem var_eq {ι : Type*} [Fintype ι] (r : ι → ℝ) (N : ℝ) (hN : (Fintype.card ι : ℝ) = N) (h0 : N ≠ 0) :
    (∑ i, r i * r i) / N - (∑ i, r i) / N * ((∑ i, r i) / N) =
      (∑ i, (r i - (∑ i, r i) / N) * (r i - (∑ i, r i) / N)) / N := by
  have h : ∑ i, (r i - (∑ i, r i) / N) * (r i - (∑ i, r i) / N) =
      (∑ i, r i * r i) - 2 * ((∑ i, r i) / N) * (∑ i, r i) + N * ((∑ i, r i) / N * ((∑ i, r i) / N)) := by
    rw [← hN, ← nsmul_eq_mul, ← Finset.card_univ, ← Finset.sum_const, Finset.mul_sum, ← Finset.sum_sub_distrib,
      ← Finset.sum_add_distrib]
    exact Finset.sum_congr rfl fun i _ => by ring
  rw [h]; field_simp; ring

/-- The one-pass scale: the gain over the root of the variance taken from the two sums. -/
def scaleOf (N e g S Q : EReal) : EReal :=
  Ideal.div g (Ideal.sqrt (Ideal.div Q N - Ideal.div S N * Ideal.div S N + e))

/-- The one-pass shift: the offset less the mean times the scale. -/
def shiftOf (N e g b S Q : EReal) : EReal := b - Ideal.div S N * scaleOf N e g S Q

/-- The two-pass normalisation of one value `y` with mean `μ` and variance `v`. -/
def normOf (e g b μ v y : EReal) : EReal := Ideal.div (g * (y - μ)) (Ideal.sqrt (v + e)) + b

/-- On finite values the one-pass form is the two-pass form, and both are finite. -/
theorem affine_eq_norm {ι : Type*} [Fintype ι] (y : ι → EReal) (N e : ℝ) (g b : EReal) (hy : ∀ i, IsReal (y i))
    (hN : (Fintype.card ι : ℝ) = N) (h0 : 0 < N) (he : 0 < e) (hg : IsReal g) (hb : IsReal b) (i : ι) :
    y i * scaleOf N e g (∑ i, y i) (∑ i, y i * y i) + shiftOf N e g b (∑ i, y i) (∑ i, y i * y i) =
        normOf e g b (Ideal.div (∑ i, y i) N)
          (Ideal.div (∑ i, (y i - Ideal.div (∑ i, y i) N) * (y i - Ideal.div (∑ i, y i) N)) N) (y i) ∧
      IsReal (normOf e g b (Ideal.div (∑ i, y i) N)
          (Ideal.div (∑ i, (y i - Ideal.div (∑ i, y i) N) * (y i - Ideal.div (∑ i, y i) N)) N) (y i)) := by
  choose r hr using hy
  obtain ⟨γ, rfl⟩ := hg
  obtain ⟨β, rfl⟩ := hb
  obtain rfl : y = fun i => (r i : EReal) := funext hr
  have hS : (∑ i, (r i : EReal)) = ((∑ i, r i : ℝ) : EReal) := (coe_sum _ _).symm
  have hQ : (∑ i, (r i : EReal) * (r i : EReal)) = ((∑ i, r i * r i : ℝ) : EReal) := by
    rw [coe_sum]; exact Finset.sum_congr rfl fun i _ => (EReal.coe_mul _ _).symm
  have hpos : 0 < (∑ i, (r i - (∑ i, r i) / N) * (r i - (∑ i, r i) / N)) / N + e :=
    add_pos_of_nonneg_of_pos (div_nonneg (Finset.sum_nonneg fun i _ => mul_self_nonneg _) h0.le) he
  have hs : Real.sqrt ((∑ i, (r i - (∑ i, r i) / N) * (r i - (∑ i, r i) / N)) / N + e) ≠ 0 :=
    (Real.sqrt_pos.2 hpos).ne'
  simp only [scaleOf, shiftOf, normOf, hS, hQ, div_coe_coe _ h0.ne', ← coe_sum, ← EReal.coe_mul, ← EReal.coe_sub,
    ← EReal.coe_add, var_eq r N hN h0.ne', sqrt_coe_pos hpos.le, div_coe_coe _ hs]
  refine ⟨?_, _, rfl⟩
  rw [EReal.coe_eq_coe_iff]
  generalize Real.sqrt _ = d at hs ⊢
  generalize (∑ i, r i) / N = μ
  field_simp
  ring

end Cert.Protein
-- ==== Proof.Spec.lean ====
/- The mathematics the kernel and the reference share, over plain index functions. -/
module

public import proofs.«01_k».proof.Proof.Norm
public import Idealize.ShloMosaic.Lib.Pointwise

@[expose] public section

noncomputable section

namespace Cert.Protein

open Idealize.ShloMosaic

/-- A finite sequence of feature rows continued by zero rows. -/
def ext {n : ℕ} {α : Type} (f : Fin n → α → EReal) (l : ℕ) (c : α) : EReal := if h : l < n then f ⟨l, h⟩ c else 0

theorem ext_lt {n : ℕ} {α : Type} (f : Fin n → α → EReal) {l : ℕ} (h : l < n) (c : α) : ext f l c = f ⟨l, h⟩ c := dif_pos h

/-- The convolution of width three at position `l`, output feature `o`. -/
def rowConv {α β : Type} [Fintype α] (x : ℕ → α → EReal) (w : β → α → Fin 3 → EReal) (b : β → EReal) (l : ℕ) (o : β) :
    EReal :=
  ∑ c, x l c * w o c 0 + ∑ c, x (l + 1) c * w o c 1 + ∑ c, x (l + 2) c * w o c 2 + b o

/-- The convolution at one position depends on the three rows it reads. -/
theorem rowConv_congr {α β : Type} [Fintype α] {x x' : ℕ → α → EReal} (w : β → α → Fin 3 → EReal) (b : β → EReal) {l : ℕ}
    (h : ∀ k < 3, x (l + k) = x' (l + k)) (o : β) : rowConv x w b l o = rowConv x' w b l o := by
  have h0 := h 0 (by omega)
  have h1 := h 1 (by omega)
  have h2 := h 2 (by omega)
  rw [Nat.add_zero] at h0
  unfold rowConv
  rw [h0, h1, h2]

theorem rowConv_isReal {α β : Type} [Fintype α] {x : ℕ → α → EReal} {w : β → α → Fin 3 → EReal} {b : β → EReal}
    (hx : ∀ l c, IsReal (x l c)) (hw : ∀ o c k, IsReal (w o c k)) (hb : ∀ o, IsReal (b o)) (l : ℕ) (o : β) :
    IsReal (rowConv x w b l o) :=
  (((IsReal.sum _ _ fun c _ => (hx _ c).mul (hw o c 0)).add (IsReal.sum _ _ fun c _ => (hx _ c).mul (hw o c 1))).add
    (IsReal.sum _ _ fun c _ => (hx _ c).mul (hw o c 2))).add (hb o)

/-- A sequence cut to its first `n` rows, zero from there on. -/
def upTo {α : Type} (n : ℕ) (f : ℕ → α → EReal) (l : ℕ) (c : α) : EReal := if l < n then f l c else 0

/-- A sequence scaled, shifted and rectified. -/
def affRelu {α : Type} (x : ℕ → α → EReal) (sc sh : α → EReal) (l : ℕ) (c : α) : EReal := max (x l c * sc c + sh c) 0

/-- The sum of a kernel's reduction over the first two axes of a rank three block, at a feature. -/
theorem reduceAdd_rows {a b d : ℕ} (h : (⟨3, ![a, b, d]⟩ : Shape).Reduces [0, 1] ⟨1, ![d]⟩)
    (x : (⟨3, ![a, b, d]⟩ : Shape).Idx → EReal) (o : Fin d) :
    Ideal.reduceAdd h x (ix1 o) = ∑ p : Fin a, ∑ l : Fin b, x (ix3 p l o) := by
  unfold Ideal.reduceAdd
  rw [Finset.sum_filter, sum_idx3]
  refine Finset.sum_congr rfl fun p _ => Finset.sum_congr rfl fun l _ => ?_
  have hd : ∀ k : Fin d, (h.drop (ix3 p l k) = ix1 o) ↔ k = o := fun k => by
    constructor
    · intro e
      have := congrArg Fin.val (congrFun e 0)
      exact Fin.ext this
    · rintro rfl
      funext z
      match z with
      | ⟨0, _⟩ => rfl
  simp only [hd]
  rw [Finset.sum_ite_eq']
  simp

/-- The sum of a host reduction over the first and the last axis of a rank three array, at a feature. -/
theorem hostReduceAdd_ends {a b d : ℕ} (h : (⟨3, ![a, d, b]⟩ : Shape).ReducesTo [0, 2] ⟨1, ![d]⟩)
    (x : (⟨3, ![a, d, b]⟩ : Shape).Idx → EReal) (z : EReal) (o : Fin d) :
    Ideal.hostReduceAdd h x z (ix1 o) = z + ∑ p : Fin a, ∑ l : Fin b, x (ix3 p o l) := by
  unfold Ideal.hostReduceAdd
  rw [Finset.sum_filter, sum_idx3]
  refine congrArg (z + ·) (Finset.sum_congr rfl fun p _ => ?_)
  rw [Finset.sum_comm]
  refine Finset.sum_congr rfl fun l _ => ?_
  have hd : ∀ k : Fin d, (h.drop (ix3 p k l) = ix1 o) ↔ k = o := fun k => by
    constructor
    · intro e
      have := congrArg Fin.val (congrFun e 0)
      exact Fin.ext this
    · rintro rfl
      funext z
      match z with
      | ⟨0, _⟩ => rfl
  simp only [hd]
  rw [Finset.sum_ite_eq']
  simp

end Cert.Protein
-- ==== Proof.Payload.lean ====
/- What the kernel bodies compute from their blocks, read at an index. -/
module

public import proofs.«01_k».proof.Proof.Gen.KernelIdeal.Skeleton
public import proofs.«01_k».proof.Proof.Spec

@[expose] public section

set_option maxRecDepth 16384

noncomputable section

namespace Cert.Protein

open Idealize.ShloMosaic Cert.KernelIdeal Cert.KernelIdeal.Gen

/-- A choice by a comparison of two small positions is a choice by their order. -/
theorem select_lt {n k : ℕ} (hn : n < 1024) (hk : k < 1024) (x y : EReal) :
    Scalar.select (IntOp.cmpi .slt (BitVec.ofNat 32 n) (BitVec.ofNat 32 k)) x y = if n < k then x else y := by
  have e1 : ∀ j < 1024, (BitVec.ofNat 32 j).toInt = (j : ℤ) := fun j hj => by
    rw [BitVec.toInt_eq_toNat_of_lt (by rw [BitVec.toNat_ofNat]; omega), BitVec.toNat_ofNat]; omega
  have e : (BitVec.ofNat 32 n).slt (BitVec.ofNat 32 k) = decide (n < k) := by
    rw [BitVec.slt_eq_decide, e1 n hn, e1 k hk]; simp
  by_cases h : n < k
  · simp [Scalar.select, IntOp.cmpi, e, h]
  · simp [Scalar.select, IntOp.cmpi, e, h]

/-- A row of a block at a position taken modulo the sequence length, as the row of the continued sequence. -/
theorem row_mod {α : Type} (f : Fin 1000 → α → EReal) (a k l m : ℕ) (h : a * 1000 + m < a * 1000 + 1000) (hm : m = l + k)
    (hlt : (a * 1000 + m) % 1000 < 1000) (c : α) : f ⟨(a * 1000 + m) % 1000, hlt⟩ c = ext f (l + k) c := by
  have e : (a * 1000 + m) % 1000 = l + k := by omega
  rw [ext_lt f (by omega : l + k < 1000)]
  exact congrArg (fun i => f i c) (Fin.ext e)

/-- A rectified row cut at a position, times a weight, as the cut rectified sequence times the weight. -/
theorem cut_mul {α : Type} (f : Fin 1000 → α → EReal) (sc sh : α → EReal) (n a k l m : ℕ) (hn : n < 1024)
    (h : a * 1000 + m < a * 1000 + 1000) (hm : m = l + k) (hlt : (a * 1000 + m) % 1000 < 1000) (c : α) (w : EReal) :
    Scalar.select (IntOp.cmpi .slt (BitVec.ofNat 32 ((a * 1000 + m) % 1000)) (BitVec.ofNat 32 n))
        (max (f ⟨(a * 1000 + m) % 1000, hlt⟩ c * sc c + sh c) 0 * w) 0 =
      upTo n (affRelu (ext f) sc sh) (l + k) c * w := by
  have e : (a * 1000 + m) % 1000 = l + k := by omega
  rw [select_lt (by omega) hn, row_mod f a k l m h hm hlt c, e]
  unfold upTo affRelu
  split
  · rfl
  · exact (zero_mul w).symm

/-- The first convolution's block of results. -/
theorem k0_pay2_at (x : Vec Ideal S10x1000x32 .f32) (w : Vec Ideal S96x64 .f32) (b : Vec Ideal S1x1x64 .f32)
    (a : Fin 10) (l : Fin 998) (o : Fin 64) : k0_pay2 x w b (ix3 a l o) =
      rowConv (ext fun l c => x (ix3 a l c)) (fun o c k => w (ix2 ⟨32 * k.val + c.val, by omega⟩ o))
        (fun o => b (ix3 0 0 o)) l o := by
  pointwise [k0_pay2]
  rw [select_lt (by omega) (by omega), if_pos l.isLt]
  unfold rowConv
  have hl := l.isLt
  refine congrArg (· + b (ix3 0 0 o)) (congrArg₂ (· + ·) (congrArg₂ (· + ·) ?_ ?_) ?_)
  · exact Finset.sum_congr rfl fun c _ => congrArg₂ (· * ·)
      (row_mod (fun l c => x (ix3 a l c)) a 0 l l (by omega) (by omega) _ c) (congrArg (fun i => w (ix2 i o)) (Fin.ext (by show c.val = 32 * 0 + c.val; omega)))
  · exact Finset.sum_congr rfl fun c _ => congrArg₂ (· * ·)
      (row_mod (fun l c => x (ix3 a l c)) a 1 l (1 + l) (by omega) (by omega) _ c) rfl
  · exact Finset.sum_congr rfl fun c _ => congrArg₂ (· * ·)
      (row_mod (fun l c => x (ix3 a l c)) a 2 l (2 + l) (by omega) (by omega) _ c) rfl

/-- The first convolution's two rows of padding are zero. -/
theorem k0_pay3_at (j : S10x2x64.Idx) : k0_pay3 (F := Ideal) j = 0 := by
  pointwise [k0_pay3]

/-- The sums of a block of the first convolution. -/
theorem k0_pay4_at (x : Vec Ideal S10x1000x32 .f32) (w : Vec Ideal S96x64 .f32) (b : Vec Ideal S1x1x64 .f32) (o : Fin 64) :
    k0_pay4 x w b (ix3 0 0 o) = ∑ a : Fin 10, ∑ l : Fin 998, k0_pay2 x w b (ix3 a l o) := by
  pointwise [k0_pay4]
  exact reduceAdd_rows _ _ o

/-- The sums of squares of a block of the first convolution. -/
theorem k0_pay1_at (y : FVec Ideal S10x998x64 .f32) (o : Fin 64) :
    k0_pay1 y (ix3 0 0 o) = ∑ a : Fin 10, ∑ l : Fin 998, y (ix3 a l o) * y (ix3 a l o) := by
  pointwise [k0_pay1]
  exact reduceAdd_rows _ _ o

/-- The second convolution's block of results. -/
theorem k1_pay1_at (x : Vec Ideal S10x1000x64 .f32) (sc sh : Vec Ideal S1x1x64 .f32) (w : Vec Ideal S192x128 .f32)
    (b : Vec Ideal S1x1x128 .f32) (a : Fin 10) (l : Fin 998) (o : Fin 128) :
    k1_pay1 (k1_pay5 x sc sh w) (k1_pay6 b) (ix3 a l o) = if l.val < 996 then
      rowConv (upTo 998 (affRelu (ext fun l c => x (ix3 a l c)) (fun c => sc (ix3 0 0 c)) (fun c => sh (ix3 0 0 c))))
        (fun o c k => w (ix2 ⟨64 * k.val + c.val, by omega⟩ o)) (fun o => b (ix3 0 0 o)) l o else 0 := by
  pointwise [k1_pay5, k1_pay1, k1_pay6]
  rw [select_lt (by omega) (by omega)]
  refine congrArg (fun z => if l.val < 996 then z else (0 : EReal)) ?_
  unfold rowConv
  have hl := l.isLt
  refine congrArg (· + b (ix3 0 0 o)) (congrArg₂ (· + ·) (congrArg₂ (· + ·) ?_ ?_) ?_)
  · refine Finset.sum_congr rfl fun c _ => ((cut_mul (fun l c => x (ix3 a l c)) (fun c => sc (ix3 0 0 c)) (fun c => sh (ix3 0 0 c))
      998 a 0 l l (by omega) (by omega) (by omega) _ c _).trans ?_)
    exact congrArg (_ * ·) (congrArg (fun i => w (ix2 i o)) (Fin.ext (by show c.val = 64 * 0 + c.val; omega)))
  · exact Finset.sum_congr rfl fun c _ => cut_mul (fun l c => x (ix3 a l c)) (fun c => sc (ix3 0 0 c)) (fun c => sh (ix3 0 0 c))
      998 a 1 l (1 + l) (by omega) (by omega) (by omega) _ c _
  · exact Finset.sum_congr rfl fun c _ => cut_mul (fun l c => x (ix3 a l c)) (fun c => sc (ix3 0 0 c)) (fun c => sh (ix3 0 0 c))
      998 a 2 l (2 + l) (by omega) (by omega) (by omega) _ c _

/-- The second convolution's two rows of padding are zero. -/
theorem k1_pay2_at (j : S10x2x128.Idx) : k1_pay2 (F := Ideal) j = 0 := by
  pointwise [k1_pay2]

/-- The sums of a block of the second convolution. -/
theorem k1_pay3_at (u v : FVec Ideal S10x998x128 .f32) (o : Fin 128) :
    k1_pay3 u v (ix3 0 0 o) = ∑ a : Fin 10, ∑ l : Fin 998, k1_pay1 u v (ix3 a l o) := by
  pointwise [k1_pay3]
  exact reduceAdd_rows _ _ o

/-- The sums of squares of a block of the second convolution. -/
theorem k1_pay4_at (u v : FVec Ideal S10x998x128 .f32) (o : Fin 128) :
    k1_pay4 u v (ix3 0 0 o) = ∑ a : Fin 10, ∑ l : Fin 998, k1_pay1 u v (ix3 a l o) * k1_pay1 u v (ix3 a l o) := by
  pointwise [k1_pay4]
  exact reduceAdd_rows _ _ o

/-- The third convolution's block of results. -/
theorem k2_pay1_at (x : Vec Ideal S10x1000x128 .f32) (sc sh : Vec Ideal S1x1x128 .f32) (w : Vec Ideal S384x128 .f32)
    (b : Vec Ideal S1x1x128 .f32) (a : Fin 10) (l : Fin 998) (o : Fin 128) :
    k2_pay1 (k2_pay5 x sc sh w) (k2_pay6 b) (ix3 a l o) = if l.val < 994 then
      rowConv (upTo 996 (affRelu (ext fun l c => x (ix3 a l c)) (fun c => sc (ix3 0 0 c)) (fun c => sh (ix3 0 0 c))))
        (fun o c k => w (ix2 ⟨128 * k.val + c.val, by omega⟩ o)) (fun o => b (ix3 0 0 o)) l o else 0 := by
  pointwise [k2_pay5, k2_pay1, k2_pay6]
  rw [select_lt (by omega) (by omega)]
  refine congrArg (fun z => if l.val < 994 then z else (0 : EReal)) ?_
  unfold rowConv
  have hl := l.isLt
  refine congrArg (· + b (ix3 0 0 o)) (congrArg₂ (· + ·) (congrArg₂ (· + ·) ?_ ?_) ?_)
  · refine Finset.sum_congr rfl fun c _ => ((cut_mul (fun l c => x (ix3 a l c)) (fun c => sc (ix3 0 0 c)) (fun c => sh (ix3 0 0 c))
      996 a 0 l l (by omega) (by omega) (by omega) _ c _).trans ?_)
    exact congrArg (_ * ·) (congrArg (fun i => w (ix2 i o)) (Fin.ext (by show c.val = 128 * 0 + c.val; omega)))
  · exact Finset.sum_congr rfl fun c _ => cut_mul (fun l c => x (ix3 a l c)) (fun c => sc (ix3 0 0 c)) (fun c => sh (ix3 0 0 c))
      996 a 1 l (1 + l) (by omega) (by omega) (by omega) _ c _
  · exact Finset.sum_congr rfl fun c _ => cut_mul (fun l c => x (ix3 a l c)) (fun c => sc (ix3 0 0 c)) (fun c => sh (ix3 0 0 c))
      996 a 2 l (2 + l) (by omega) (by omega) (by omega) _ c _

/-- The third convolution's two rows of padding are zero. -/
theorem k2_pay2_at (j : S10x2x128.Idx) : k2_pay2 (F := Ideal) j = 0 := by
  pointwise [k2_pay2]

/-- The sums of a block of the third convolution. -/
theorem k2_pay3_at (u v : FVec Ideal S10x998x128 .f32) (o : Fin 128) :
    k2_pay3 u v (ix3 0 0 o) = ∑ a : Fin 10, ∑ l : Fin 998, k2_pay1 u v (ix3 a l o) := by
  pointwise [k2_pay3]
  exact reduceAdd_rows _ _ o

/-- The sums of squares of a block of the third convolution. -/
theorem k2_pay4_at (u v : FVec Ideal S10x998x128 .f32) (o : Fin 128) :
    k2_pay4 u v (ix3 0 0 o) = ∑ a : Fin 10, ∑ l : Fin 998, k2_pay1 u v (ix3 a l o) * k2_pay1 u v (ix3 a l o) := by
  pointwise [k2_pay4]
  exact reduceAdd_rows _ _ o

end Cert.Protein
-- ==== Proof.Head.lean ====
/- The largest rectified value along a sequence and the fusion head: the mathematics, and what the kernel's last two
   bodies compute from their blocks. -/
module

public import proofs.«01_k».proof.Proof.Payload

@[expose] public section

set_option maxRecDepth 16384

noncomputable section

namespace Cert.Protein

open Idealize.ShloMosaic Cert.KernelIdeal Cert.KernelIdeal.Gen

/-- The number the programs add to a variance, `1e-5` as written in single precision. -/
def epsE : EReal := Ideal.ofBits .f32 0x3727C5AC#32

/-- The number of rows of a column, `500`. -/
def rowsE : EReal := Ideal.ofBits .f32 0x43FA0000#32

/-- The mean of a column. -/
def colMean {β : Type} (x : Fin 500 → β → EReal) (o : β) : EReal := Ideal.div (∑ p, x p o) rowsE

/-- The mean square distance of a column from its mean. -/
def colVar {β : Type} (x : Fin 500 → β → EReal) (o : β) : EReal :=
  Ideal.div (∑ p, (x p o - colMean x o) * (x p o - colMean x o)) rowsE

/-- Batch normalisation of the columns. -/
def colNorm {β : Type} (x : Fin 500 → β → EReal) (g b : β → EReal) (p : Fin 500) (o : β) : EReal :=
  normOf epsE (g o) (b o) (colMean x o) (colVar x o) (x p o)

/-- A matrix of rows times a matrix of weights. -/
def rowDot {n : ℕ} {β : Type} (x : Fin 500 → Fin n → EReal) (w : Fin n → β → EReal) (p : Fin 500) (o : β) : EReal :=
  ∑ k, x p k * w k o

/-- The first layer of the head before its normalisation: the drug half and the protein half of the weights. -/
def lin1 (dv pv : Fin 500 → Fin 128 → EReal) (wa wb : Fin 128 → Fin 128 → EReal) (b : Fin 128 → EReal)
    (p : Fin 500) (o : Fin 128) : EReal := rowDot dv wa p o + rowDot pv wb p o + b o

/-- A normalised and rectified layer. -/
def normRelu {β : Type} (x : Fin 500 → β → EReal) (g b : β → EReal) (p : Fin 500) (o : β) : EReal := max (colNorm x g b p o) 0

/-- The second layer of the head before its normalisation. -/
def lin2 (z : Fin 500 → Fin 128 → EReal) (w : Fin 128 → Fin 64 → EReal) (b : Fin 64 → EReal) (p : Fin 500) (o : Fin 64) :
    EReal := rowDot z w p o + b o

/-- The body's first product: the normalised drug features times the drug half of the weights. -/
theorem k4_pay2_at (s ic : Vec Ideal S500x128 .f32) (g b : Vec Ideal S1x128 .f32) (w : Vec Ideal S128x128 .f32)
    (p : Fin 500) (o : Fin 128) : k4_pay2 s ic g b w (ix2 p o) =
      rowDot (colNorm (fun p k => s (ix2 p k) * ic (ix2 p k)) (fun k => g (ix2 0 k)) (fun k => b (ix2 0 k)))
        (fun k o => w (ix2 k o)) p o := by
  pointwise [k4_pay2]
  rfl

/-- The body's second layer, from the first product and the protein features. -/
theorem k4_pay5_at (u pv : Vec Ideal S500x128 .f32) (w : Vec Ideal S128x128 .f32) (b g be : Vec Ideal S1x128 .f32)
    (w2 : Vec Ideal S128x64 .f32) (b2 : Vec Ideal S1x64 .f32) (p : Fin 500) (o : Fin 64) :
    k4_pay5 u (k4_pay3 pv) (k4_pay4 w) (constant S500x128 .f32 0x00000000#32) b g be w2 b2 (ix2 p o) =
      lin2 (normRelu (fun p o => u (ix2 p o) + rowDot (fun p k => pv (ix2 p k)) (fun k o => w (ix2 k o)) p o + b (ix2 0 o))
        (fun k => g (ix2 0 k)) (fun k => be (ix2 0 k))) (fun k o => w2 (ix2 k o)) (fun o => b2 (ix2 0 o)) p o := by
  pointwise [k4_pay5, k4_pay3, k4_pay4]
  rfl

/-- The body's result, from the second layer. -/
theorem k4_pay1_at (z : FVec Ideal S500x64 .f32) (g be : Vec Ideal S1x64 .f32) (w : Vec Ideal S64x8 .f32)
    (p : Fin 500) (o : Fin 8) : k4_pay1 z g be w (ix2 p o) =
      rowDot (normRelu (fun p k => z (ix2 p k)) (fun k => g (ix2 0 k)) (fun k => be (ix2 0 k))) (fun k o => w (ix2 k o)) p o := by
  pointwise [k4_pay1]
  rfl

theorem ofBits_negInf : Ideal.ofBits FTy.f32 0xFF800000#32 = ⊥ := by
  simp [Ideal.ofBits, Ideal.ieee]

theorem ofBits_low_le : Ideal.ofBits FTy.f32 0xF149F2CA#32 ≤ 0 := by
  simp [Ideal.ofBits, Ideal.ieee]
  norm_cast

/-- A maximum folded from the least element is the supremum. -/
theorem fold_max_bot {ι : Type} [Fintype ι] (f : ι → EReal) : Finset.univ.fold max ⊥ f = Finset.univ.sup f := rfl

/-- The largest value over a sequence whose tail holds a value that none of the head lies below. -/
theorem sup_cut {m n : ℕ} (hmn : m ≤ n) (hm : 0 < m) (f : ℕ → EReal) (z : EReal) (hz : ∀ l, z ≤ f l) :
    (Finset.univ.sup fun l : Fin n => if l.val < m then f l else z) = Finset.univ.sup fun l : Fin m => f l := by
  apply le_antisymm
  · refine Finset.sup_le fun l _ => ?_
    split
    · rename_i h
      exact Finset.le_sup (f := fun l : Fin m => f l) (Finset.mem_univ ⟨l.val, h⟩)
    · exact (hz 0).trans (Finset.le_sup (f := fun l : Fin m => f l) (Finset.mem_univ ⟨0, hm⟩))
  · refine Finset.sup_le fun l _ => ?_
    have := Finset.le_sup (f := fun l : Fin n => if l.val < m then f l else z) (Finset.mem_univ ⟨l.val, by omega⟩)
    simpa [l.isLt] using this

/-- The largest rectified value of each sequence of a block. -/
theorem k3_pay1_at (x : Vec Ideal S10x1000x128 .f32) (sc sh : Vec Ideal S1x1x128 .f32) (a : Fin 10) (o : Fin 128) :
    k3_pay1 x sc sh (ix3 0 a o) = Finset.univ.sup fun l : Fin 994 =>
      affRelu (ext fun l c => x (ix3 a l c)) (fun c => sc (ix3 0 0 c)) (fun c => sh (ix3 0 0 c)) l o := by
  pointwise [k3_pay1]
  rw [ofBits_negInf, fold_max_bot]
  rw [← sup_cut (n := 1000) (by omega) (by omega) (fun l => affRelu (ext fun l c => x (ix3 a l c)) (fun c => sc (ix3 0 0 c))
    (fun c => sh (ix3 0 0 c)) l o) _ (fun l => ofBits_low_le.trans (le_max_right _ _))]
  refine congrArg _ (funext fun l => ?_)
  rw [select_lt (by omega) (by omega)]
  unfold affRelu
  rw [ext_lt _ l.isLt]

end Cert.Protein
-- ==== Proof.Host.lean ====
/- What the host's stretches between the regions leave in the buffers the regions read. -/
module

public import proofs.«01_k».proof.Proof.Gen.KernelIdeal.Frame
public import proofs.«01_k».proof.Proof.Head
public import Idealize.ShloMosaic.Lib.Pointwise

@[expose] public section

set_option maxRecDepth 65536
set_option maxHeartbeats 4000000

noncomputable section

namespace Cert.Protein

open Idealize.ShloMosaic Idealize.ShloMosaic.TcCoe Idealize.SL.Sem Cert.KernelIdeal Cert.KernelIdeal.Gen
open Idealize.ShloMosaic.StableHlo

/-- The number of values a feature's statistics are taken over, after each convolution. -/
def count1 : EReal := Ideal.ofBits .f32 0x48F3A700#32
@[inherit_doc count1] def count2 : EReal := Ideal.ofBits .f32 0x48F32A00#32
@[inherit_doc count1] def count3 : EReal := Ideal.ofBits .f32 0x48F2AD00#32

/-- The constant one. -/
def oneE : EReal := Ideal.ofBits .f32 0x3F800000#32

variable (V : Valuation τ sig (Elt Ideal))

/-- The scale taken from the sums of region 0's blocks. -/
theorem scale1 (k : Fin 64) : after hostOps1 V (Proc.devRef .tc main_v41) (ix3 0 0 k) =
    scaleOf count1 epsE (V (Proc.devRef .tc main_arg8) (ix1 k)) (∑ t : Fin 50, V (Proc.devRef .tc main_v23_1) (ix3 t 0 k)) (∑ t : Fin 50, V (Proc.devRef .tc main_v23_2) (ix3 t 0 k)) := by
  after_results
  pointwise []
  rfl

/-- The shift taken from the sums of region 0's blocks. -/
theorem shift1 (k : Fin 64) : after hostOps1 V (Proc.devRef .tc main_v42) (ix3 0 0 k) =
    shiftOf count1 epsE (V (Proc.devRef .tc main_arg8) (ix1 k)) (V (Proc.devRef .tc main_arg9) (ix1 k)) (∑ t : Fin 50, V (Proc.devRef .tc main_v23_1) (ix3 t 0 k)) (∑ t : Fin 50, V (Proc.devRef .tc main_v23_2) (ix3 t 0 k)) := by
  after_results
  pointwise []
  rfl

/-- The bias of the next convolution. -/
theorem bias2 (k : Fin 128) : after hostOps1 V (Proc.devRef .tc main_v40) (ix3 0 0 k) = V (Proc.devRef .tc main_arg11) (ix1 k) := by
  after_results
  pointwise []

/-- The scale taken from the sums of region 1's blocks. -/
theorem scale2 (k : Fin 128) : after hostOps2 V (Proc.devRef .tc main_v61) (ix3 0 0 k) =
    scaleOf count2 epsE (V (Proc.devRef .tc main_arg12) (ix1 k)) (∑ t : Fin 50, V (Proc.devRef .tc main_v43_1) (ix3 t 0 k)) (∑ t : Fin 50, V (Proc.devRef .tc main_v43_2) (ix3 t 0 k)) := by
  after_results
  pointwise []
  rfl

/-- The shift taken from the sums of region 1's blocks. -/
theorem shift2 (k : Fin 128) : after hostOps2 V (Proc.devRef .tc main_v62) (ix3 0 0 k) =
    shiftOf count2 epsE (V (Proc.devRef .tc main_arg12) (ix1 k)) (V (Proc.devRef .tc main_arg13) (ix1 k)) (∑ t : Fin 50, V (Proc.devRef .tc main_v43_1) (ix3 t 0 k)) (∑ t : Fin 50, V (Proc.devRef .tc main_v43_2) (ix3 t 0 k)) := by
  after_results
  pointwise []
  rfl

/-- The bias of the next convolution. -/
theorem bias3 (k : Fin 128) : after hostOps2 V (Proc.devRef .tc main_v60) (ix3 0 0 k) = V (Proc.devRef .tc main_arg15) (ix1 k) := by
  after_results
  pointwise []

/-- The scale taken from the sums of region 2's blocks. -/
theorem scale3 (k : Fin 128) : after hostOps3 V (Proc.devRef .tc main_v80) (ix3 0 0 k) =
    scaleOf count3 epsE (V (Proc.devRef .tc main_arg16) (ix1 k)) (∑ t : Fin 50, V (Proc.devRef .tc main_v63_1) (ix3 t 0 k)) (∑ t : Fin 50, V (Proc.devRef .tc main_v63_2) (ix3 t 0 k)) := by
  after_results
  pointwise []
  rfl

/-- The shift taken from the sums of region 2's blocks. -/
theorem shift3 (k : Fin 128) : after hostOps3 V (Proc.devRef .tc main_v81) (ix3 0 0 k) =
    shiftOf count3 epsE (V (Proc.devRef .tc main_arg16) (ix1 k)) (V (Proc.devRef .tc main_arg17) (ix1 k)) (∑ t : Fin 50, V (Proc.devRef .tc main_v63_1) (ix3 t 0 k)) (∑ t : Fin 50, V (Proc.devRef .tc main_v63_2) (ix3 t 0 k)) := by
  after_results
  pointwise []
  rfl

/-- The bias of the first convolution. -/
theorem bias1 (k : Fin 64) : after hostOps0_2 V (Proc.devRef .tc main_v22) (ix3 0 0 k) = V (Proc.devRef .tc main_arg7) (ix1 k) := by
  after_results
  pointwise []

/-- The weights of convolution 1, laid out tap by tap. -/
theorem weight1 (o : Fin 64) (c : Fin 32) (k : Fin 3) :
    after hostOps0_2 V (Proc.devRef .tc main_v16) (ix2 ⟨32 * k.val + c.val, by omega⟩ o) = V (Proc.devRef .tc main_arg6) (ix3 o c k) := by
  after_results
  pointwise []

/-- The weights of convolution 2, laid out tap by tap. -/
theorem weight2 (o : Fin 128) (c : Fin 64) (k : Fin 3) :
    after hostOps0_2 V (Proc.devRef .tc main_v18) (ix2 ⟨64 * k.val + c.val, by omega⟩ o) = V (Proc.devRef .tc main_arg10) (ix3 o c k) := by
  after_results
  pointwise []

/-- The weights of convolution 3, laid out tap by tap. -/
theorem weight3 (o : Fin 128) (c : Fin 128) (k : Fin 3) :
    after hostOps0_2 V (Proc.devRef .tc main_v20) (ix2 ⟨128 * k.val + c.val, by omega⟩ o) = V (Proc.devRef .tc main_arg14) (ix3 o c k) := by
  after_results
  pointwise []

/-- The reciprocals of the clipped counts, repeated along the features. -/
theorem recip (p : Fin 500) (k : Fin 128) : after hostOps0_2 V (Proc.devRef .tc main_v7) (ix2 p k) =
    Ideal.div 1 (V (Proc.devRef .tc main_v0) (ix1 p)) := by
  after_results
  pointwise []

/-- The counts, at least one. -/
theorem clip (p : Fin 500) (h : V (Proc.devRef .tc main_cst) = fun _ => oneE) :
    after hostOps0_1 V (Proc.devRef .tc main_v0) (ix1 p) =
      max (α := EReal) oneE (V (Proc.devRef .tc main_arg1) (ix1 p)) := by
  after_results
  rw [h]
  rfl

/-- The constant one the counts are clipped at. -/
theorem one0 : after hostOps0 V (Proc.devRef .tc main_cst) = fun _ => oneE := by
  after_results
  rfl

/-- The rows of the embedding table a batch of sequences names. -/
def gatherOf (e : FVec Ideal S22x32 .f32) (q : IVec S500x1000 32) : FVec Ideal S500x1000x32 .f32 :=
  Host.gather gather_S22x32_S500x1000x1_S500x1000x32_2_0_n_n_0_2_132 e
    (broadcastInDim S500x1000x1 ![0, 1] bcast_S500x1000_S500x1000x1_0_1
      (select (cmpi CmpIPredicate.slt q (broadcastInDim S500x1000 ![] bcast_S_S500x1000 (constantI S_ 32 0#32)))
        (addi q (broadcastInDim S500x1000 ![] bcast_S_S500x1000 (constantI S_ 32 22#32))) q))

/-- The embedded sequences. -/
theorem gathered : after hostOps0_2 V (Proc.devRef .tc main_v14) =
    gatherOf (V (Proc.devRef .tc main_arg5)) (V (Proc.devRef .tc main_arg2)) := by
  after_results
  rfl

/-- The pooled rows. -/
theorem pooled (p : Fin 500) (o : Fin 128) : after hostOps4 V (Proc.devRef .tc main_v83) (ix2 p o) =
    V (Proc.devRef .tc main_v82) (ix3 (⟨p.val / 10, by omega⟩ : Fin 50) (⟨p.val % 10, by omega⟩ : Fin 10) o) := by
  after_results
  pointwise []

/-- The output weights in column zero of the widened array. -/
theorem outW (k : Fin 64) : after hostOps4 V (Proc.devRef .tc main_v85) (ix2 k 0) = V (Proc.devRef .tc main_arg26) (ix2 k 0) := by
  after_results
  pointwise []

/-- The drug half of the head's first weights. -/
theorem halfA (k o : Fin 128) : after hostOps4 V (Proc.devRef .tc main_v88) (ix2 k o) = V (Proc.devRef .tc main_arg18) (ix2 ⟨k.val, by omega⟩ o) := by
  after_results
  pointwise []

/-- The protein half of the head's first weights. -/
theorem halfB (k o : Fin 128) : after hostOps4 V (Proc.devRef .tc main_v89) (ix2 k o) = V (Proc.devRef .tc main_arg18) (ix2 ⟨128 + k.val, by omega⟩ o) := by
  after_results
  pointwise []

theorem row_v86 (k : Fin 128) : after hostOps4 V (Proc.devRef .tc main_v86) (ix2 0 k) = V (Proc.devRef .tc main_arg3) (ix1 k) := by
  after_results
  pointwise []

theorem row_v87 (k : Fin 128) : after hostOps4 V (Proc.devRef .tc main_v87) (ix2 0 k) = V (Proc.devRef .tc main_arg4) (ix1 k) := by
  after_results
  pointwise []

theorem row_v90 (k : Fin 128) : after hostOps4 V (Proc.devRef .tc main_v90) (ix2 0 k) = V (Proc.devRef .tc main_arg19) (ix1 k) := by
  after_results
  pointwise []

theorem row_v91 (k : Fin 128) : after hostOps4 V (Proc.devRef .tc main_v91) (ix2 0 k) = V (Proc.devRef .tc main_arg20) (ix1 k) := by
  after_results
  pointwise []

theorem row_v92 (k : Fin 128) : after hostOps4 V (Proc.devRef .tc main_v92) (ix2 0 k) = V (Proc.devRef .tc main_arg21) (ix1 k) := by
  after_results
  pointwise []

theorem row_v93 (k : Fin 64) : after hostOps4 V (Proc.devRef .tc main_v93) (ix2 0 k) = V (Proc.devRef .tc main_arg23) (ix1 k) := by
  after_results
  pointwise []

theorem row_v94 (k : Fin 64) : after hostOps4 V (Proc.devRef .tc main_v94) (ix2 0 k) = V (Proc.devRef .tc main_arg24) (ix1 k) := by
  after_results
  pointwise []

theorem row_v95 (k : Fin 64) : after hostOps4 V (Proc.devRef .tc main_v95) (ix2 0 k) = V (Proc.devRef .tc main_arg25) (ix1 k) := by
  after_results
  pointwise []

/-- The result: column zero of the head's array plus the output bias. -/
theorem result (p : Fin 500) : after hostOps5 V (Proc.devRef .tc main_v100) (ix2 p 0) =
    HAdd.hAdd (α := EReal) (β := EReal) (V (Proc.devRef .tc main_v96) (ix2 p 0)) (V (Proc.devRef .tc main_arg27) (ix1 0)) := by
  after_results
  pointwise []

end Cert.Protein
-- ==== Proof.Blocks.lean ====
/- Reading blocks of ten sequences: a block stored in two pieces, and the sequence a block's row belongs to. -/
module

public import proofs.«01_k».proof.Proof.Gen.KernelIdeal.Frame
public import proofs.«01_k».proof.Proof.Payload
public import Idealize.ShloMosaic.Lib.Pipeline.ValueKit

@[expose] public section

set_option maxRecDepth 16384

noncomputable section

namespace Cert.Protein

open Idealize.ShloMosaic Idealize.ShloMosaic.TcCoe Idealize.SL.Sem Cert.KernelIdeal Cert.KernelIdeal.Gen
open Idealize.ShloMosaic.Pipeline (Dat)

/-- A block stored in two pieces, the first 998 rows of each sequence and the last two, read at an index. -/
theorem canon_two {n : ℕ} (f : (⟨3, ![10, 998, n]⟩ : Shape).Idx → Elt Ideal .f32) (g : (⟨3, ![10, 2, n]⟩ : Shape).Idx → Elt Ideal .f32)
    (hg : ∀ a, (![0, 998, 0] : Fin 3 → ℕ) a + (![10, 2, n] : Fin 3 → ℕ) a ≤ (⟨3, ![10, 1000, n]⟩ : Shape).size a)
    (hf : ∀ a, (![0, 0, 0] : Fin 3 → ℕ) a + (![10, 998, n] : Fin 3 → ℕ) a ≤ (⟨3, ![10, 1000, n]⟩ : Shape).size a)
    (a : Fin 10) (l : Fin 1000) (o : Fin n) :
    View.canon (Val := Elt Ideal) (s := ⟨3, ![10, 1000, n]⟩) (e := .f32)
        [⟨Rect.unit ![0, 998, 0] ![10, 2, n] hg, g⟩, ⟨Rect.unit ![0, 0, 0] ![10, 998, n] hf, f⟩] (ix3 a l o) =
      if h : l.val < 998 then f (ix3 a ⟨l.val, h⟩ o) else g (ix3 a ⟨l.val - 998, by omega⟩ o) := by
  by_cases h : l.val < 998
  · rw [dif_pos h, View.canon_cons_of_not_mem _ _ (by
      rw [Rect.mem_set_unit]; intro hm; exact absurd (hm 1).1 (by show ¬ 998 ≤ l.val; omega))]
    have e : (ix3 a l o : (⟨3, ![10, 1000, n]⟩ : Shape).Idx) =
        (Rect.unit (s := ⟨3, ![10, 1000, n]⟩) ![0, 0, 0] ![10, 998, n] hf).emb (ix3 a ⟨l.val, h⟩ o) := by
      funext z
      match z with
      | ⟨0, _⟩ => exact Fin.ext (by show a.val = 0 + 1 * a.val; omega)
      | ⟨1, _⟩ => exact Fin.ext (by show l.val = 0 + 1 * l.val; omega)
      | ⟨2, _⟩ => exact Fin.ext (by show o.val = 0 + 1 * o.val; omega)
    rw [e, View.canon_cons_emb]
  · rw [dif_neg h]
    have e : (ix3 a l o : (⟨3, ![10, 1000, n]⟩ : Shape).Idx) =
        (Rect.unit (s := ⟨3, ![10, 1000, n]⟩) ![0, 998, 0] ![10, 2, n] hg).emb (ix3 a ⟨l.val - 998, by omega⟩ o) := by
      funext z
      match z with
      | ⟨0, _⟩ => exact Fin.ext (by show a.val = 0 + 1 * a.val; omega)
      | ⟨1, _⟩ => exact Fin.ext (by show l.val = 998 + 1 * (l.val - 998); omega)
      | ⟨2, _⟩ => exact Fin.ext (by show o.val = 0 + 1 * o.val; omega)
    rw [e, View.canon_cons_emb]

/-- Sequence `a` of block `t`. -/
def seqOf (t : ℕ) (h : t < 50) (a : Fin 10) : Fin 500 := ⟨10 * t + a.val, by omega⟩

end Cert.Protein
-- ==== Proof.Chain.lean ====
/- The protein branch in plain sums: three convolutions, each normalised over the batch and rectified, then the largest
   value of each sequence. The one-pass statistics and masked rows of the regions are compared with it here. -/
module

public import proofs.«01_k».proof.Proof.Blocks
public import proofs.«01_k».proof.Proof.Head

@[expose] public section

set_option maxRecDepth 16384

noncomputable section

namespace Cert.Protein

open Idealize.ShloMosaic

/-- The sum of a feature over the sequences and their first `n` positions. -/
def total {β : Type} (n : ℕ) (y : Fin 500 → ℕ → β → EReal) (o : β) : EReal := ∑ p, ∑ l : Fin n, y p l.val o

/-- The mean of a feature over the sequences and their first `n` positions, `N` in all. -/
def mean {β : Type} (n : ℕ) (N : EReal) (y : Fin 500 → ℕ → β → EReal) (o : β) : EReal := Ideal.div (total n y o) N

/-- The mean square distance of a feature from its mean. -/
def variance {β : Type} (n : ℕ) (N : EReal) (y : Fin 500 → ℕ → β → EReal) (o : β) : EReal :=
  Ideal.div (total n (fun p l o => (y p l o - mean n N y o) * (y p l o - mean n N y o)) o) N

/-- Batch normalisation of the sequences. -/
def bnorm {β : Type} (n : ℕ) (N e : EReal) (y : Fin 500 → ℕ → β → EReal) (g b : β → EReal) (p : Fin 500) (l : ℕ) (o : β) :
    EReal := normOf e (g o) (b o) (mean n N y o) (variance n N y o) (y p l o)

/-- A layer: a convolution, batch normalisation over its `n` positions, and the rectifier. -/
def layer {α β : Type} [Fintype α] (n : ℕ) (N : EReal) (x : Fin 500 → ℕ → α → EReal) (w : β → α → Fin 3 → EReal)
    (b g be : β → EReal) (p : Fin 500) (l : ℕ) (o : β) : EReal :=
  max (bnorm n N epsE (fun p l o => rowConv (x p) w b l o) g be p l o) 0

/-- Summing the blocks' rows is summing the sequences. -/
theorem sum_blocks (f : Fin 500 → EReal) : ∑ t : Fin 50, ∑ a : Fin 10, f (seqOf t.val t.isLt a) = ∑ p, f p := by
  rw [← Finset.sum_product']
  refine Finset.sum_bij' (fun z _ => seqOf z.1.val z.1.isLt z.2)
    (fun p _ => ((⟨p.val / 10, by omega⟩ : Fin 50), (⟨p.val % 10, by omega⟩ : Fin 10)))
    (fun _ _ => Finset.mem_univ _) (fun _ _ => Finset.mem_univ _) ?_ ?_ (fun _ _ => rfl)
  · rintro ⟨t, a⟩ -
    refine Prod.ext (Fin.ext ?_) (Fin.ext ?_)
    · show (10 * t.val + a.val) / 10 = t.val
      omega
    · show (10 * t.val + a.val) % 10 = a.val
      omega
  · intro p _
    refine Fin.ext ?_
    show 10 * (p.val / 10) + p.val % 10 = p.val
    omega

/-- A sum whose terms vanish from `n` on. -/
theorem sum_cut {n m : ℕ} (h : n ≤ m) (f g : ℕ → EReal) (hg : ∀ l, g l = if l < n then f l else 0) :
    ∑ l : Fin m, g l.val = ∑ l : Fin n, f l.val := by
  rw [Fin.sum_univ_eq_sum_range (fun l => g l) m, Fin.sum_univ_eq_sum_range (fun l => f l) n]
  rw [← Finset.sum_subset (Finset.range_mono h) (fun l _ hl => by
    rw [hg, if_neg (by simpa using hl)])]
  exact Finset.sum_congr rfl fun l hl => by rw [hg, if_pos (by simpa using hl)]

/-- The sum of the blocks' masked sums is the total. -/
theorem sum_masked {β : Type} {n : ℕ} (hn : n ≤ 998) (Y y : Fin 500 → ℕ → β → EReal)
    (hY : ∀ p l o, Y p l o = if l < n then y p l o else 0) (o : β) :
    ∑ t : Fin 50, ∑ a : Fin 10, ∑ l : Fin 998, Y (seqOf t.val t.isLt a) l.val o = total n y o := by
  rw [sum_blocks fun p => ∑ l : Fin 998, Y p l.val o]
  exact Finset.sum_congr rfl fun p _ => sum_cut hn (fun l => y p l o) (fun l => Y p l o) fun l => hY p l o

/-- Scaling and shifting by the one-pass statistics is batch normalisation, on finite values; the result is finite. -/
theorem affine_bnorm {β : Type} (n : ℕ) (N e : ℝ) (hN : (500 : ℝ) * n = N) (h0 : 0 < N) (he : 0 < e)
    (y : Fin 500 → ℕ → β → EReal) (g b : β → EReal) (hy : ∀ p, ∀ l < n, ∀ o, IsReal (y p l o)) (hg : ∀ o, IsReal (g o))
    (hb : ∀ o, IsReal (b o)) (p : Fin 500) (l : ℕ) (hl : l < n) (o : β) :
    y p l o * scaleOf N e (g o) (total n y o) (total n (fun p l o => y p l o * y p l o) o) +
        shiftOf N e (g o) (b o) (total n y o) (total n (fun p l o => y p l o * y p l o) o) = bnorm n N e y g b p l o ∧
      IsReal (bnorm n N e y g b p l o) := by
  have h := affine_eq_norm (ι := Fin 500 × Fin n) (fun z => y z.1 z.2.val o) N e (g o) (b o) (fun z => hy _ _ z.2.isLt o)
    (by rw [Fintype.card_prod, Fintype.card_fin, Fintype.card_fin]; push_cast; exact hN) h0 he (hg o) (hb o) (p, ⟨l, hl⟩)
  simp only [Fintype.sum_prod_type] at h
  exact h

end Cert.Protein
-- ==== Proof.Args.lean ====
/- The arguments by name, and the function of them both programs compute. -/
module

public import proofs.«01_k».proof.Proof.Host
public import proofs.«01_k».proof.Proof.Chain

@[expose] public section

set_option maxRecDepth 16384

noncomputable section

namespace Cert.Protein

open Idealize.ShloMosaic Idealize.ShloMosaic.TcCoe Idealize.SL.Sem Cert.KernelIdeal Cert.KernelIdeal.Gen

/-- The argument arrays. -/
structure Args where
  summed : FVec Ideal S500x128 .f32
  counts : FVec Ideal S500 .f32
  protein : IVec S500x1000 32
  g : FVec Ideal S128 .f32
  be : FVec Ideal S128 .f32
  emb : FVec Ideal S22x32 .f32
  w1 : FVec Ideal S64x32x3 .f32
  b1 : FVec Ideal S64 .f32
  g1 : FVec Ideal S64 .f32
  be1 : FVec Ideal S64 .f32
  w2 : FVec Ideal S128x64x3 .f32
  b2 : FVec Ideal S128 .f32
  g2 : FVec Ideal S128 .f32
  be2 : FVec Ideal S128 .f32
  w3 : FVec Ideal S128x128x3 .f32
  b3 : FVec Ideal S128 .f32
  g3 : FVec Ideal S128 .f32
  be3 : FVec Ideal S128 .f32
  f1 : FVec Ideal S256x128 .f32
  fb1 : FVec Ideal S128 .f32
  fg1 : FVec Ideal S128 .f32
  fbe1 : FVec Ideal S128 .f32
  f2 : FVec Ideal S128x64 .f32
  fb2 : FVec Ideal S64 .f32
  fg2 : FVec Ideal S64 .f32
  fbe2 : FVec Ideal S64 .f32
  o : FVec Ideal S64x1 .f32
  ob : FVec Ideal S1 .f32

/-- The taps of a convolution's weights. -/
def taps {co ci : ℕ} (w : FVec Ideal ⟨3, ![co, ci, 3]⟩ .f32) : Fin co → Fin ci → Fin 3 → EReal := fun o c k => w (ix3 o c k)

/-- A vector's entries. -/
def vec {n : ℕ} (b : FVec Ideal ⟨1, ![n]⟩ .f32) : Fin n → EReal := fun k => b (ix1 k)

namespace Args

variable (A : Args)

/-- The embedded sequences, zero past their ends. -/
def seq0 : Fin 500 → ℕ → Fin 32 → EReal := fun p => ext fun l c => gatherOf A.emb A.protein (ix3 p l c)

/-- The sequences after the first layer. -/
def seq1 : Fin 500 → ℕ → Fin 64 → EReal := layer 998 count1 A.seq0 (taps A.w1) (vec A.b1) (vec A.g1) (vec A.be1)

/-- The sequences after the second layer. -/
def seq2 : Fin 500 → ℕ → Fin 128 → EReal := layer 996 count2 A.seq1 (taps A.w2) (vec A.b2) (vec A.g2) (vec A.be2)

/-- The sequences after the third layer. -/
def seq3 : Fin 500 → ℕ → Fin 128 → EReal := layer 994 count3 A.seq2 (taps A.w3) (vec A.b3) (vec A.g3) (vec A.be3)

/-- The protein features: the largest value along each sequence. -/
def pooled (p : Fin 500) (o : Fin 128) : EReal := Finset.univ.sup fun l : Fin 994 => A.seq3 p l o

/-- The drug features: the mean over a graph's nodes, normalised over the batch. -/
def drug : Fin 500 → Fin 128 → EReal :=
  colNorm (fun p k => Ideal.div (A.summed (ix2 p k)) (max oneE (A.counts (ix1 p)))) (vec A.g) (vec A.be)

/-- The head's first layer. -/
def head1 : Fin 500 → Fin 128 → EReal :=
  normRelu (lin1 A.drug A.pooled (fun k o => A.f1 (ix2 ⟨k.val, by omega⟩ o)) (fun k o => A.f1 (ix2 ⟨128 + k.val, by omega⟩ o))
    (vec A.fb1)) (vec A.fg1) (vec A.fbe1)

/-- The head's second layer. -/
def head2 : Fin 500 → Fin 64 → EReal :=
  normRelu (lin2 A.head1 (fun k o => A.f2 (ix2 k o)) (vec A.fb2)) (vec A.fg2) (vec A.fbe2)

/-- The prediction for a pair. -/
def out (p : Fin 500) : EReal := (∑ k : Fin 64, A.head2 p k * A.o (ix2 k 0)) + A.ob (ix1 0)

/-- The embedding table and the parameters of the three layers are finite. -/
structure Finite : Prop where
  emb : ∀ i, IsReal (A.emb i)
  w1 : ∀ i, IsReal (A.w1 i)
  b1 : ∀ i, IsReal (A.b1 i)
  g1 : ∀ i, IsReal (A.g1 i)
  be1 : ∀ i, IsReal (A.be1 i)
  w2 : ∀ i, IsReal (A.w2 i)
  b2 : ∀ i, IsReal (A.b2 i)
  g2 : ∀ i, IsReal (A.g2 i)
  be2 : ∀ i, IsReal (A.be2 i)
  w3 : ∀ i, IsReal (A.w3 i)
  b3 : ∀ i, IsReal (A.b3 i)
  g3 : ∀ i, IsReal (A.g3 i)
  be3 : ∀ i, IsReal (A.be3 i)

end Args

theorem count1_eq : count1 = ((499000 : ℝ) : EReal) := by
  simp [count1, Ideal.ofBits, Ideal.ieee]
  rw [← EReal.coe_mul, EReal.coe_eq_coe_iff]
  norm_num

theorem count2_eq : count2 = ((498000 : ℝ) : EReal) := by
  simp [count2, Ideal.ofBits, Ideal.ieee]
  rw [← EReal.coe_mul, EReal.coe_eq_coe_iff]
  norm_num

theorem count3_eq : count3 = ((497000 : ℝ) : EReal) := by
  simp [count3, Ideal.ofBits, Ideal.ieee]
  rw [← EReal.coe_mul, EReal.coe_eq_coe_iff]
  norm_num

theorem oneE_eq : oneE = 1 := by
  simp [oneE, Ideal.ofBits, Ideal.ieee]
  rw [← EReal.coe_mul, ← EReal.coe_one, EReal.coe_eq_coe_iff]
  norm_num

/-- The normalisation's small constant is a positive number. -/
theorem epsE_pos : ∃ e : ℝ, 0 < e ∧ epsE = (e : EReal) := by
  refine ⟨10995116 * ((2 : ℝ) ^ 40)⁻¹, by positivity, ?_⟩
  simp [epsE, Ideal.ofBits, Ideal.ieee]

/-- Multiplying by the reciprocal of a value at least one is dividing by it. -/
theorem mul_recip (x y : EReal) : x * Ideal.div 1 (max oneE y) = Ideal.div x (max oneE y) := by
  have h : max oneE y ≠ 0 := by
    rw [oneE_eq]
    exact (lt_of_lt_of_le zero_lt_one (le_max_left _ _)).ne'
  unfold Ideal.div
  rw [if_neg h, if_neg h, one_mul]

/-- A layer's affine form on the masked rows, where the statistics are the totals; and the layer's values are finite. -/
theorem layer_eq {α β : Type} [Fintype α] (n : ℕ) (N : ℝ) (hN : (500 : ℝ) * n = N) (h0 : 0 < N) (x : Fin 500 → ℕ → α → EReal)
    (w : β → α → Fin 3 → EReal) (b g be : β → EReal) (hx : ∀ p, ∀ l < n + 2, ∀ c, IsReal (x p l c))
    (hw : ∀ o c k, IsReal (w o c k)) (hb : ∀ o, IsReal (b o)) (hg : ∀ o, IsReal (g o)) (hbe : ∀ o, IsReal (be o))
    (S Q : β → EReal) (hS : ∀ o, S o = total n (fun p l o => rowConv (x p) w b l o) o)
    (hQ : ∀ o, Q o = total n (fun p l o => rowConv (x p) w b l o * rowConv (x p) w b l o) o)
    (p : Fin 500) (l : ℕ) (hl : l < n) (o : β) :
    max (rowConv (x p) w b l o * scaleOf N epsE (g o) (S o) (Q o) + shiftOf N epsE (g o) (be o) (S o) (Q o)) 0 =
        layer n N x w b g be p l o ∧ IsReal (layer n N x w b g be p l o) := by
  obtain ⟨e, he, hE⟩ := epsE_pos
  have hy : ∀ p, ∀ l < n, ∀ o, IsReal (rowConv (x p) w b l o) := fun p l hl o => by
    have h : rowConv (x p) w b l o = rowConv (upTo (n + 2) (x p)) w b l o :=
      rowConv_congr w b (fun k hk => by funext c; unfold upTo; rw [if_pos (by omega)]) o
    rw [h]
    refine rowConv_isReal (fun l c => ?_) hw hb l o
    unfold upTo
    split
    · rename_i h; exact hx p l h c
    · exact isReal_zero
  have h := affine_bnorm n N e hN h0 he (fun p l o => rowConv (x p) w b l o) g be hy hg hbe p l hl o
  unfold layer
  rw [hS, hQ, hE]
  exact ⟨congrArg (fun z => max z 0) h.1, h.2.max_zero⟩

end Cert.Protein
-- ==== Proof.Region0.lean ====
/- What the first convolution's region leaves in its three result arrays. -/
module

public import proofs.«01_k».proof.Proof.Gen.KernelIdeal.Frame
public import proofs.«01_k».proof.Proof.Payload
public import proofs.«01_k».proof.Proof.Blocks

@[expose] public section

set_option maxRecDepth 16384

noncomputable section

namespace Cert.Protein

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c.tc : Thread nD τ).loc b))

/-- Which block each window shows at a grid point. -/
theorem idx0 : ∀ t : Fin cfg0.N, win0_0.index t = ![t.val, 0, 0] ∧ win0_1.index t = ![0, 0] ∧ win0_2.index t = ![0, 0, 0] ∧
    win0_5.index t = ![t.val, 0, 0] ∧ win0_6.index t = ![t.val, 0, 0] ∧ win0_7.index t = ![t.val, 0, 0] :=
  (by decide +kernel : ∀ t : Fin grid0.N, _)

/-- The first convolution of the whole array of sequences, at a sequence, a position below 998 and a feature. -/
def conv1Of (X : FVec Ideal S500x1000x32 .f32) (Wt : FVec Ideal S96x64 .f32) (b : FVec Ideal S1x1x64 .f32)
    (p : Fin 500) (l : ℕ) (o : Fin 64) : EReal :=
  rowConv (ext fun l c => X (ix3 p l c)) (fun o c k => Wt (ix2 ⟨32 * k.val + c.val, by omega⟩ o)) (fun o => b (ix3 0 0 o)) l o

/-- A block's value in terms of the whole arrays. -/
theorem point0 (c : Dev nD) (t : Fin cfg0.N) (ht : t.val < 50) (a : Fin 10) (l : Fin 998) (o : Fin 64) :
    k0_pay2 (iblk0 V c 0 t) (iblk0 V c 1 t) (iblk0 V c 2 t) (ix3 a l o) =
      conv1Of (V c main_v14) (V c main_v16) (V c main_v22) (seqOf t.val ht a) l.val o := by
  refine (k0_pay2_at (iblk0 V c 0 t) (iblk0 V c 1 t) (iblk0 V c 2 t) a l o).trans ?_
  unfold conv1Of
  congr 1
  · refine congrArg ext (funext fun l => funext fun k => ?_)
    unfold seqOf
    blk_ext [iblk0, idx0 t]
  · funext o k z
    blk_ext [iblk0, idx0 t]
  · funext o
    blk_ext [iblk0, idx0 t]

/-- The array of the first convolution: its values, and zero in the last two rows of each sequence. -/
theorem arr0_5 (c : Dev nD) : (dat0 V c).arrAt 5 cfg0.N = fun i : S500x1000x64.Idx =>
    if (i 1).val < 998 then conv1Of (V c main_v14) (V c main_v16) (V c main_v22) (i 0) (i 1).val (i 2) else 0 := by
  refine (dat0 V c).arrAt_eq_of_covers 5 _ (by decide +kernel) fun t _ y => ?_
  have ht : t.val < 50 := t.isLt
  obtain ⟨-, -, -, h5, -, -⟩ := idx0 t
  rw [after0_5]
  unfold outsAt0
  frame_out
  idx_vars y
  have e : ((View.whole main_v23_0).slice (win0_5.rect t)).emb (ix3 y0 y1 y2) = ix3 (seqOf t.val ht y0) y1 y2 := by
    funext z
    match z with
    | ⟨0, _⟩ => exact Fin.ext (by show win0_5.index t 0 * 10 + 1 * y0.val = 10 * t.val + y0.val; rw [h5]; show t.val * 10 + _ = _; omega)
    | ⟨1, _⟩ => exact Fin.ext (by show win0_5.index t 1 * 1000 + 1 * y1.val = y1.val; rw [h5]; show 0 * 1000 + _ = _; omega)
    | ⟨2, _⟩ => exact Fin.ext (by show win0_5.index t 2 * 64 + 1 * y2.val = y2.val; rw [h5]; show 0 * 64 + _ = _; omega)
  refine Eq.trans ?_ (congrArg (fun i : S500x1000x64.Idx => if (i 1).val < 998 then
    conv1Of (V c main_v14) (V c main_v16) (V c main_v22) (i 0) (i 1).val (i 2) else 0) e.symm)
  refine (canon_two _ _ _ _ _ _ _).trans ?_
  show _ = if y1.val < 998 then conv1Of _ _ _ (seqOf t.val ht y0) y1.val y2 else 0
  by_cases h : y1.val < 998
  · rw [dif_pos h, if_pos h]; exact point0 V c t ht y0 ⟨_, h⟩ y2
  · rw [dif_neg h, if_neg h]; exact k0_pay3_at _

/-- The array of the first convolution's sums over each block of ten sequences. -/
theorem arr0_6 (c : Dev nD) : (dat0 V c).arrAt 6 cfg0.N = fun i : S50x1x64.Idx => ∑ a : Fin 10, ∑ l : Fin 998,
    conv1Of (V c main_v14) (V c main_v16) (V c main_v22) (seqOf (i 0).val (i 0).isLt a) l.val (i 2) := by
  refine (dat0 V c).arrAt_eq_of_covers 6 _ (by decide +kernel) fun t _ y => ?_
  have ht : t.val < 50 := t.isLt
  obtain ⟨-, -, -, -, h6, -⟩ := idx0 t
  rw [after0_6]
  unfold outsAt0
  frame_out
  idx_vars y
  obtain rfl := Subsingleton.elim y0 0
  obtain rfl := Subsingleton.elim y1 0
  have e : ((View.whole main_v23_1).slice (win0_6.rect t)).emb (ix3 0 0 y2) = ix3 (⟨t.val, ht⟩ : Fin 50) 0 y2 := by
    funext z
    match z with
    | ⟨0, _⟩ => exact Fin.ext (by show win0_6.index t 0 * 1 + 1 * 0 = t.val; rw [h6]; show t.val * 1 + _ = _; omega)
    | ⟨1, _⟩ => exact Fin.ext (by show win0_6.index t 1 * 1 + 1 * 0 = 0; rw [h6]; rfl)
    | ⟨2, _⟩ => exact Fin.ext (by show win0_6.index t 2 * 64 + 1 * y2.val = y2.val; rw [h6]; show 0 * 64 + _ = _; omega)
  refine Eq.trans ?_ (congrArg (fun i : S50x1x64.Idx => ∑ a : Fin 10, ∑ l : Fin 998,
    conv1Of (V c main_v14) (V c main_v16) (V c main_v22) (seqOf (i 0).val (i 0).isLt a) l.val (i 2)) e.symm)
  refine (k0_pay4_at _ _ _ y2).trans (Finset.sum_congr rfl fun a _ => Finset.sum_congr rfl fun l _ => ?_)
  exact point0 V c t ht a l y2

/-- The array of the sums of squares over each block of ten sequences. -/
theorem arr0_7 (c : Dev nD) : (dat0 V c).arrAt 7 cfg0.N = fun i : S50x1x64.Idx => ∑ a : Fin 10, ∑ l : Fin 998,
    conv1Of (V c main_v14) (V c main_v16) (V c main_v22) (seqOf (i 0).val (i 0).isLt a) l.val (i 2) *
      conv1Of (V c main_v14) (V c main_v16) (V c main_v22) (seqOf (i 0).val (i 0).isLt a) l.val (i 2) := by
  refine (dat0 V c).arrAt_eq_of_covers 7 _ (by decide +kernel) fun t _ y => ?_
  have ht : t.val < 50 := t.isLt
  obtain ⟨-, -, -, -, -, h7⟩ := idx0 t
  rw [after0_7]
  unfold outsAt0
  frame_out
  idx_vars y
  obtain rfl := Subsingleton.elim y0 0
  obtain rfl := Subsingleton.elim y1 0
  have e : ((View.whole main_v23_2).slice (win0_7.rect t)).emb (ix3 0 0 y2) = ix3 (⟨t.val, ht⟩ : Fin 50) 0 y2 := by
    funext z
    match z with
    | ⟨0, _⟩ => exact Fin.ext (by show win0_7.index t 0 * 1 + 1 * 0 = t.val; rw [h7]; show t.val * 1 + _ = _; omega)
    | ⟨1, _⟩ => exact Fin.ext (by show win0_7.index t 1 * 1 + 1 * 0 = 0; rw [h7]; rfl)
    | ⟨2, _⟩ => exact Fin.ext (by show win0_7.index t 2 * 64 + 1 * y2.val = y2.val; rw [h7]; show 0 * 64 + _ = _; omega)
  refine Eq.trans ?_ (congrArg (fun i : S50x1x64.Idx => ∑ a : Fin 10, ∑ l : Fin 998,
    conv1Of (V c main_v14) (V c main_v16) (V c main_v22) (seqOf (i 0).val (i 0).isLt a) l.val (i 2) *
      conv1Of (V c main_v14) (V c main_v16) (V c main_v22) (seqOf (i 0).val (i 0).isLt a) l.val (i 2)) e.symm)
  refine (k0_pay1_at _ y2).trans (Finset.sum_congr rfl fun a _ => Finset.sum_congr rfl fun l _ => ?_)
  exact congrArg (fun z : EReal => z * z) (point0 V c t ht a l y2)

end Cert.Protein
-- ==== Proof.Region1.lean ====
/- What the second convolution's region leaves in its three result arrays. -/
module

public import proofs.«01_k».proof.Proof.Gen.KernelIdeal.Frame
public import proofs.«01_k».proof.Proof.Payload
public import proofs.«01_k».proof.Proof.Blocks

@[expose] public section

set_option maxRecDepth 65536
set_option maxHeartbeats 4000000

noncomputable section

namespace Cert.Protein

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c.tc : Thread nD τ).loc b))

/-- Which block each window shows at a grid point. -/
theorem idx1 : ∀ t : Fin cfg1.N, win1_0.index t = ![t.val, 0, 0] ∧ win1_1.index t = ![0, 0] ∧ win1_2.index t = ![0, 0, 0] ∧
    win1_3.index t = ![0, 0, 0] ∧ win1_4.index t = ![0, 0, 0] ∧
    win1_5.index t = ![t.val, 0, 0] ∧ win1_6.index t = ![t.val, 0, 0] ∧ win1_7.index t = ![t.val, 0, 0] :=
  (by decide +kernel : ∀ t : Fin grid1.N, _)

/-- The second convolution of the whole array of sequences, scaled, shifted and rectified, zero from position 996 on. -/
def conv2Of (X : FVec Ideal S500x1000x64 .f32) (Wt : FVec Ideal S192x128 .f32) (b : FVec Ideal S1x1x128 .f32)
    (sc sh : FVec Ideal S1x1x64 .f32) (p : Fin 500) (l : ℕ) (o : Fin 128) : EReal :=
  if l < 996 then
    rowConv (upTo 998 (affRelu (ext fun l c => X (ix3 p l c)) (fun c => sc (ix3 0 0 c)) (fun c => sh (ix3 0 0 c))))
      (fun o c k => Wt (ix2 ⟨64 * k.val + c.val, by omega⟩ o)) (fun o => b (ix3 0 0 o)) l o else 0

/-- A block's value in terms of the whole arrays. -/
theorem point1 (c : Dev nD) (t : Fin cfg1.N) (ht : t.val < 50) (a : Fin 10) (l : Fin 998) (o : Fin 128) :
    k1_pay1 (k1_pay5 (iblk1 V c 0 t) (iblk1 V c 3 t) (iblk1 V c 4 t) (iblk1 V c 1 t)) (k1_pay6 (iblk1 V c 2 t)) (ix3 a l o) =
      conv2Of (V c main_v23_0) (V c main_v18) (V c main_v40) (V c main_v41) (V c main_v42) (seqOf t.val ht a) l.val o := by
  obtain ⟨i0, i1, i2, i3, i4, -, -, -⟩ := idx1 t
  refine (k1_pay1_at (iblk1 V c 0 t) (iblk1 V c 3 t) (iblk1 V c 4 t) (iblk1 V c 1 t) (iblk1 V c 2 t) a l o).trans ?_
  unfold conv2Of
  have hx : (fun (l : Fin 1000) (k : Fin 64) => iblk1 V c 0 t (ix3 a l k)) = fun l k => V c main_v23_0 (ix3 (seqOf t.val ht a) l k) := by
    funext l k
    unfold seqOf
    blk_ext [iblk1, i0]
  have hsc : (fun k : Fin 64 => iblk1 V c 3 t (ix3 0 0 k)) = fun k => V c main_v41 (ix3 0 0 k) := by
    funext k
    blk_ext [iblk1, i3]
  have hsh : (fun k : Fin 64 => iblk1 V c 4 t (ix3 0 0 k)) = fun k => V c main_v42 (ix3 0 0 k) := by
    funext k
    blk_ext [iblk1, i4]
  have hw : (fun (o : Fin 128) (k : Fin 64) (z : Fin 3) => iblk1 V c 1 t (ix2 ⟨64 * z.val + k.val, by omega⟩ o)) =
      fun o k z => V c main_v18 (ix2 ⟨64 * z.val + k.val, by omega⟩ o) := by
    funext o k z
    blk_ext [iblk1, i1]
  have hb : (fun o : Fin 128 => iblk1 V c 2 t (ix3 0 0 o)) = fun o => V c main_v40 (ix3 0 0 o) := by
    funext o
    blk_ext [iblk1, i2]
  rw [hx, hsc, hsh, hw, hb]

/-- The array of the second convolution: its values, and zero in the last rows of each sequence. -/
theorem arr1_5 (c : Dev nD) : (dat1 V c).arrAt 5 cfg1.N = fun i : S500x1000x128.Idx =>
    conv2Of (V c main_v23_0) (V c main_v18) (V c main_v40) (V c main_v41) (V c main_v42) (i 0) (i 1).val (i 2) := by
  refine (dat1 V c).arrAt_eq_of_covers 5 _ (by decide +kernel) fun t _ y => ?_
  have ht : t.val < 50 := t.isLt
  obtain ⟨-, -, -, -, -, h5, -, -⟩ := idx1 t
  rw [after1_5]
  unfold outsAt1
  frame_out
  idx_vars y
  have e : ((View.whole main_v43_0).slice (win1_5.rect t)).emb (ix3 y0 y1 y2) = ix3 (seqOf t.val ht y0) y1 y2 := by
    funext z
    match z with
    | ⟨0, _⟩ => exact Fin.ext (by show win1_5.index t 0 * 10 + 1 * y0.val = 10 * t.val + y0.val; rw [h5]; show t.val * 10 + _ = _; omega)
    | ⟨1, _⟩ => exact Fin.ext (by show win1_5.index t 1 * 1000 + 1 * y1.val = y1.val; rw [h5]; show 0 * 1000 + _ = _; omega)
    | ⟨2, _⟩ => exact Fin.ext (by show win1_5.index t 2 * 128 + 1 * y2.val = y2.val; rw [h5]; show 0 * 128 + _ = _; omega)
  refine Eq.trans ?_ (congrArg (fun i : S500x1000x128.Idx => conv2Of (V c main_v23_0) (V c main_v18) (V c main_v40) (V c main_v41) (V c main_v42) (i 0) (i 1).val (i 2)) e.symm)
  refine (canon_two _ _ _ _ _ _ _).trans ?_
  show _ = conv2Of _ _ _ _ _ (seqOf t.val ht y0) y1.val y2
  by_cases h : y1.val < 998
  · rw [dif_pos h]; exact point1 V c t ht y0 ⟨_, h⟩ y2
  · rw [dif_neg h]
    unfold conv2Of
    rw [if_neg (by omega)]; exact k1_pay2_at _

/-- The array of the second convolution's sums over each block of ten sequences. -/
theorem arr1_6 (c : Dev nD) : (dat1 V c).arrAt 6 cfg1.N = fun i : S50x1x128.Idx => ∑ a : Fin 10, ∑ l : Fin 998,
    conv2Of (V c main_v23_0) (V c main_v18) (V c main_v40) (V c main_v41) (V c main_v42) (seqOf (i 0).val (i 0).isLt a) l.val (i 2) := by
  refine (dat1 V c).arrAt_eq_of_covers 6 _ (by decide +kernel) fun t _ y => ?_
  have ht : t.val < 50 := t.isLt
  obtain ⟨-, -, -, -, -, -, h6, -⟩ := idx1 t
  rw [after1_6]
  unfold outsAt1
  frame_out
  idx_vars y
  obtain rfl := Subsingleton.elim y0 0
  obtain rfl := Subsingleton.elim y1 0
  have e : ((View.whole main_v43_1).slice (win1_6.rect t)).emb (ix3 0 0 y2) = ix3 (⟨t.val, ht⟩ : Fin 50) 0 y2 := by
    funext z
    match z with
    | ⟨0, _⟩ => exact Fin.ext (by show win1_6.index t 0 * 1 + 1 * 0 = t.val; rw [h6]; show t.val * 1 + _ = _; omega)
    | ⟨1, _⟩ => exact Fin.ext (by show win1_6.index t 1 * 1 + 1 * 0 = 0; rw [h6]; rfl)
    | ⟨2, _⟩ => exact Fin.ext (by show win1_6.index t 2 * 128 + 1 * y2.val = y2.val; rw [h6]; show 0 * 128 + _ = _; omega)
  refine Eq.trans ?_ (congrArg (fun i : S50x1x128.Idx => ∑ a : Fin 10, ∑ l : Fin 998,
    conv2Of (V c main_v23_0) (V c main_v18) (V c main_v40) (V c main_v41) (V c main_v42) (seqOf (i 0).val (i 0).isLt a) l.val (i 2)) e.symm)
  refine (k1_pay3_at _ _ y2).trans (Finset.sum_congr rfl fun a _ => Finset.sum_congr rfl fun l _ => ?_)
  exact point1 V c t ht a l y2

/-- The array of the sums of squares over each block of ten sequences. -/
theorem arr1_7 (c : Dev nD) : (dat1 V c).arrAt 7 cfg1.N = fun i : S50x1x128.Idx => ∑ a : Fin 10, ∑ l : Fin 998,
    conv2Of (V c main_v23_0) (V c main_v18) (V c main_v40) (V c main_v41) (V c main_v42) (seqOf (i 0).val (i 0).isLt a) l.val (i 2) *
      conv2Of (V c main_v23_0) (V c main_v18) (V c main_v40) (V c main_v41) (V c main_v42) (seqOf (i 0).val (i 0).isLt a) l.val (i 2) := by
  refine (dat1 V c).arrAt_eq_of_covers 7 _ (by decide +kernel) fun t _ y => ?_
  have ht : t.val < 50 := t.isLt
  obtain ⟨-, -, -, -, -, -, -, h7⟩ := idx1 t
  rw [after1_7]
  unfold outsAt1
  frame_out
  idx_vars y
  obtain rfl := Subsingleton.elim y0 0
  obtain rfl := Subsingleton.elim y1 0
  have e : ((View.whole main_v43_2).slice (win1_7.rect t)).emb (ix3 0 0 y2) = ix3 (⟨t.val, ht⟩ : Fin 50) 0 y2 := by
    funext z
    match z with
    | ⟨0, _⟩ => exact Fin.ext (by show win1_7.index t 0 * 1 + 1 * 0 = t.val; rw [h7]; show t.val * 1 + _ = _; omega)
    | ⟨1, _⟩ => exact Fin.ext (by show win1_7.index t 1 * 1 + 1 * 0 = 0; rw [h7]; rfl)
    | ⟨2, _⟩ => exact Fin.ext (by show win1_7.index t 2 * 128 + 1 * y2.val = y2.val; rw [h7]; show 0 * 128 + _ = _; omega)
  refine Eq.trans ?_ (congrArg (fun i : S50x1x128.Idx => ∑ a : Fin 10, ∑ l : Fin 998,
    conv2Of (V c main_v23_0) (V c main_v18) (V c main_v40) (V c main_v41) (V c main_v42) (seqOf (i 0).val (i 0).isLt a) l.val (i 2) *
      conv2Of (V c main_v23_0) (V c main_v18) (V c main_v40) (V c main_v41) (V c main_v42) (seqOf (i 0).val (i 0).isLt a) l.val (i 2)) e.symm)
  refine (k1_pay4_at _ _ y2).trans (Finset.sum_congr rfl fun a _ => Finset.sum_congr rfl fun l _ => ?_)
  exact congrArg (fun z : EReal => z * z) (point1 V c t ht a l y2)

end Cert.Protein
-- ==== Proof.Region2.lean ====
/- What the third convolution's region leaves in its three result arrays. -/
module

public import proofs.«01_k».proof.Proof.Gen.KernelIdeal.Frame
public import proofs.«01_k».proof.Proof.Payload
public import proofs.«01_k».proof.Proof.Blocks

@[expose] public section

set_option maxRecDepth 65536
set_option maxHeartbeats 4000000

noncomputable section

namespace Cert.Protein

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c.tc : Thread nD τ).loc b))

/-- Which block each window shows at a grid point. -/
theorem idx2 : ∀ t : Fin cfg2.N, win2_0.index t = ![t.val, 0, 0] ∧ win2_1.index t = ![0, 0] ∧ win2_2.index t = ![0, 0, 0] ∧
    win2_3.index t = ![0, 0, 0] ∧ win2_4.index t = ![0, 0, 0] ∧
    win2_5.index t = ![t.val, 0, 0] ∧ win2_6.index t = ![t.val, 0, 0] ∧ win2_7.index t = ![t.val, 0, 0] :=
  (by decide +kernel : ∀ t : Fin grid2.N, _)

/-- The third convolution of the whole array of sequences, scaled, shifted and rectified, zero from position 994 on. -/
def conv3Of (X : FVec Ideal S500x1000x128 .f32) (Wt : FVec Ideal S384x128 .f32) (b : FVec Ideal S1x1x128 .f32)
    (sc sh : FVec Ideal S1x1x128 .f32) (p : Fin 500) (l : ℕ) (o : Fin 128) : EReal :=
  if l < 994 then
    rowConv (upTo 996 (affRelu (ext fun l c => X (ix3 p l c)) (fun c => sc (ix3 0 0 c)) (fun c => sh (ix3 0 0 c))))
      (fun o c k => Wt (ix2 ⟨128 * k.val + c.val, by omega⟩ o)) (fun o => b (ix3 0 0 o)) l o else 0

/-- A block's value in terms of the whole arrays. -/
theorem point2 (c : Dev nD) (t : Fin cfg2.N) (ht : t.val < 50) (a : Fin 10) (l : Fin 998) (o : Fin 128) :
    k2_pay1 (k2_pay5 (iblk2 V c 0 t) (iblk2 V c 3 t) (iblk2 V c 4 t) (iblk2 V c 1 t)) (k2_pay6 (iblk2 V c 2 t)) (ix3 a l o) =
      conv3Of (V c main_v43_0) (V c main_v20) (V c main_v60) (V c main_v61) (V c main_v62) (seqOf t.val ht a) l.val o := by
  obtain ⟨i0, i1, i2, i3, i4, -, -, -⟩ := idx2 t
  refine (k2_pay1_at (iblk2 V c 0 t) (iblk2 V c 3 t) (iblk2 V c 4 t) (iblk2 V c 1 t) (iblk2 V c 2 t) a l o).trans ?_
  unfold conv3Of
  have hx : (fun (l : Fin 1000) (k : Fin 128) => iblk2 V c 0 t (ix3 a l k)) = fun l k => V c main_v43_0 (ix3 (seqOf t.val ht a) l k) := by
    funext l k
    unfold seqOf
    blk_ext [iblk2, i0]
  have hsc : (fun k : Fin 128 => iblk2 V c 3 t (ix3 0 0 k)) = fun k => V c main_v61 (ix3 0 0 k) := by
    funext k
    blk_ext [iblk2, i3]
  have hsh : (fun k : Fin 128 => iblk2 V c 4 t (ix3 0 0 k)) = fun k => V c main_v62 (ix3 0 0 k) := by
    funext k
    blk_ext [iblk2, i4]
  have hw : (fun (o : Fin 128) (k : Fin 128) (z : Fin 3) => iblk2 V c 1 t (ix2 ⟨128 * z.val + k.val, by omega⟩ o)) =
      fun o k z => V c main_v20 (ix2 ⟨128 * z.val + k.val, by omega⟩ o) := by
    funext o k z
    blk_ext [iblk2, i1]
  have hb : (fun o : Fin 128 => iblk2 V c 2 t (ix3 0 0 o)) = fun o => V c main_v60 (ix3 0 0 o) := by
    funext o
    blk_ext [iblk2, i2]
  rw [hx, hsc, hsh, hw, hb]

/-- The array of the third convolution: its values, and zero in the last rows of each sequence. -/
theorem arr2_5 (c : Dev nD) : (dat2 V c).arrAt 5 cfg2.N = fun i : S500x1000x128.Idx =>
    conv3Of (V c main_v43_0) (V c main_v20) (V c main_v60) (V c main_v61) (V c main_v62) (i 0) (i 1).val (i 2) := by
  refine (dat2 V c).arrAt_eq_of_covers 5 _ (by decide +kernel) fun t _ y => ?_
  have ht : t.val < 50 := t.isLt
  obtain ⟨-, -, -, -, -, h5, -, -⟩ := idx2 t
  rw [after2_5]
  unfold outsAt2
  frame_out
  idx_vars y
  have e : ((View.whole main_v63_0).slice (win2_5.rect t)).emb (ix3 y0 y1 y2) = ix3 (seqOf t.val ht y0) y1 y2 := by
    funext z
    match z with
    | ⟨0, _⟩ => exact Fin.ext (by show win2_5.index t 0 * 10 + 1 * y0.val = 10 * t.val + y0.val; rw [h5]; show t.val * 10 + _ = _; omega)
    | ⟨1, _⟩ => exact Fin.ext (by show win2_5.index t 1 * 1000 + 1 * y1.val = y1.val; rw [h5]; show 0 * 1000 + _ = _; omega)
    | ⟨2, _⟩ => exact Fin.ext (by show win2_5.index t 2 * 128 + 1 * y2.val = y2.val; rw [h5]; show 0 * 128 + _ = _; omega)
  refine Eq.trans ?_ (congrArg (fun i : S500x1000x128.Idx => conv3Of (V c main_v43_0) (V c main_v20) (V c main_v60) (V c main_v61) (V c main_v62) (i 0) (i 1).val (i 2)) e.symm)
  refine (canon_two _ _ _ _ _ _ _).trans ?_
  show _ = conv3Of _ _ _ _ _ (seqOf t.val ht y0) y1.val y2
  by_cases h : y1.val < 998
  · rw [dif_pos h]; exact point2 V c t ht y0 ⟨_, h⟩ y2
  · rw [dif_neg h]
    unfold conv3Of
    rw [if_neg (by omega)]; exact k2_pay2_at _

/-- The array of the third convolution's sums over each block of ten sequences. -/
theorem arr2_6 (c : Dev nD) : (dat2 V c).arrAt 6 cfg2.N = fun i : S50x1x128.Idx => ∑ a : Fin 10, ∑ l : Fin 998,
    conv3Of (V c main_v43_0) (V c main_v20) (V c main_v60) (V c main_v61) (V c main_v62) (seqOf (i 0).val (i 0).isLt a) l.val (i 2) := by
  refine (dat2 V c).arrAt_eq_of_covers 6 _ (by decide +kernel) fun t _ y => ?_
  have ht : t.val < 50 := t.isLt
  obtain ⟨-, -, -, -, -, -, h6, -⟩ := idx2 t
  rw [after2_6]
  unfold outsAt2
  frame_out
  idx_vars y
  obtain rfl := Subsingleton.elim y0 0
  obtain rfl := Subsingleton.elim y1 0
  have e : ((View.whole main_v63_1).slice (win2_6.rect t)).emb (ix3 0 0 y2) = ix3 (⟨t.val, ht⟩ : Fin 50) 0 y2 := by
    funext z
    match z with
    | ⟨0, _⟩ => exact Fin.ext (by show win2_6.index t 0 * 1 + 1 * 0 = t.val; rw [h6]; show t.val * 1 + _ = _; omega)
    | ⟨1, _⟩ => exact Fin.ext (by show win2_6.index t 1 * 1 + 1 * 0 = 0; rw [h6]; rfl)
    | ⟨2, _⟩ => exact Fin.ext (by show win2_6.index t 2 * 128 + 1 * y2.val = y2.val; rw [h6]; show 0 * 128 + _ = _; omega)
  refine Eq.trans ?_ (congrArg (fun i : S50x1x128.Idx => ∑ a : Fin 10, ∑ l : Fin 998,
    conv3Of (V c main_v43_0) (V c main_v20) (V c main_v60) (V c main_v61) (V c main_v62) (seqOf (i 0).val (i 0).isLt a) l.val (i 2)) e.symm)
  refine (k2_pay3_at _ _ y2).trans (Finset.sum_congr rfl fun a _ => Finset.sum_congr rfl fun l _ => ?_)
  exact point2 V c t ht a l y2

/-- The array of the sums of squares over each block of ten sequences. -/
theorem arr2_7 (c : Dev nD) : (dat2 V c).arrAt 7 cfg2.N = fun i : S50x1x128.Idx => ∑ a : Fin 10, ∑ l : Fin 998,
    conv3Of (V c main_v43_0) (V c main_v20) (V c main_v60) (V c main_v61) (V c main_v62) (seqOf (i 0).val (i 0).isLt a) l.val (i 2) *
      conv3Of (V c main_v43_0) (V c main_v20) (V c main_v60) (V c main_v61) (V c main_v62) (seqOf (i 0).val (i 0).isLt a) l.val (i 2) := by
  refine (dat2 V c).arrAt_eq_of_covers 7 _ (by decide +kernel) fun t _ y => ?_
  have ht : t.val < 50 := t.isLt
  obtain ⟨-, -, -, -, -, -, -, h7⟩ := idx2 t
  rw [after2_7]
  unfold outsAt2
  frame_out
  idx_vars y
  obtain rfl := Subsingleton.elim y0 0
  obtain rfl := Subsingleton.elim y1 0
  have e : ((View.whole main_v63_2).slice (win2_7.rect t)).emb (ix3 0 0 y2) = ix3 (⟨t.val, ht⟩ : Fin 50) 0 y2 := by
    funext z
    match z with
    | ⟨0, _⟩ => exact Fin.ext (by show win2_7.index t 0 * 1 + 1 * 0 = t.val; rw [h7]; show t.val * 1 + _ = _; omega)
    | ⟨1, _⟩ => exact Fin.ext (by show win2_7.index t 1 * 1 + 1 * 0 = 0; rw [h7]; rfl)
    | ⟨2, _⟩ => exact Fin.ext (by show win2_7.index t 2 * 128 + 1 * y2.val = y2.val; rw [h7]; show 0 * 128 + _ = _; omega)
  refine Eq.trans ?_ (congrArg (fun i : S50x1x128.Idx => ∑ a : Fin 10, ∑ l : Fin 998,
    conv3Of (V c main_v43_0) (V c main_v20) (V c main_v60) (V c main_v61) (V c main_v62) (seqOf (i 0).val (i 0).isLt a) l.val (i 2) *
      conv3Of (V c main_v43_0) (V c main_v20) (V c main_v60) (V c main_v61) (V c main_v62) (seqOf (i 0).val (i 0).isLt a) l.val (i 2)) e.symm)
  refine (k2_pay4_at _ _ y2).trans (Finset.sum_congr rfl fun a _ => Finset.sum_congr rfl fun l _ => ?_)
  exact congrArg (fun z : EReal => z * z) (point2 V c t ht a l y2)

end Cert.Protein
-- ==== Proof.Region3.lean ====
/- What the pooling region leaves in its result array. -/
module

public import proofs.«01_k».proof.Proof.Gen.KernelIdeal.Frame
public import proofs.«01_k».proof.Proof.Head
public import proofs.«01_k».proof.Proof.Blocks

@[expose] public section

set_option maxRecDepth 65536
set_option maxHeartbeats 4000000

noncomputable section

namespace Cert.Protein

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c.tc : Thread nD τ).loc b))

/-- Which block each window shows at a grid point. -/
theorem idx3 : ∀ t : Fin cfg3.N, win3_0.index t = ![t.val, 0, 0] ∧ win3_1.index t = ![0, 0, 0] ∧ win3_2.index t = ![0, 0, 0] ∧
    win3_3.index t = ![t.val, 0, 0] :=
  (by decide +kernel : ∀ t : Fin grid3.N, _)

/-- The largest value of a sequence's first 994 rows, scaled, shifted and rectified. -/
def poolOf (X : FVec Ideal S500x1000x128 .f32) (sc sh : FVec Ideal S1x1x128 .f32) (p : Fin 500) (o : Fin 128) : EReal :=
  Finset.univ.sup fun l : Fin 994 =>
    affRelu (ext fun l c => X (ix3 p l c)) (fun c => sc (ix3 0 0 c)) (fun c => sh (ix3 0 0 c)) l o

/-- A block's value in terms of the whole arrays. -/
theorem point3 (c : Dev nD) (t : Fin cfg3.N) (ht : t.val < 50) (y1 : Fin 10) (y2 : Fin 128) :
    k3_pay1 (iblk3 V c 0 t) (iblk3 V c 1 t) (iblk3 V c 2 t) (ix3 0 y1 y2) =
      poolOf (V c main_v63_0) (V c main_v80) (V c main_v81) (seqOf t.val ht y1) y2 := by
  rw [k3_pay1_at]
  unfold poolOf
  have hx : (fun (l : Fin 1000) (k : Fin 128) => iblk3 V c 0 t (ix3 y1 l k)) = fun l k => V c main_v63_0 (ix3 (seqOf t.val ht y1) l k) := by
    funext l k
    unfold seqOf
    blk_ext [iblk3, idx3 t]
  have hsc : (fun k : Fin 128 => iblk3 V c 1 t (ix3 0 0 k)) = fun k => V c main_v80 (ix3 0 0 k) := by
    funext k
    blk_ext [iblk3, idx3 t]
  have hsh : (fun k : Fin 128 => iblk3 V c 2 t (ix3 0 0 k)) = fun k => V c main_v81 (ix3 0 0 k) := by
    funext k
    blk_ext [iblk3, idx3 t]
  rw [hx, hsc, hsh]

/-- The pooled array, block by block. -/
theorem arr3_3 (c : Dev nD) : (dat3 V c).arrAt 3 cfg3.N = fun i : S50x10x128.Idx =>
    poolOf (V c main_v63_0) (V c main_v80) (V c main_v81) (seqOf (i 0).val (i 0).isLt (i 1)) (i 2) := by
  refine (dat3 V c).arrAt_eq_of_covers 3 _ (by decide +kernel) fun t _ y => ?_
  have ht : t.val < 50 := t.isLt
  have h3 := (idx3 t).2.2.2
  rw [after3_3]
  frame_out
  idx_vars y
  obtain rfl := Subsingleton.elim y0 0
  have e : ((View.whole main_v82).slice (win3_3.rect t)).emb (ix3 0 y1 y2) = ix3 (⟨t.val, ht⟩ : Fin 50) y1 y2 := by
    funext z
    match z with
    | ⟨0, _⟩ => exact Fin.ext (by show win3_3.index t 0 * 1 + 1 * 0 = t.val; rw [h3]; show t.val * 1 + _ = _; omega)
    | ⟨1, _⟩ => exact Fin.ext (by show win3_3.index t 1 * 10 + 1 * y1.val = y1.val; rw [h3]; show 0 * 10 + _ = _; omega)
    | ⟨2, _⟩ => exact Fin.ext (by show win3_3.index t 2 * 128 + 1 * y2.val = y2.val; rw [h3]; show 0 * 128 + _ = _; omega)
  refine Eq.trans ?_ (congrArg (fun i : S50x10x128.Idx =>
    poolOf (V c main_v63_0) (V c main_v80) (V c main_v81) (seqOf (i 0).val (i 0).isLt (i 1)) (i 2)) e.symm)
  refine Eq.trans ?_ (point3 V c t ht y1 y2)
  blk_simp

end Cert.Protein
-- ==== Proof.Layers.lean ====
/- The regions of the protein branch in turn: what each leaves, in terms of the arguments. -/
module

public import proofs.«01_k».proof.Proof.Args
public import proofs.«01_k».proof.Proof.Region0
public import proofs.«01_k».proof.Proof.Region1
public import proofs.«01_k».proof.Proof.Region2
public import proofs.«01_k».proof.Proof.Region3

@[expose] public section

set_option maxRecDepth 65536
set_option maxHeartbeats 4000000

noncomputable section

namespace Cert.Protein

open Idealize.ShloMosaic Idealize.ShloMosaic.TcCoe Idealize.SL.Sem Cert.KernelIdeal Cert.KernelIdeal.Gen

/-- The kernel's arguments on a device. -/
def argsOf (m : (ℓ : Loc nD τ sig) → Buf (Elt Ideal) ℓ) (c : Dev nD) : Args where
  summed := m ((c : Thread nD τ).loc main_arg0)
  counts := m ((c : Thread nD τ).loc main_arg1)
  protein := m ((c : Thread nD τ).loc main_arg2)
  g := m ((c : Thread nD τ).loc main_arg3)
  be := m ((c : Thread nD τ).loc main_arg4)
  emb := m ((c : Thread nD τ).loc main_arg5)
  w1 := m ((c : Thread nD τ).loc main_arg6)
  b1 := m ((c : Thread nD τ).loc main_arg7)
  g1 := m ((c : Thread nD τ).loc main_arg8)
  be1 := m ((c : Thread nD τ).loc main_arg9)
  w2 := m ((c : Thread nD τ).loc main_arg10)
  b2 := m ((c : Thread nD τ).loc main_arg11)
  g2 := m ((c : Thread nD τ).loc main_arg12)
  be2 := m ((c : Thread nD τ).loc main_arg13)
  w3 := m ((c : Thread nD τ).loc main_arg14)
  b3 := m ((c : Thread nD τ).loc main_arg15)
  g3 := m ((c : Thread nD τ).loc main_arg16)
  be3 := m ((c : Thread nD τ).loc main_arg17)
  f1 := m ((c : Thread nD τ).loc main_arg18)
  fb1 := m ((c : Thread nD τ).loc main_arg19)
  fg1 := m ((c : Thread nD τ).loc main_arg20)
  fbe1 := m ((c : Thread nD τ).loc main_arg21)
  f2 := m ((c : Thread nD τ).loc main_arg22)
  fb2 := m ((c : Thread nD τ).loc main_arg23)
  fg2 := m ((c : Thread nD τ).loc main_arg24)
  fbe2 := m ((c : Thread nD τ).loc main_arg25)
  o := m ((c : Thread nD τ).loc main_arg26)
  ob := m ((c : Thread nD τ).loc main_arg27)

/-- Scaling, shifting and rectifying a stored convolution is the layer: `Y` holds the convolution of `x` in its first `n`
    rows, and the scale and shift are taken from its sums. -/
theorem layer_of {α β : Type} [Fintype α] (n : ℕ) (N : ℝ) (hN : (500 : ℝ) * n = N) (h0 : 0 < N) (x : Fin 500 → ℕ → α → EReal)
    (w : β → α → Fin 3 → EReal) (b g be : β → EReal) (hx : ∀ p, ∀ l < n + 2, ∀ c, IsReal (x p l c))
    (hw : ∀ o c k, IsReal (w o c k)) (hb : ∀ o, IsReal (b o)) (hg : ∀ o, IsReal (g o)) (hbe : ∀ o, IsReal (be o))
    (Y : Fin 500 → ℕ → β → EReal) (hY : ∀ p, ∀ l < n, ∀ o, Y p l o = rowConv (x p) w b l o) (sc sh S Q : β → EReal)
    (hsc : ∀ o, sc o = scaleOf N epsE (g o) (S o) (Q o)) (hsh : ∀ o, sh o = shiftOf N epsE (g o) (be o) (S o) (Q o))
    (hS : ∀ o, S o = total n (fun p l o => rowConv (x p) w b l o) o)
    (hQ : ∀ o, Q o = total n (fun p l o => rowConv (x p) w b l o * rowConv (x p) w b l o) o)
    (p : Fin 500) (l : ℕ) (hl : l < n) (o : β) : affRelu (Y p) sc sh l o = layer n N x w b g be p l o := by
  unfold affRelu
  rw [hY p l hl o, hsc, hsh]
  exact (layer_eq n N hN h0 x w b g be hx hw hb hg hbe S Q hS hQ p l hl o).1

/-- A layer's values are finite. -/
theorem layer_isReal {α β : Type} [Fintype α] (n : ℕ) (N : ℝ) (hN : (500 : ℝ) * n = N) (h0 : 0 < N) (x : Fin 500 → ℕ → α → EReal)
    (w : β → α → Fin 3 → EReal) (b g be : β → EReal) (hx : ∀ p, ∀ l < n + 2, ∀ c, IsReal (x p l c))
    (hw : ∀ o c k, IsReal (w o c k)) (hb : ∀ o, IsReal (b o)) (hg : ∀ o, IsReal (g o)) (hbe : ∀ o, IsReal (be o))
    (p : Fin 500) (l : ℕ) (hl : l < n) (o : β) : IsReal (layer n N x w b g be p l o) :=
  (layer_eq n N hN h0 x w b g be hx hw hb hg hbe _ _ (fun _ => rfl) (fun _ => rfl) p l hl o).2

namespace Args

variable {A : Args} (hA : A.Finite)
include hA

/-- The gathered rows are rows of the table. -/
theorem Finite.seq0 (p : Fin 500) (l : ℕ) (c : Fin 32) : IsReal (A.seq0 p l c) := by
  unfold Args.seq0 ext
  split
  · unfold gatherOf Host.gather
    exact hA.emb _
  · exact isReal_zero

theorem Finite.seq1 (p : Fin 500) (l : ℕ) (hl : l < 998) (o : Fin 64) : IsReal (A.seq1 p l o) := by
  unfold Args.seq1
  rw [count1_eq]
  exact layer_isReal 998 499000 (by norm_num) (by norm_num) _ _ _ _ _ (fun p l _ c => hA.seq0 p l c) (fun _ _ _ => hA.w1 _)
    (fun _ => hA.b1 _) (fun _ => hA.g1 _) (fun _ => hA.be1 _) p l hl o

theorem Finite.seq2 (p : Fin 500) (l : ℕ) (hl : l < 996) (o : Fin 128) : IsReal (A.seq2 p l o) := by
  unfold Args.seq2
  rw [count2_eq]
  exact layer_isReal 996 498000 (by norm_num) (by norm_num) _ _ _ _ _ (fun p l h c => hA.seq1 p l h c) (fun _ _ _ => hA.w2 _)
    (fun _ => hA.b2 _) (fun _ => hA.g2 _) (fun _ => hA.be2 _) p l hl o

end Args

variable (m : (ℓ : Loc nD τ sig) → Buf (Elt Ideal) ℓ) (ρ : Dev nD → PrngReg) (c : Dev nD)

/-- Region 0 convolves the embedded sequences. -/
theorem conv1_eq (p : Fin 500) (l : ℕ) (o : Fin 64) :
    conv1Of (V3 m ρ c main_v14) (V3 m ρ c main_v16) (V3 m ρ c main_v22) p l o =
      rowConv ((argsOf m c).seq0 p) (taps (argsOf m c).w1) (vec (argsOf m c).b1) l o := by
  have hx : V3 m ρ c main_v14 = gatherOf (argsOf m c).emb (argsOf m c).protein := by
    refine (gathered (W2 m ρ c)).trans ?_
    rw [W2_args m ρ c main_arg5 (by decide), W2_args m ρ c main_arg2 (by decide)]
    rfl
  have hw : (fun (o : Fin 64) (a : Fin 32) (k : Fin 3) => V3 m ρ c main_v16 (ix2 ⟨32 * k.val + a.val, by omega⟩ o)) =
      taps (argsOf m c).w1 := by
    funext o a k
    exact (weight1 (W2 m ρ c) o a k).trans (congrFun (W2_args m ρ c main_arg6 (by decide)) _)
  have hb : (fun o : Fin 64 => V3 m ρ c main_v22 (ix3 0 0 o)) = vec (argsOf m c).b1 := by
    funext o
    exact (bias1 (W2 m ρ c) o).trans (congrFun (W2_args m ρ c main_arg7 (by decide)) _)
  unfold conv1Of
  rw [hw, hb, hx]
  rfl

/-- The array region 0 leaves, by sequence and position. -/
theorem stored1 (p : Fin 500) (l : ℕ) (o : Fin 64) :
    ext (fun (l : Fin 1000) (k : Fin 64) => V5 m ρ c main_v23_0 (ix3 p l k)) l o =
      if l < 998 then rowConv ((argsOf m c).seq0 p) (taps (argsOf m c).w1) (vec (argsOf m c).b1) l o else 0 := by
  have h : V5 m ρ c main_v23_0 = _ :=
    (W5_of m ρ c main_v23_0 (by decide)).trans ((W4_arr m ρ c 5).trans (arr0_5 (V3 m ρ) c))
  unfold ext
  rw [h]
  split
  · rw [← conv1_eq m ρ c p l o]
    rfl
  · rw [if_neg (by omega)]

/-- The sums region 0 leaves add up to the totals. -/
theorem sum1 (o : Fin 64) : (∑ t : Fin 50, W4 m ρ c (Proc.devRef .tc main_v23_1) (ix3 t 0 o) : EReal) =
    total 998 (fun p l o => rowConv ((argsOf m c).seq0 p) (taps (argsOf m c).w1) (vec (argsOf m c).b1) l o) o := by
  have h : W4 m ρ c (Proc.devRef .tc main_v23_1) = _ := (W4_arr m ρ c 6).trans (arr0_6 (V3 m ρ) c)
  rw [h]
  refine Eq.trans ?_ (sum_blocks fun p => ∑ l : Fin 998, rowConv ((argsOf m c).seq0 p) (taps (argsOf m c).w1) (vec (argsOf m c).b1) l.val o)
  exact Finset.sum_congr rfl fun t _ => Finset.sum_congr rfl fun a _ => Finset.sum_congr rfl fun l _ => conv1_eq m ρ c _ _ _

/-- The sums of squares region 0 leaves add up to the totals. -/
theorem sumsq1 (o : Fin 64) : (∑ t : Fin 50, W4 m ρ c (Proc.devRef .tc main_v23_2) (ix3 t 0 o) : EReal) =
    total 998 (fun p l o => rowConv ((argsOf m c).seq0 p) (taps (argsOf m c).w1) (vec (argsOf m c).b1) l o *
      rowConv ((argsOf m c).seq0 p) (taps (argsOf m c).w1) (vec (argsOf m c).b1) l o) o := by
  have h : W4 m ρ c (Proc.devRef .tc main_v23_2) = _ := (W4_arr m ρ c 7).trans (arr0_7 (V3 m ρ) c)
  rw [h]
  refine Eq.trans ?_ (sum_blocks fun p => ∑ l : Fin 998, rowConv ((argsOf m c).seq0 p) (taps (argsOf m c).w1) (vec (argsOf m c).b1) l.val o *
    rowConv ((argsOf m c).seq0 p) (taps (argsOf m c).w1) (vec (argsOf m c).b1) l.val o)
  exact Finset.sum_congr rfl fun t _ => Finset.sum_congr rfl fun a _ => Finset.sum_congr rfl fun l _ =>
    congrArg₂ (· * ·) (conv1_eq m ρ c _ _ _) (conv1_eq m ρ c _ _ _)

variable {m c} (hA : (argsOf m c).Finite)

include hA in
/-- Region 1 reads the sequences after the first layer. -/
theorem rows1 (p : Fin 500) (l : ℕ) (hl : l < 998) (o : Fin 64) :
    affRelu (ext fun (l : Fin 1000) (k : Fin 64) => V5 m ρ c main_v23_0 (ix3 p l k)) (fun k => V5 m ρ c main_v41 (ix3 0 0 k))
      (fun k => V5 m ρ c main_v42 (ix3 0 0 k)) l o = (argsOf m c).seq1 p l o := by
  unfold Args.seq1
  rw [count1_eq]
  refine layer_of 998 499000 (by norm_num) (by norm_num) (argsOf m c).seq0 (taps (argsOf m c).w1) (vec (argsOf m c).b1)
    (vec (argsOf m c).g1) (vec (argsOf m c).be1) (fun p l _ c => hA.seq0 p l c) (fun _ _ _ => hA.w1 _)
    (fun _ => hA.b1 _) (fun _ => hA.g1 _) (fun _ => hA.be1 _)
    (fun p => ext fun (l : Fin 1000) (k : Fin 64) => V5 m ρ c main_v23_0 (ix3 p l k))
    (fun p l hl o => (stored1 m ρ c p l o).trans (if_pos hl)) _ _
    (fun o => ∑ t : Fin 50, W4 m ρ c (Proc.devRef .tc main_v23_1) (ix3 t 0 o))
    (fun o => ∑ t : Fin 50, W4 m ρ c (Proc.devRef .tc main_v23_2) (ix3 t 0 o)) (fun o => ?_) (fun o => ?_)
    (sum1 m ρ c) (sumsq1 m ρ c) p l hl o
  · refine (scale1 (W4 m ρ c) o).trans ?_
    rw [count1_eq, W4_args m ρ c main_arg8 (by decide)]
    rfl
  · refine (shift1 (W4 m ρ c) o).trans ?_
    rw [count1_eq, W4_args m ρ c main_arg8 (by decide), W4_args m ρ c main_arg9 (by decide)]
    rfl

include hA in
/-- Region 1 convolves the sequences after layer 1. -/
theorem conv2_eq (p : Fin 500) (l : ℕ) (o : Fin 128) :
    conv2Of (V5 m ρ c main_v23_0) (V5 m ρ c main_v18) (V5 m ρ c main_v40) (V5 m ρ c main_v41) (V5 m ρ c main_v42) p l o =
      if l < 996 then rowConv ((argsOf m c).seq1 p) (taps (argsOf m c).w2) (vec (argsOf m c).b2) l o else 0 := by
  have hw : (fun (o : Fin 128) (a : Fin 64) (k : Fin 3) => V5 m ρ c main_v18 (ix2 ⟨64 * k.val + a.val, by omega⟩ o)) =
      taps (argsOf m c).w2 := by
    funext o a k
    exact ((congrFun (W5_of m ρ c main_v18 (by decide +kernel)) _).trans <| (congrFun (W4_of m ρ c main_v18 (by decide +kernel)) _).trans <| (weight2 (W2 m ρ c) o a k).trans (congrFun (W2_args m ρ c main_arg10 (by decide)) _))
  have hb : (fun o : Fin 128 => V5 m ρ c main_v40 (ix3 0 0 o)) = vec (argsOf m c).b2 := by
    funext o
    exact (bias2 (W4 m ρ c) o).trans (congrFun (W4_args m ρ c main_arg11 (by decide)) _)
  unfold conv2Of
  rw [hw, hb]
  split
  · rename_i hl
    refine rowConv_congr _ _ (fun k hk => ?_) o
    funext a
    unfold upTo
    rw [if_pos (by omega)]
    exact rows1 ρ hA p (l + k) (by omega) a
  · rfl

include hA in
/-- The array region 1 leaves, by sequence and position. -/
theorem stored2 (p : Fin 500) (l : ℕ) (o : Fin 128) :
    ext (fun (l : Fin 1000) (k : Fin 128) => V7 m ρ c main_v43_0 (ix3 p l k)) l o =
      if l < 996 then rowConv ((argsOf m c).seq1 p) (taps (argsOf m c).w2) (vec (argsOf m c).b2) l o else 0 := by
  have h : V7 m ρ c main_v43_0 = _ :=
    (W7_of m ρ c main_v43_0 (by decide)).trans ((W6_arr m ρ c 5).trans (arr1_5 (V5 m ρ) c))
  unfold ext
  rw [h]
  split
  · exact conv2_eq ρ hA p l o
  · rw [if_neg (by omega)]

include hA in
/-- The sums region 1 leaves add up to the totals. -/
theorem sum2 (o : Fin 128) : (∑ t : Fin 50, W6 m ρ c (Proc.devRef .tc main_v43_1) (ix3 t 0 o) : EReal) =
    total 996 (fun p l o => rowConv ((argsOf m c).seq1 p) (taps (argsOf m c).w2) (vec (argsOf m c).b2) l o) o := by
  have h : W6 m ρ c (Proc.devRef .tc main_v43_1) = _ := (W6_arr m ρ c 6).trans (arr1_6 (V5 m ρ) c)
  rw [h]
  exact sum_masked (by norm_num) (conv2Of (V5 m ρ c main_v23_0) (V5 m ρ c main_v18) (V5 m ρ c main_v40) (V5 m ρ c main_v41) (V5 m ρ c main_v42)) _ (conv2_eq ρ hA) o

include hA in
/-- The sums of squares region 1 leaves add up to the totals. -/
theorem sumsq2 (o : Fin 128) : (∑ t : Fin 50, W6 m ρ c (Proc.devRef .tc main_v43_2) (ix3 t 0 o) : EReal) =
    total 996 (fun p l o => rowConv ((argsOf m c).seq1 p) (taps (argsOf m c).w2) (vec (argsOf m c).b2) l o *
      rowConv ((argsOf m c).seq1 p) (taps (argsOf m c).w2) (vec (argsOf m c).b2) l o) o := by
  have h : W6 m ρ c (Proc.devRef .tc main_v43_2) = _ := (W6_arr m ρ c 7).trans (arr1_7 (V5 m ρ) c)
  rw [h]
  refine sum_masked (by norm_num) (fun p l o => conv2Of (V5 m ρ c main_v23_0) (V5 m ρ c main_v18) (V5 m ρ c main_v40) (V5 m ρ c main_v41) (V5 m ρ c main_v42) p l o *
    conv2Of (V5 m ρ c main_v23_0) (V5 m ρ c main_v18) (V5 m ρ c main_v40) (V5 m ρ c main_v41) (V5 m ρ c main_v42) p l o) _ (fun p l o => ?_) o
  rw [conv2_eq ρ hA]
  split
  · rfl
  · exact mul_zero _

include hA in
/-- The sequences after layer 2, as region 2 reads them. -/
theorem rows2 (p : Fin 500) (l : ℕ) (hl : l < 996) (o : Fin 128) :
    affRelu (ext fun (l : Fin 1000) (k : Fin 128) => V7 m ρ c main_v43_0 (ix3 p l k)) (fun k => V7 m ρ c main_v61 (ix3 0 0 k))
      (fun k => V7 m ρ c main_v62 (ix3 0 0 k)) l o = (argsOf m c).seq2 p l o := by
  unfold Args.seq2
  rw [count2_eq]
  refine layer_of 996 498000 (by norm_num) (by norm_num) (argsOf m c).seq1 (taps (argsOf m c).w2) (vec (argsOf m c).b2)
    (vec (argsOf m c).g2) (vec (argsOf m c).be2) (fun p l h c => hA.seq1 p l h c) (fun _ _ _ => hA.w2 _)
    (fun _ => hA.b2 _) (fun _ => hA.g2 _) (fun _ => hA.be2 _)
    (fun p => ext fun (l : Fin 1000) (k : Fin 128) => V7 m ρ c main_v43_0 (ix3 p l k))
    (fun p l hl o => (stored2 ρ hA p l o).trans (if_pos hl)) _ _
    (fun o => ∑ t : Fin 50, W6 m ρ c (Proc.devRef .tc main_v43_1) (ix3 t 0 o))
    (fun o => ∑ t : Fin 50, W6 m ρ c (Proc.devRef .tc main_v43_2) (ix3 t 0 o)) (fun o => ?_) (fun o => ?_)
    (sum2 ρ hA) (sumsq2 ρ hA) p l hl o
  · refine (scale2 (W6 m ρ c) o).trans ?_
    rw [count2_eq, W6_args m ρ c main_arg12 (by decide)]
    rfl
  · refine (shift2 (W6 m ρ c) o).trans ?_
    rw [count2_eq, W6_args m ρ c main_arg12 (by decide), W6_args m ρ c main_arg13 (by decide)]
    rfl

include hA in
/-- Region 2 convolves the sequences after layer 2. -/
theorem conv3_eq (p : Fin 500) (l : ℕ) (o : Fin 128) :
    conv3Of (V7 m ρ c main_v43_0) (V7 m ρ c main_v20) (V7 m ρ c main_v60) (V7 m ρ c main_v61) (V7 m ρ c main_v62) p l o =
      if l < 994 then rowConv ((argsOf m c).seq2 p) (taps (argsOf m c).w3) (vec (argsOf m c).b3) l o else 0 := by
  have hw : (fun (o : Fin 128) (a : Fin 128) (k : Fin 3) => V7 m ρ c main_v20 (ix2 ⟨128 * k.val + a.val, by omega⟩ o)) =
      taps (argsOf m c).w3 := by
    funext o a k
    exact ((congrFun (W7_of m ρ c main_v20 (by decide +kernel)) _).trans <| (congrFun (W6_of m ρ c main_v20 (by decide +kernel)) _).trans <| (congrFun (W5_of m ρ c main_v20 (by decide +kernel)) _).trans <| (congrFun (W4_of m ρ c main_v20 (by decide +kernel)) _).trans <| (weight3 (W2 m ρ c) o a k).trans (congrFun (W2_args m ρ c main_arg14 (by decide)) _))
  have hb : (fun o : Fin 128 => V7 m ρ c main_v60 (ix3 0 0 o)) = vec (argsOf m c).b3 := by
    funext o
    exact (bias3 (W6 m ρ c) o).trans (congrFun (W6_args m ρ c main_arg15 (by decide)) _)
  unfold conv3Of
  rw [hw, hb]
  split
  · rename_i hl
    refine rowConv_congr _ _ (fun k hk => ?_) o
    funext a
    unfold upTo
    rw [if_pos (by omega)]
    exact rows2 ρ hA p (l + k) (by omega) a
  · rfl

include hA in
/-- The array region 2 leaves, by sequence and position. -/
theorem stored3 (p : Fin 500) (l : ℕ) (o : Fin 128) :
    ext (fun (l : Fin 1000) (k : Fin 128) => V9 m ρ c main_v63_0 (ix3 p l k)) l o =
      if l < 994 then rowConv ((argsOf m c).seq2 p) (taps (argsOf m c).w3) (vec (argsOf m c).b3) l o else 0 := by
  have h : V9 m ρ c main_v63_0 = _ :=
    (W9_of m ρ c main_v63_0 (by decide)).trans ((W8_arr m ρ c 5).trans (arr2_5 (V7 m ρ) c))
  unfold ext
  rw [h]
  split
  · exact conv3_eq ρ hA p l o
  · rw [if_neg (by omega)]

include hA in
/-- The sums region 2 leaves add up to the totals. -/
theorem sum3 (o : Fin 128) : (∑ t : Fin 50, W8 m ρ c (Proc.devRef .tc main_v63_1) (ix3 t 0 o) : EReal) =
    total 994 (fun p l o => rowConv ((argsOf m c).seq2 p) (taps (argsOf m c).w3) (vec (argsOf m c).b3) l o) o := by
  have h : W8 m ρ c (Proc.devRef .tc main_v63_1) = _ := (W8_arr m ρ c 6).trans (arr2_6 (V7 m ρ) c)
  rw [h]
  exact sum_masked (by norm_num) (conv3Of (V7 m ρ c main_v43_0) (V7 m ρ c main_v20) (V7 m ρ c main_v60) (V7 m ρ c main_v61) (V7 m ρ c main_v62)) _ (conv3_eq ρ hA) o

include hA in
/-- The sums of squares region 2 leaves add up to the totals. -/
theorem sumsq3 (o : Fin 128) : (∑ t : Fin 50, W8 m ρ c (Proc.devRef .tc main_v63_2) (ix3 t 0 o) : EReal) =
    total 994 (fun p l o => rowConv ((argsOf m c).seq2 p) (taps (argsOf m c).w3) (vec (argsOf m c).b3) l o *
      rowConv ((argsOf m c).seq2 p) (taps (argsOf m c).w3) (vec (argsOf m c).b3) l o) o := by
  have h : W8 m ρ c (Proc.devRef .tc main_v63_2) = _ := (W8_arr m ρ c 7).trans (arr2_7 (V7 m ρ) c)
  rw [h]
  refine sum_masked (by norm_num) (fun p l o => conv3Of (V7 m ρ c main_v43_0) (V7 m ρ c main_v20) (V7 m ρ c main_v60) (V7 m ρ c main_v61) (V7 m ρ c main_v62) p l o *
    conv3Of (V7 m ρ c main_v43_0) (V7 m ρ c main_v20) (V7 m ρ c main_v60) (V7 m ρ c main_v61) (V7 m ρ c main_v62) p l o) _ (fun p l o => ?_) o
  rw [conv3_eq ρ hA]
  split
  · rfl
  · exact mul_zero _

include hA in
/-- The sequences after layer 3, as region 3 reads them. -/
theorem rows3 (p : Fin 500) (l : ℕ) (hl : l < 994) (o : Fin 128) :
    affRelu (ext fun (l : Fin 1000) (k : Fin 128) => V9 m ρ c main_v63_0 (ix3 p l k)) (fun k => V9 m ρ c main_v80 (ix3 0 0 k))
      (fun k => V9 m ρ c main_v81 (ix3 0 0 k)) l o = (argsOf m c).seq3 p l o := by
  unfold Args.seq3
  rw [count3_eq]
  refine layer_of 994 497000 (by norm_num) (by norm_num) (argsOf m c).seq2 (taps (argsOf m c).w3) (vec (argsOf m c).b3)
    (vec (argsOf m c).g3) (vec (argsOf m c).be3) (fun p l h c => hA.seq2 p l h c) (fun _ _ _ => hA.w3 _)
    (fun _ => hA.b3 _) (fun _ => hA.g3 _) (fun _ => hA.be3 _)
    (fun p => ext fun (l : Fin 1000) (k : Fin 128) => V9 m ρ c main_v63_0 (ix3 p l k))
    (fun p l hl o => (stored3 ρ hA p l o).trans (if_pos hl)) _ _
    (fun o => ∑ t : Fin 50, W8 m ρ c (Proc.devRef .tc main_v63_1) (ix3 t 0 o))
    (fun o => ∑ t : Fin 50, W8 m ρ c (Proc.devRef .tc main_v63_2) (ix3 t 0 o)) (fun o => ?_) (fun o => ?_)
    (sum3 ρ hA) (sumsq3 ρ hA) p l hl o
  · refine (scale3 (W8 m ρ c) o).trans ?_
    rw [count3_eq, W8_args m ρ c main_arg16 (by decide)]
    rfl
  · refine (shift3 (W8 m ρ c) o).trans ?_
    rw [count3_eq, W8_args m ρ c main_arg16 (by decide), W8_args m ρ c main_arg17 (by decide)]
    rfl

include hA in
/-- Region 3 leaves the largest value of each sequence. -/
theorem pool_eq (p : Fin 500) (o : Fin 128) :
    poolOf (V9 m ρ c main_v63_0) (V9 m ρ c main_v80) (V9 m ρ c main_v81) p o = (argsOf m c).pooled p o := by
  unfold poolOf Args.pooled
  exact Finset.sup_congr rfl fun l _ => rows3 ρ hA p l.val l.isLt o

end Cert.Protein
-- ==== Proof.Region4.lean ====
/- What the head's region leaves in its result array. -/
module

public import proofs.«01_k».proof.Proof.Gen.KernelIdeal.Frame
public import proofs.«01_k».proof.Proof.Head
public import proofs.«01_k».proof.Proof.Blocks

@[expose] public section

set_option maxRecDepth 65536
set_option maxHeartbeats 4000000

noncomputable section

namespace Cert.Protein

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c.tc : Thread nD τ).loc b))

/-- Every window of the head shows its whole array. -/
theorem idx4 : ∀ t : Fin cfg4.N, win4_0.index t = ![0, 0] ∧ win4_1.index t = ![0, 0] ∧ win4_2.index t = ![0, 0] ∧ win4_3.index t = ![0, 0] ∧ win4_4.index t = ![0, 0] ∧ win4_5.index t = ![0, 0] ∧ win4_6.index t = ![0, 0] ∧ win4_7.index t = ![0, 0] ∧ win4_8.index t = ![0, 0] ∧ win4_9.index t = ![0, 0] ∧ win4_10.index t = ![0, 0] ∧ win4_11.index t = ![0, 0] ∧ win4_12.index t = ![0, 0] ∧ win4_13.index t = ![0, 0] ∧ win4_14.index t = ![0, 0] ∧ win4_15.index t = ![0, 0] :=
  (by decide +kernel : ∀ t : Fin grid4.N, _)

/-- The head's layers of its argument arrays. -/
def headOf (s ic : FVec Ideal S500x128 .f32) (g b : FVec Ideal S1x128 .f32) (pv : FVec Ideal S500x128 .f32)
    (wa wb : FVec Ideal S128x128 .f32) (b1 g1 be1 : FVec Ideal S1x128 .f32) (w2 : FVec Ideal S128x64 .f32)
    (b2 g2 be2 : FVec Ideal S1x64 .f32) (w3 : FVec Ideal S64x8 .f32) (p : Fin 500) (o : Fin 8) : EReal :=
  rowDot (normRelu (lin2 (normRelu (lin1
      (colNorm (fun p k => s (ix2 p k) * ic (ix2 p k)) (fun k => g (ix2 0 k)) (fun k => b (ix2 0 k)))
      (fun p k => pv (ix2 p k)) (fun k o => wa (ix2 k o)) (fun k o => wb (ix2 k o)) (fun o => b1 (ix2 0 o)))
      (fun k => g1 (ix2 0 k)) (fun k => be1 (ix2 0 k))) (fun k o => w2 (ix2 k o)) (fun o => b2 (ix2 0 o)))
      (fun k => g2 (ix2 0 k)) (fun k => be2 (ix2 0 k))) (fun k o => w3 (ix2 k o)) p o

/-- The head's array. -/
theorem arr4_15 (c : Dev nD) : (dat4 V c).arrAt 15 cfg4.N = fun i : S500x8.Idx =>
    headOf (V c main_arg0) (V c main_v7) (V c main_v86) (V c main_v87) (V c main_v83) (V c main_v88) (V c main_v89) (V c main_v90) (V c main_v91) (V c main_v92) (V c main_arg22) (V c main_v93) (V c main_v94) (V c main_v95) (V c main_v85) (i 0) (i 1) := by
  refine (dat4 V c).arrAt_eq_of_covers 15 _ (by decide +kernel) fun t _ y => ?_
  obtain ⟨i0, i1, i2, i3, i4, i5, i6, i7, i8, i9, i10, i11, i12, i13, i14, h15⟩ := idx4 t
  rw [after4_15]
  frame_out
  idx_vars y
  have e : ((View.whole main_v96).slice (win4_15.rect t)).emb (ix2 y0 y1) = ix2 y0 y1 := by
    funext z
    match z with
    | ⟨0, _⟩ => exact Fin.ext (by show win4_15.index t 0 * 500 + 1 * y0.val = y0.val; rw [h15]; show 0 * 500 + _ = _; omega)
    | ⟨1, _⟩ => exact Fin.ext (by show win4_15.index t 1 * 8 + 1 * y1.val = y1.val; rw [h15]; show 0 * 8 + _ = _; omega)
  refine Eq.trans ?_ (congrArg (fun i : S500x8.Idx =>
    headOf (V c main_arg0) (V c main_v7) (V c main_v86) (V c main_v87) (V c main_v83) (V c main_v88) (V c main_v89) (V c main_v90) (V c main_v91) (V c main_v92) (V c main_arg22) (V c main_v93) (V c main_v94) (V c main_v95) (V c main_v85) (i 0) (i 1)) e.symm)
  have h0 : iblk4 V c 0 t = V c main_arg0 := by blk_ext! [iblk4, i0]
  have h1 : iblk4 V c 1 t = V c main_v7 := by blk_ext! [iblk4, i1]
  have h2 : iblk4 V c 2 t = V c main_v86 := by blk_ext! [iblk4, i2]
  have h3 : iblk4 V c 3 t = V c main_v87 := by blk_ext! [iblk4, i3]
  have h4 : iblk4 V c 4 t = V c main_v83 := by blk_ext! [iblk4, i4]
  have h5 : iblk4 V c 5 t = V c main_v88 := by blk_ext! [iblk4, i5]
  have h6 : iblk4 V c 6 t = V c main_v89 := by blk_ext! [iblk4, i6]
  have h7 : iblk4 V c 7 t = V c main_v90 := by blk_ext! [iblk4, i7]
  have h8 : iblk4 V c 8 t = V c main_v91 := by blk_ext! [iblk4, i8]
  have h9 : iblk4 V c 9 t = V c main_v92 := by blk_ext! [iblk4, i9]
  have h10 : iblk4 V c 10 t = V c main_arg22 := by blk_ext! [iblk4, i10]
  have h11 : iblk4 V c 11 t = V c main_v93 := by blk_ext! [iblk4, i11]
  have h12 : iblk4 V c 12 t = V c main_v94 := by blk_ext! [iblk4, i12]
  have h13 : iblk4 V c 13 t = V c main_v95 := by blk_ext! [iblk4, i13]
  have h14 : iblk4 V c 14 t = V c main_v85 := by blk_ext! [iblk4, i14]
  rw [h0, h1, h2, h3, h4, h5, h6, h7, h8, h9, h10, h11, h12, h13, h14]
  refine (k4_pay1_at _ _ _ _ y0 y1).trans ?_
  unfold headOf lin1
  simp only [k4_pay5_at, k4_pay2_at]
  rfl

end Cert.Protein
-- ==== Proof.KernelValue.lean ====
/- The kernel's result in terms of its arguments. -/
module

public import proofs.«01_k».proof.Proof.Layers
public import proofs.«01_k».proof.Proof.Region4

@[expose] public section

set_option maxRecDepth 65536
set_option maxHeartbeats 4000000

noncomputable section

namespace Cert.Protein

open Idealize.ShloMosaic Idealize.ShloMosaic.TcCoe Idealize.SL.Sem Cert.KernelIdeal Cert.KernelIdeal.Gen

variable {m : (ℓ : Loc nD τ sig) → Buf (Elt Ideal) ℓ} (ρ : Dev nD → PrngReg) {c : Dev nD} (hA : (argsOf m c).Finite)

variable (m c) in
/-- The reciprocal counts, as the head reads them. -/
theorem recip_eq (p : Fin 500) (k : Fin 128) :
    V11 m ρ c main_v7 (ix2 p k) = Ideal.div 1 (max oneE ((argsOf m c).counts (ix1 p))) := by
  refine ((congrFun (W11_of m ρ c main_v7 (by decide +kernel)) _).trans <| (congrFun (W10_of m ρ c main_v7 (by decide +kernel)) _).trans <| (congrFun (W9_of m ρ c main_v7 (by decide +kernel)) _).trans <| (congrFun (W8_of m ρ c main_v7 (by decide +kernel)) _).trans <| (congrFun (W7_of m ρ c main_v7 (by decide +kernel)) _).trans <| (congrFun (W6_of m ρ c main_v7 (by decide +kernel)) _).trans <| (congrFun (W5_of m ρ c main_v7 (by decide +kernel)) _).trans <| (congrFun (W4_of m ρ c main_v7 (by decide +kernel)) _).trans ?_)
  refine (recip (W2 m ρ c) p k).trans (congrArg (Ideal.div 1) ?_)
  refine (clip (W1 m ρ c) p (one0 (W0 m ρ c))).trans ?_
  rw [W1_args m ρ c main_arg1 (by decide)]
  rfl

include hA in
/-- The protein features, as the head reads them. -/
theorem pooled_eq (p : Fin 500) (o : Fin 128) : V11 m ρ c main_v83 (ix2 p o) = (argsOf m c).pooled p o := by
  refine (pooled (W10 m ρ c) p o).trans ?_
  have h : W10 m ρ c (Proc.devRef .tc main_v82) = _ := (W10_arr m ρ c 3).trans (arr3_3 (V9 m ρ) c)
  rw [h]
  refine (pool_eq ρ hA (seqOf (p.val / 10) (by omega) ⟨p.val % 10, by omega⟩) o).trans ?_
  congr 1
  refine Fin.ext ?_
  show 10 * (p.val / 10) + p.val % 10 = p.val
  omega

include hA in
/-- Region 4 computes the head. -/
theorem head_eq (p : Fin 500) : headOf (V11 m ρ c main_arg0) (V11 m ρ c main_v7) (V11 m ρ c main_v86) (V11 m ρ c main_v87) (V11 m ρ c main_v83) (V11 m ρ c main_v88) (V11 m ρ c main_v89) (V11 m ρ c main_v90) (V11 m ρ c main_v91) (V11 m ρ c main_v92) (V11 m ρ c main_arg22) (V11 m ρ c main_v93) (V11 m ρ c main_v94) (V11 m ρ c main_v95) (V11 m ρ c main_v85) p 0 =
    ∑ k : Fin 64, (argsOf m c).head2 p k * (argsOf m c).o (ix2 k 0) := by
  have hd : colNorm (fun p k => HMul.hMul (α := EReal) (β := EReal) (V11 m ρ c main_arg0 (ix2 p k)) (V11 m ρ c main_v7 (ix2 p k)))
      (fun k => V11 m ρ c main_v86 (ix2 0 k)) (fun k => V11 m ρ c main_v87 (ix2 0 k)) = (argsOf m c).drug := by
    unfold Args.drug
    congr 1
    · funext p k
      rw [recip_eq, mul_recip]
      exact congrArg (fun z => Ideal.div z _) (congrFun (W11_args m ρ c main_arg0 (by decide)) _)
    · funext k
      exact (row_v86 (W10 m ρ c) k).trans (congrFun (W10_args m ρ c main_arg3 (by decide)) _)
    · funext k
      exact (row_v87 (W10 m ρ c) k).trans (congrFun (W10_args m ρ c main_arg4 (by decide)) _)
  have hp : (fun p o => V11 m ρ c main_v83 (ix2 p o)) = (argsOf m c).pooled := funext fun p => funext fun o => pooled_eq ρ hA p o
  have ha : (fun k o : Fin 128 => V11 m ρ c main_v88 (ix2 k o)) = fun k o => (argsOf m c).f1 (ix2 ⟨k.val, by omega⟩ o) := by
    funext k o
    exact (halfA (W10 m ρ c) k o).trans (congrFun (W10_args m ρ c main_arg18 (by decide)) _)
  have hb : (fun k o : Fin 128 => V11 m ρ c main_v89 (ix2 k o)) = fun k o => (argsOf m c).f1 (ix2 ⟨128 + k.val, by omega⟩ o) := by
    funext k o
    exact (halfB (W10 m ρ c) k o).trans (congrFun (W10_args m ρ c main_arg18 (by decide)) _)
  have hfb1 : (fun k : Fin 128 => V11 m ρ c main_v90 (ix2 0 k)) = vec (argsOf m c).fb1 := by
    funext k
    exact (row_v90 (W10 m ρ c) k).trans (congrFun (W10_args m ρ c main_arg19 (by decide)) _)
  have hfg1 : (fun k : Fin 128 => V11 m ρ c main_v91 (ix2 0 k)) = vec (argsOf m c).fg1 := by
    funext k
    exact (row_v91 (W10 m ρ c) k).trans (congrFun (W10_args m ρ c main_arg20 (by decide)) _)
  have hfbe1 : (fun k : Fin 128 => V11 m ρ c main_v92 (ix2 0 k)) = vec (argsOf m c).fbe1 := by
    funext k
    exact (row_v92 (W10 m ρ c) k).trans (congrFun (W10_args m ρ c main_arg21 (by decide)) _)
  have hfb2 : (fun k : Fin 64 => V11 m ρ c main_v93 (ix2 0 k)) = vec (argsOf m c).fb2 := by
    funext k
    exact (row_v93 (W10 m ρ c) k).trans (congrFun (W10_args m ρ c main_arg23 (by decide)) _)
  have hfg2 : (fun k : Fin 64 => V11 m ρ c main_v94 (ix2 0 k)) = vec (argsOf m c).fg2 := by
    funext k
    exact (row_v94 (W10 m ρ c) k).trans (congrFun (W10_args m ρ c main_arg24 (by decide)) _)
  have hfbe2 : (fun k : Fin 64 => V11 m ρ c main_v95 (ix2 0 k)) = vec (argsOf m c).fbe2 := by
    funext k
    exact (row_v95 (W10 m ρ c) k).trans (congrFun (W10_args m ρ c main_arg25 (by decide)) _)
  have hw : (fun (k : Fin 128) (o : Fin 64) => V11 m ρ c main_arg22 (ix2 k o)) = fun k o => (argsOf m c).f2 (ix2 k o) := by
    funext k o
    exact congrFun (W11_args m ρ c main_arg22 (by decide)) _
  unfold headOf rowDot
  rw [hd, hp, ha, hb, hfb1, hfg1, hfbe1, hfb2, hfg2, hfbe2, hw]
  refine Finset.sum_congr rfl fun k _ => ?_
  refine congrArg ((argsOf m c).head2 p k * ·) ?_
  exact (outW (W10 m ρ c) k).trans (congrFun (W10_args m ρ c main_arg26 (by decide)) _)

include hA in
/-- The kernel's result. -/
theorem value_eq (p : Fin 500) : W13 m ρ c (Proc.devRef .tc main_v100) (ix2 p 0) = (argsOf m c).out p := by
  refine (result (W12 m ρ c) p).trans ?_
  have h : W12 m ρ c (Proc.devRef .tc main_v96) = _ := (W12_arr m ρ c 15).trans (arr4_15 (V11 m ρ) c)
  rw [h, W12_args m ρ c main_arg27 (by decide)]
  exact congrArg (fun z : EReal => z + _) (head_eq ρ hA p)

end Cert.Protein
-- ==== Proof.Run.lean ====
/- The kernel's run, keeping every buffer's final contents. -/
module

public import proofs.«01_k».proof.Proof.Gen.KernelIdeal.Frame
public import Idealize.ShloMosaic.PureOps.Ideal

@[expose] public section

set_option maxRecDepth 16384

noncomputable section

namespace Cert.Protein

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- What a run of the kernel needs of one device at its end: every unscoped buffer as the last boundary has it. -/
def Ends (c : Dev nD) (s : MemSt nD τ sig (Elt Ideal)) : Prop :=
  ∀ b ∈ Pipeline.ucRefs τ sig, s.mem (((c : Thread nD τ)).1, b) = W13 m ρ c b

/-- Holding the buffers at the last boundary's contents beside a state, that state has them. -/
theorem ends_of_held (c : Dev nD) (s : Phys nD τ sig (Elt Ideal)) :
    iprop(Tₙ m ρ c ∗ SI s) ⊢ (iprop(|={Set.univ}=> (⌜Ends m ρ c s.mem⌝ ∗ SI s)) : sProp 𝕄) := by
  iintro ⟨⟨Hh, -⟩, HSI⟩
  unfold StableHlo.held Ends
  imodintro
  iapply (pointsTo_read_all (Pipeline.ucRefs τ sig) (fun b => (((c : Thread nD τ)).1, b)) (W13 m ρ c) s)
  isplitl [Hh] <;> iassumption

-- the launch theorem's implicit arguments are found by unfolding definitions in the types of metavariables
set_option backward.isDefEq.respectTransparency.types false in
/-- Every weakly fair execution of the idealized kernel ends, with each unscoped buffer at the contents of the last
    boundary. -/
theorem kernel_run : θ_run defs (onTc (τ := τ) (main (F := Ideal))) ⟨m, fun _ => 0, ρ⟩
    (fun r => ∀ c : Dev nD, Ends m ρ c r.2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := Ends m ρ) (hfin := fun c s => ends_of_held m ρ c s) (hQ := fun _ h _ => h)

end Cert.Protein

end
-- ==== Proof.Finite.lean ====
/- The precondition: what it says of the arguments. -/
module

public import proofs.«01_k».proof.Defs
public import proofs.«01_k».proof.Proof.Layers
public import Idealize.ShloMosaic.Lib.ReduceAll

@[expose] public section

noncomputable section

namespace Cert.Protein

open Idealize.ShloMosaic Idealize.ShloMosaic.TcCoe

/-- The shape facts the precondition's operations need. -/
theorem preFacts : Cert.Pre_finite.Facts where
  bcast_S_S22x32 := by decide
  reducesTo_S22x32_S_d0_1 := by decide
  h_S_ := by decide
  bcast_S_S64x32x3 := by decide
  reducesTo_S64x32x3_S_d0_1_2 := by decide
  bcast_S_S64 := by decide
  reducesTo_S64_S_d0 := by decide
  bcast_S_S128x64x3 := by decide
  reducesTo_S128x64x3_S_d0_1_2 := by decide
  bcast_S_S128 := by decide
  reducesTo_S128_S_d0 := by decide
  bcast_S_S128x128x3 := by decide
  reducesTo_S128x128x3_S_d0_1_2 := by decide

/-- The word the precondition compares with is infinity. -/
theorem ofBits_inf : FloatOps.ofBits (F := Ideal) .f32 0x7F800000#32 = (⊤ : EReal) := by
  show Ideal.ofBits .f32 0x7F800000#32 = ⊤
  simp [Ideal.ofBits, Ideal.ieee]

/-- An array of which "all absolute values are below infinity" holds has a real number at every index. -/
theorem real_of_all {s t u : Shape} {axes : List (Fin s.rank)} [Subsingleton t.Idx] (a : FVec Ideal s .f32) (b : FVec Ideal s .f32)
    (hb : ∀ i, b i = (⊤ : EReal)) (init : u.Idx → BitVec 1) (h : s.ReducesTo axes t) (hu : 0 < u.numel)
    (e : Host.reduce IntOp.andi (cmpf .olt (Host.absf a) b) init h hu = fun _ => 1#1) (j : t.Idx) (i : s.Idx) : IsReal (a i) := by
  have h1 := Host.reduce_andi_all _ init h hu j (congrFun e j) i
  have h2 : Ideal.cmp .olt (max (a i : EReal) (-(a i : EReal))) (b i) = 1#1 := h1
  rw [hb i] at h2
  refine isReal_of_abs_lt_top ?_
  by_contra hn
  simp [Ideal.cmp, hn] at h2

/-- Under the precondition the arguments of every device are finite in the sense the value theorem asks for. -/
theorem finite_of_pre [Cert.Pre_finite.Facts] {m : (ℓ : Loc Cert.KernelIdeal.nD Cert.KernelIdeal.τ Cert.KernelIdeal.sig) → Buf (Elt Ideal) ℓ}
    (h : Cert.Pre_KernelIdeal_finite m) (c : Dev Cert.KernelIdeal.nD) : (argsOf m c).Finite := by
  have hc := h c
  have : Subsingleton Cert.Pre_finite.S_.Idx := ⟨fun a b => funext fun d => d.elim0⟩
  dsimp only [Cert.Pre_finite.fn, Cert.Pre_finite.fn_part1, Cert.Pre_finite.fn_part2, Cert.Pre_finite.fn_part3] at hc
  have j0 : Cert.Pre_finite.S_.Idx := fun d => d.elim0
  obtain ⟨h0, h1, h2, h3, h4, h5, h6, h7, h8, h9, h10, h11, h12⟩ := hc
  exact ⟨real_of_all _ _ (fun _ => ofBits_inf) _ _ _ h0 j0,
    real_of_all _ _ (fun _ => ofBits_inf) _ _ _ h1 j0,
    real_of_all _ _ (fun _ => ofBits_inf) _ _ _ h2 j0,
    real_of_all _ _ (fun _ => ofBits_inf) _ _ _ h3 j0,
    real_of_all _ _ (fun _ => ofBits_inf) _ _ _ h4 j0,
    real_of_all _ _ (fun _ => ofBits_inf) _ _ _ h5 j0,
    real_of_all _ _ (fun _ => ofBits_inf) _ _ _ h6 j0,
    real_of_all _ _ (fun _ => ofBits_inf) _ _ _ h7 j0,
    real_of_all _ _ (fun _ => ofBits_inf) _ _ _ h8 j0,
    real_of_all _ _ (fun _ => ofBits_inf) _ _ _ h9 j0,
    real_of_all _ _ (fun _ => ofBits_inf) _ _ _ h10 j0,
    real_of_all _ _ (fun _ => ofBits_inf) _ _ _ h11 j0,
    real_of_all _ _ (fun _ => ofBits_inf) _ _ _ h12 j0⟩

end Cert.Protein

end
-- ==== Proof.RefRead.lean ====
/- The reference's layers, read at an index. -/
module

public import proofs.«01_k».proof.Proof.Gen.ReferenceIdeal.Read
public import proofs.«01_k».proof.Proof.Args
public import Idealize.ShloMosaic.Lib.Pointwise

@[expose] public section

set_option maxRecDepth 65536
set_option maxHeartbeats 4000000

noncomputable section

namespace Cert.Protein

open Idealize.ShloMosaic Idealize.ShloMosaic.TcCoe Idealize.SL.Sem Cert.ReferenceIdeal Cert.ReferenceIdeal.Gen Cert.ReferenceIdeal.Read

/-- Taking the number zero off a count leaves it. -/
theorem sub_sitofp (x : EReal) : x - (FloatOps.sitofp (F := Ideal) FTy.f32 0#32 : EReal) = x := by
  have h : (FloatOps.sitofp (F := Ideal) FTy.f32 0#32 : EReal) = 0 := by
    simp [FloatOps.sitofp]
  rw [h, sub_zero]

theorem count1_pos : 0 < Ideal.ofBits FTy.f32 0x48F3A700#32 := by
  rw [show Ideal.ofBits FTy.f32 0x48F3A700#32 = count1 from rfl, count1_eq]
  exact_mod_cast (by norm_num : (0 : ℝ) < 499000)

theorem count2_pos : 0 < Ideal.ofBits FTy.f32 0x48F32A00#32 := by
  rw [show Ideal.ofBits FTy.f32 0x48F32A00#32 = count2 from rfl, count2_eq]
  exact_mod_cast (by norm_num : (0 : ℝ) < 498000)

theorem count3_pos : 0 < Ideal.ofBits FTy.f32 0x48F2AD00#32 := by
  rw [show Ideal.ofBits FTy.f32 0x48F2AD00#32 = count3 from rfl, count3_eq]
  exact_mod_cast (by norm_num : (0 : ℝ) < 497000)

theorem rows_pos : 0 < Ideal.ofBits FTy.f32 0x43FA0000#32 := by
  simp [Ideal.ofBits, Ideal.ieee]
  rw [← EReal.coe_mul]
  exact_mod_cast (by positivity)

variable (x0 : FVec Ideal S500x128 .f32) (x1 : FVec Ideal S500 .f32) (x2 : IVec S500x1000 32) (x3 x4 : FVec Ideal S128 .f32)
  (x5 : FVec Ideal S22x32 .f32) (x6 : FVec Ideal S64x32x3 .f32)
  (x7 x8 x9 : FVec Ideal S64 .f32) (x10 : FVec Ideal S128x64x3 .f32) (x11 x12 x13 : FVec Ideal S128 .f32)
  (x14 : FVec Ideal S128x128x3 .f32) (x15 x16 x17 : FVec Ideal S128 .f32) (x18 : FVec Ideal S256x128 .f32)
  (x19 x20 x21 : FVec Ideal S128 .f32) (x22 : FVec Ideal S128x64 .f32) (x23 x24 x25 : FVec Ideal S64 .f32)
  (x26 : FVec Ideal S64x1 .f32) (x27 : FVec Ideal S1 .f32)

/-- The reference's convolution 1. -/
theorem refConv1 (p : Fin 500) (o : Fin 64) (l : Fin 998) : val_main_v51 (F := Ideal) x2 x5 x6 x7 (ix3 p o l) =
    rowConv (ext fun (l : Fin 1000) (c : Fin 32) => val_main_v28 (F := Ideal) x2 x5 (ix3 p l c)) (taps x6) (vec x7) l.val o := by
  unfold val_main_v51 val_main_v50 val_main_v49 val_main_v48 val_main_v47 val_main_v46 val_main_v45 val_main_v44
    val_main_v43 val_main_v42 val_main_v41 val_main_v40 val_main_v39 val_main_v38 val_main_v37 val_main_v36
    val_main_v35 val_main_cst_5 val_main_v34 val_main_v33 val_main_v32 val_main_v31 val_main_v30 val_main_v29
  generalize val_main_v28 (F := Ideal) x2 x5 = y
  pointwise []
  unfold rowConv
  simp only [ext_lt _ (show l.val < 1000 by omega), ext_lt _ (show l.val + 1 < 1000 by omega), ext_lt _ (show l.val + 2 < 1000 by omega),
    Nat.add_comm 1, Nat.add_comm 2]
  rfl

/-- The reference's normalisation and rectifier after convolution 1. -/
theorem refNorm1 (Y : Fin 500 → ℕ → Fin 64 → EReal) (hY : ∀ p o (l : Fin 998), val_main_v51 (F := Ideal) x2 x5 x6 x7 (ix3 p o l) = Y p l.val o)
    (p : Fin 500) (o : Fin 64) (l : Fin 998) : val_main_v70 (F := Ideal) x2 x5 x6 x7 x8 x9 (ix3 p o l) =
      max (bnorm 998 count1 epsE Y (vec x8) (vec x9) p l.val o) 0 := by
  revert hY
  unfold val_main_v70 val_main_call3_v0 val_main_call3_cst val_main_v69 val_main_v68 val_main_v67 val_main_v66
    val_main_v65 val_main_v64 val_main_v63 val_main_v62 val_main_cst_9 val_main_v61 val_main_v60 val_main_v59
    val_main_v58 val_main_v57 val_main_v56 val_main_call2_call0_v1 val_main_call2_call0_v0 val_main_call2_cst_4
    val_main_call2_v13 val_main_call2_cst_3 val_main_call2_v12 val_main_call2_v11 val_main_call2_v10
    val_main_call2_v9 val_main_call2_cst_2 val_main_call2_v8 val_main_call2_cst_1 val_main_call2_v7 val_main_call2_v6
    val_main_call2_v5 val_main_call2_v4 val_main_call2_v3 val_main_call2_v2 val_main_call2_cst_0 val_main_call2_v1
    val_main_call2_v0 val_main_call2_cst val_main_c_8 val_main_v55 val_main_v54 val_main_cst_7 val_main_v53
    val_main_v52 val_main_cst_6
  generalize val_main_v51 (F := Ideal) x2 x5 x6 x7 = y
  intro hY
  pointwise []
  simp only [hostReduceAdd_ends]
  pointwise []
  simp only [hostReduceAdd_ends, sub_sitofp, if_pos count1_pos, hY, zero_add]
  rfl

/-- The reference's convolution 2. -/
theorem refConv2 (p : Fin 500) (o : Fin 128) (l : Fin 996) : val_main_v92 (F := Ideal) x2 x5 x6 x7 x8 x9 x10 x11 (ix3 p o l) =
    rowConv (ext fun (l : Fin 998) (c : Fin 64) => val_main_v70 (F := Ideal) x2 x5 x6 x7 x8 x9 (ix3 p c l)) (taps x10) (vec x11) l.val o := by
  unfold val_main_v92 val_main_v91 val_main_v90 val_main_v89 val_main_v88 val_main_v87 val_main_v86 val_main_v85
    val_main_v84 val_main_v83 val_main_v82 val_main_v81 val_main_v80 val_main_v79 val_main_v78 val_main_v77
    val_main_v76 val_main_cst_10 val_main_v75 val_main_v74 val_main_v73 val_main_v72 val_main_v71
  generalize val_main_v70 (F := Ideal) x2 x5 x6 x7 x8 x9 = y
  pointwise []
  unfold rowConv
  simp only [ext_lt _ (show l.val < 998 by omega), ext_lt _ (show l.val + 1 < 998 by omega), ext_lt _ (show l.val + 2 < 998 by omega),
    Nat.add_comm 1, Nat.add_comm 2]
  rfl

/-- The reference's normalisation and rectifier after convolution 2. -/
theorem refNorm2 (Y : Fin 500 → ℕ → Fin 128 → EReal) (hY : ∀ p o (l : Fin 996), val_main_v92 (F := Ideal) x2 x5 x6 x7 x8 x9 x10 x11 (ix3 p o l) = Y p l.val o)
    (p : Fin 500) (o : Fin 128) (l : Fin 996) : val_main_v111 (F := Ideal) x2 x5 x6 x7 x8 x9 x10 x11 x12 x13 (ix3 p o l) =
      max (bnorm 996 count2 epsE Y (vec x12) (vec x13) p l.val o) 0 := by
  revert hY
  unfold val_main_v111 val_main_call5_v0 val_main_call5_cst val_main_v110 val_main_v109 val_main_v108 val_main_v107
    val_main_v106 val_main_v105 val_main_v104 val_main_v103 val_main_cst_14 val_main_v102 val_main_v101 val_main_v100
    val_main_v99 val_main_v98 val_main_v97 val_main_call4_call0_v1 val_main_call4_call0_v0 val_main_call4_cst_4
    val_main_call4_v13 val_main_call4_cst_3 val_main_call4_v12 val_main_call4_v11 val_main_call4_v10
    val_main_call4_v9 val_main_call4_cst_2 val_main_call4_v8 val_main_call4_cst_1 val_main_call4_v7 val_main_call4_v6
    val_main_call4_v5 val_main_call4_v4 val_main_call4_v3 val_main_call4_v2 val_main_call4_cst_0 val_main_call4_v1
    val_main_call4_v0 val_main_call4_cst val_main_c_13 val_main_v96 val_main_v95 val_main_cst_12 val_main_v94
    val_main_v93 val_main_cst_11
  generalize val_main_v92 (F := Ideal) x2 x5 x6 x7 x8 x9 x10 x11 = y
  intro hY
  pointwise []
  simp only [hostReduceAdd_ends]
  pointwise []
  simp only [hostReduceAdd_ends, sub_sitofp, if_pos count2_pos, hY, zero_add]
  rfl

/-- The reference's convolution 3. -/
theorem refConv3 (p : Fin 500) (o : Fin 128) (l : Fin 994) : val_main_v133 (F := Ideal) x2 x5 x6 x7 x8 x9 x10 x11 x12 x13 x14 x15 (ix3 p o l) =
    rowConv (ext fun (l : Fin 996) (c : Fin 128) => val_main_v111 (F := Ideal) x2 x5 x6 x7 x8 x9 x10 x11 x12 x13 (ix3 p c l)) (taps x14) (vec x15) l.val o := by
  unfold val_main_v133 val_main_v132 val_main_v131 val_main_v130 val_main_v129 val_main_v128 val_main_v127
    val_main_v126 val_main_v125 val_main_v124 val_main_v123 val_main_v122 val_main_v121 val_main_v120 val_main_v119
    val_main_v118 val_main_v117 val_main_cst_15 val_main_v116 val_main_v115 val_main_v114 val_main_v113 val_main_v112
  generalize val_main_v111 (F := Ideal) x2 x5 x6 x7 x8 x9 x10 x11 x12 x13 = y
  pointwise []
  unfold rowConv
  simp only [ext_lt _ (show l.val < 996 by omega), ext_lt _ (show l.val + 1 < 996 by omega), ext_lt _ (show l.val + 2 < 996 by omega),
    Nat.add_comm 1, Nat.add_comm 2]
  rfl

/-- The reference's normalisation and rectifier after convolution 3. -/
theorem refNorm3 (Y : Fin 500 → ℕ → Fin 128 → EReal) (hY : ∀ p o (l : Fin 994), val_main_v133 (F := Ideal) x2 x5 x6 x7 x8 x9 x10 x11 x12 x13 x14 x15 (ix3 p o l) = Y p l.val o)
    (p : Fin 500) (o : Fin 128) (l : Fin 994) : val_main_v152 (F := Ideal) x2 x5 x6 x7 x8 x9 x10 x11 x12 x13 x14 x15 x16 x17 (ix3 p o l) =
      max (bnorm 994 count3 epsE Y (vec x16) (vec x17) p l.val o) 0 := by
  revert hY
  unfold val_main_v152 val_main_call7_v0 val_main_call7_cst val_main_v151 val_main_v150 val_main_v149 val_main_v148
    val_main_v147 val_main_v146 val_main_v145 val_main_v144 val_main_cst_19 val_main_v143 val_main_v142 val_main_v141
    val_main_v140 val_main_v139 val_main_v138 val_main_call6_call0_v1 val_main_call6_call0_v0 val_main_call6_cst_4
    val_main_call6_v13 val_main_call6_cst_3 val_main_call6_v12 val_main_call6_v11 val_main_call6_v10
    val_main_call6_v9 val_main_call6_cst_2 val_main_call6_v8 val_main_call6_cst_1 val_main_call6_v7 val_main_call6_v6
    val_main_call6_v5 val_main_call6_v4 val_main_call6_v3 val_main_call6_v2 val_main_call6_cst_0 val_main_call6_v1
    val_main_call6_v0 val_main_call6_cst val_main_c_18 val_main_v137 val_main_v136 val_main_cst_17 val_main_v135
    val_main_v134 val_main_cst_16
  generalize val_main_v133 (F := Ideal) x2 x5 x6 x7 x8 x9 x10 x11 x12 x13 x14 x15 = y
  intro hY
  pointwise []
  simp only [hostReduceAdd_ends]
  pointwise []
  simp only [hostReduceAdd_ends, sub_sitofp, if_pos count3_pos, hY, zero_add]
  rfl

/-- The reference's normalisation of the drug features. -/
theorem refDrug (Y : Fin 500 → Fin 128 → EReal) (hY : ∀ p o, val_main_v3 (F := Ideal) x0 x1 (ix2 p o) = Y p o)
    (p : Fin 500) (o : Fin 128) : val_main_v21 (F := Ideal) x0 x1 x3 x4 (ix2 p o) = colNorm Y (vec x3) (vec x4) p o := by
  revert hY
  unfold val_main_v21 val_main_v20 val_main_v19 val_main_v18 val_main_v17 val_main_v16 val_main_v15 val_main_v14
    val_main_cst_2 val_main_v13 val_main_v12 val_main_v11 val_main_v10 val_main_v9 val_main_v8
    val_main_call1_call0_v1 val_main_call1_call0_v0 val_main_call1_cst_4 val_main_call1_v13 val_main_call1_cst_3
    val_main_call1_v12 val_main_call1_v11 val_main_call1_v10 val_main_call1_v9 val_main_call1_cst_2 val_main_call1_v8
    val_main_call1_cst_1 val_main_call1_v7 val_main_call1_v6 val_main_call1_v5 val_main_call1_v4 val_main_call1_v3
    val_main_call1_v2 val_main_call1_cst_0 val_main_call1_v1 val_main_call1_v0 val_main_call1_cst val_main_c
    val_main_v7 val_main_v6 val_main_cst_1 val_main_v5 val_main_v4 val_main_cst_0
  generalize val_main_v3 (F := Ideal) x0 x1 = y
  intro hY
  pointwise []
  simp only [sub_sitofp, if_pos rows_pos, hY, zero_add]
  rfl

/-- The reference's normalisation of the head's first layer. -/
theorem refNorm4 (Y : Fin 500 → Fin 128 → EReal) (hY : ∀ p o, val_main_v158 (F := Ideal) x0 x1 x2 x3 x4 x5 x6 x7 x8 x9 x10 x11 x12 x13 x14 x15 x16 x17 x18 x19 (ix2 p o) = Y p o)
    (p : Fin 500) (o : Fin 128) : val_main_v177 (F := Ideal) x0 x1 x2 x3 x4 x5 x6 x7 x8 x9 x10 x11 x12 x13 x14 x15 x16 x17 x18 x19 x20 x21 (ix2 p o) = normRelu Y (vec x20) (vec x21) p o := by
  revert hY
  unfold val_main_v177 val_main_call9_v0 val_main_call9_cst val_main_v176 val_main_v175 val_main_v174 val_main_v173
    val_main_v172 val_main_v171 val_main_v170 val_main_v169 val_main_cst_24 val_main_v168 val_main_v167 val_main_v166
    val_main_v165 val_main_v164 val_main_v163 val_main_call8_call0_v1 val_main_call8_call0_v0 val_main_call8_cst_4
    val_main_call8_v13 val_main_call8_cst_3 val_main_call8_v12 val_main_call8_v11 val_main_call8_v10
    val_main_call8_v9 val_main_call8_cst_2 val_main_call8_v8 val_main_call8_cst_1 val_main_call8_v7 val_main_call8_v6
    val_main_call8_v5 val_main_call8_v4 val_main_call8_v3 val_main_call8_v2 val_main_call8_cst_0 val_main_call8_v1
    val_main_call8_v0 val_main_call8_cst val_main_c_23 val_main_v162 val_main_v161 val_main_cst_22 val_main_v160
    val_main_v159 val_main_cst_21
  generalize val_main_v158 (F := Ideal) x0 x1 x2 x3 x4 x5 x6 x7 x8 x9 x10 x11 x12 x13 x14 x15 x16 x17 x18 x19 = y
  intro hY
  pointwise []
  simp only [sub_sitofp, if_pos rows_pos, hY, zero_add]
  rfl

/-- The reference's normalisation of the head's second layer. -/
theorem refNorm5 (Y : Fin 500 → Fin 64 → EReal) (hY : ∀ p o, val_main_v181 (F := Ideal) x0 x1 x2 x3 x4 x5 x6 x7 x8 x9 x10 x11 x12 x13 x14 x15 x16 x17 x18 x19 x20 x21 x22 x23 (ix2 p o) = Y p o)
    (p : Fin 500) (o : Fin 64) : val_main_v200 (F := Ideal) x0 x1 x2 x3 x4 x5 x6 x7 x8 x9 x10 x11 x12 x13 x14 x15 x16 x17 x18 x19 x20 x21 x22 x23 x24 x25 (ix2 p o) = normRelu Y (vec x24) (vec x25) p o := by
  revert hY
  unfold val_main_v200 val_main_call11_v0 val_main_call11_cst val_main_v199 val_main_v198 val_main_v197 val_main_v196
    val_main_v195 val_main_v194 val_main_v193 val_main_v192 val_main_cst_28 val_main_v191 val_main_v190 val_main_v189
    val_main_v188 val_main_v187 val_main_v186 val_main_call10_call0_v1 val_main_call10_call0_v0 val_main_call10_cst_4
    val_main_call10_v13 val_main_call10_cst_3 val_main_call10_v12 val_main_call10_v11 val_main_call10_v10
    val_main_call10_v9 val_main_call10_cst_2 val_main_call10_v8 val_main_call10_cst_1 val_main_call10_v7
    val_main_call10_v6 val_main_call10_v5 val_main_call10_v4 val_main_call10_v3 val_main_call10_v2
    val_main_call10_cst_0 val_main_call10_v1 val_main_call10_v0 val_main_call10_cst val_main_c_27 val_main_v185
    val_main_v184 val_main_cst_26 val_main_v183 val_main_v182 val_main_cst_25
  generalize val_main_v181 (F := Ideal) x0 x1 x2 x3 x4 x5 x6 x7 x8 x9 x10 x11 x12 x13 x14 x15 x16 x17 x18 x19 x20 x21 x22 x23 = y
  intro hY
  pointwise []
  simp only [sub_sitofp, if_pos rows_pos, hY, zero_add]
  rfl

/-- The reference's mean over the nodes. -/
theorem refMean (p : Fin 500) (o : Fin 128) : val_main_v3 (F := Ideal) x0 x1 (ix2 p o) =
    Ideal.div (x0 (ix2 p o)) (max oneE (x1 (ix1 p))) := by
  unfold val_main_v3 val_main_v2 val_main_v1 val_main_v0 val_main_call0_v1 val_main_call0_v0 val_main_cst
  pointwise []
  rfl

/-- The reference's largest value along a sequence. -/
theorem refPool (p : Fin 500) (o : Fin 128) : val_main_v153 (F := Ideal) x2 x5 x6 x7 x8 x9 x10 x11 x12 x13 x14 x15 x16 x17 (ix2 p o) =
    Finset.univ.sup fun l : Fin 994 => val_main_v152 (F := Ideal) x2 x5 x6 x7 x8 x9 x10 x11 x12 x13 x14 x15 x16 x17 (ix3 p o l) := by
  unfold val_main_v153 val_main_cst_20
  generalize val_main_v152 (F := Ideal) x2 x5 x6 x7 x8 x9 x10 x11 x12 x13 x14 x15 x16 x17 = y
  pointwise []
  rw [ofBits_negInf]
  rfl

/-- The head's first layer in the reference: the joined features' product splits into its two halves. -/
theorem refLin1 (p : Fin 500) (o : Fin 128) : val_main_v158 (F := Ideal) x0 x1 x2 x3 x4 x5 x6 x7 x8 x9 x10 x11 x12 x13 x14 x15 x16 x17 x18 x19 (ix2 p o) =
    lin1 (fun p k => val_main_v21 (F := Ideal) x0 x1 x3 x4 (ix2 p k)) (fun p k => val_main_v153 (F := Ideal) x2 x5 x6 x7 x8 x9 x10 x11 x12 x13 x14 x15 x16 x17 (ix2 p k))
      (fun k o => x18 (ix2 ⟨k.val, by omega⟩ o)) (fun k o => x18 (ix2 ⟨128 + k.val, by omega⟩ o)) (vec x19) p o := by
  unfold val_main_v158 val_main_v157 val_main_v156 val_main_v155 val_main_v154
  generalize val_main_v153 (F := Ideal) x2 x5 x6 x7 x8 x9 x10 x11 x12 x13 x14 x15 x16 x17 = y
  generalize val_main_v21 (F := Ideal) x0 x1 x3 x4 = z
  pointwise []
  rfl

/-- The head's second layer in the reference. -/
theorem refLin2 (p : Fin 500) (o : Fin 64) : val_main_v181 (F := Ideal) x0 x1 x2 x3 x4 x5 x6 x7 x8 x9 x10 x11 x12 x13 x14 x15 x16 x17 x18 x19 x20 x21 x22 x23 (ix2 p o) =
    lin2 (fun p k => val_main_v177 (F := Ideal) x0 x1 x2 x3 x4 x5 x6 x7 x8 x9 x10 x11 x12 x13 x14 x15 x16 x17 x18 x19 x20 x21 (ix2 p k)) (fun k o => x22 (ix2 k o)) (vec x23) p o := by
  unfold val_main_v181 val_main_v180 val_main_v179 val_main_v178
  generalize val_main_v177 (F := Ideal) x0 x1 x2 x3 x4 x5 x6 x7 x8 x9 x10 x11 x12 x13 x14 x15 x16 x17 x18 x19 x20 x21 = y
  pointwise []
  rfl

/-- The reference's result. -/
theorem refOut (p : Fin 500) : val_main_v204 (F := Ideal) x0 x1 x2 x3 x4 x5 x6 x7 x8 x9 x10 x11 x12 x13 x14 x15 x16 x17 x18 x19 x20 x21 x22 x23 x24 x25 x26 x27 (ix2 p 0) =
    (∑ k : Fin 64, (val_main_v200 (F := Ideal) x0 x1 x2 x3 x4 x5 x6 x7 x8 x9 x10 x11 x12 x13 x14 x15 x16 x17 x18 x19 x20 x21 x22 x23 x24 x25 (ix2 p k) : EReal) * x26 (ix2 k 0)) + x27 (ix1 0) := by
  unfold val_main_v204 val_main_v203 val_main_v202 val_main_v201
  generalize val_main_v200 (F := Ideal) x0 x1 x2 x3 x4 x5 x6 x7 x8 x9 x10 x11 x12 x13 x14 x15 x16 x17 x18 x19 x20 x21 x22 x23 x24 x25 = y
  pointwise []

end Cert.Protein
-- ==== Proof.RefValue.lean ====
/- The reference's result in terms of its arguments. -/
module

public import proofs.«01_k».proof.Proof.RefRead

@[expose] public section

set_option maxRecDepth 65536
set_option maxHeartbeats 4000000

noncomputable section

namespace Cert.Protein

open Idealize.ShloMosaic Idealize.ShloMosaic.TcCoe Idealize.SL.Sem Cert.ReferenceIdeal Cert.ReferenceIdeal.Gen Cert.ReferenceIdeal.Read

variable (A : Args)

/-- The reference looks up the same rows of the embedding table. -/
theorem refGather : val_main_v28 (F := Ideal) A.protein A.emb = gatherOf A.emb A.protein := rfl

/-- The reference's layer 1. -/
theorem refSeq1 (p : Fin 500) (o : Fin 64) (l : Fin 998) :
    val_main_v70 (F := Ideal) A.protein A.emb A.w1 A.b1 A.g1 A.be1 (ix3 p o l) = A.seq1 p l.val o := by
  refine refNorm1 A.protein A.emb A.w1 A.b1 A.g1 A.be1 (fun p l o => rowConv (A.seq0 p) (taps A.w1) (vec A.b1) l o) (fun p o l => ?_) p o l
  refine (refConv1 A.protein A.emb A.w1 A.b1 p o l).trans ?_
  rw [refGather]
  rfl

/-- The reference's layer 2. -/
theorem refSeq2 (p : Fin 500) (o : Fin 128) (l : Fin 996) :
    val_main_v111 (F := Ideal) A.protein A.emb A.w1 A.b1 A.g1 A.be1 A.w2 A.b2 A.g2 A.be2 (ix3 p o l) = A.seq2 p l.val o := by
  refine refNorm2 A.protein A.emb A.w1 A.b1 A.g1 A.be1 A.w2 A.b2 A.g2 A.be2 (fun p l o => rowConv (A.seq1 p) (taps A.w2) (vec A.b2) l o) (fun p o l => ?_) p o l
  refine (refConv2 A.protein A.emb A.w1 A.b1 A.g1 A.be1 A.w2 A.b2 p o l).trans ?_
  refine rowConv_congr _ _ (fun j hj => ?_) o
  funext c
  rw [ext_lt _ (show l.val + j < 998 by omega)]
  exact refSeq1 A p c ⟨l.val + j, by omega⟩

/-- The reference's layer 3. -/
theorem refSeq3 (p : Fin 500) (o : Fin 128) (l : Fin 994) :
    val_main_v152 (F := Ideal) A.protein A.emb A.w1 A.b1 A.g1 A.be1 A.w2 A.b2 A.g2 A.be2 A.w3 A.b3 A.g3 A.be3 (ix3 p o l) = A.seq3 p l.val o := by
  refine refNorm3 A.protein A.emb A.w1 A.b1 A.g1 A.be1 A.w2 A.b2 A.g2 A.be2 A.w3 A.b3 A.g3 A.be3 (fun p l o => rowConv (A.seq2 p) (taps A.w3) (vec A.b3) l o) (fun p o l => ?_) p o l
  refine (refConv3 A.protein A.emb A.w1 A.b1 A.g1 A.be1 A.w2 A.b2 A.g2 A.be2 A.w3 A.b3 p o l).trans ?_
  refine rowConv_congr _ _ (fun j hj => ?_) o
  funext c
  rw [ext_lt _ (show l.val + j < 996 by omega)]
  exact refSeq2 A p c ⟨l.val + j, by omega⟩

/-- The reference's protein features. -/
theorem refPooled (p : Fin 500) (o : Fin 128) : val_main_v153 (F := Ideal) A.protein A.emb A.w1 A.b1 A.g1 A.be1 A.w2 A.b2 A.g2 A.be2 A.w3 A.b3 A.g3 A.be3 (ix2 p o) = A.pooled p o := by
  refine (refPool A.protein A.emb A.w1 A.b1 A.g1 A.be1 A.w2 A.b2 A.g2 A.be2 A.w3 A.b3 A.g3 A.be3 p o).trans ?_
  exact Finset.sup_congr rfl fun l _ => refSeq3 A p o l

/-- The reference's drug features. -/
theorem refDrugs (p : Fin 500) (o : Fin 128) : val_main_v21 (F := Ideal) A.summed A.counts A.g A.be (ix2 p o) = A.drug p o :=
  refDrug A.summed A.counts A.g A.be _ (refMean A.summed A.counts) p o

/-- The head's first layer. -/
theorem refHead1 (p : Fin 500) (o : Fin 128) : val_main_v177 (F := Ideal) A.summed A.counts A.protein A.g A.be A.emb A.w1 A.b1 A.g1 A.be1 A.w2 A.b2 A.g2 A.be2 A.w3 A.b3 A.g3 A.be3 A.f1 A.fb1 A.fg1 A.fbe1 (ix2 p o) = A.head1 p o := by
  refine refNorm4 A.summed A.counts A.protein A.g A.be A.emb A.w1 A.b1 A.g1 A.be1 A.w2 A.b2 A.g2 A.be2 A.w3 A.b3 A.g3 A.be3 A.f1 A.fb1 A.fg1 A.fbe1 _ (fun p o => (refLin1 A.summed A.counts A.protein A.g A.be A.emb A.w1 A.b1 A.g1 A.be1 A.w2 A.b2 A.g2 A.be2 A.w3 A.b3 A.g3 A.be3 A.f1 A.fb1 p o).trans ?_) p o
  rw [show (fun p k => val_main_v21 (F := Ideal) A.summed A.counts A.g A.be (ix2 p k)) = A.drug from funext fun p => funext fun k => refDrugs A p k,
    show (fun p k => val_main_v153 (F := Ideal) A.protein A.emb A.w1 A.b1 A.g1 A.be1 A.w2 A.b2 A.g2 A.be2 A.w3 A.b3 A.g3 A.be3 (ix2 p k)) = A.pooled from funext fun p => funext fun k => refPooled A p k]

/-- The head's second layer. -/
theorem refHead2 (p : Fin 500) (o : Fin 64) : val_main_v200 (F := Ideal) A.summed A.counts A.protein A.g A.be A.emb A.w1 A.b1 A.g1 A.be1 A.w2 A.b2 A.g2 A.be2 A.w3 A.b3 A.g3 A.be3 A.f1 A.fb1 A.fg1 A.fbe1 A.f2 A.fb2 A.fg2 A.fbe2 (ix2 p o) = A.head2 p o := by
  refine refNorm5 A.summed A.counts A.protein A.g A.be A.emb A.w1 A.b1 A.g1 A.be1 A.w2 A.b2 A.g2 A.be2 A.w3 A.b3 A.g3 A.be3 A.f1 A.fb1 A.fg1 A.fbe1 A.f2 A.fb2 A.fg2 A.fbe2 _ (fun p o => (refLin2 A.summed A.counts A.protein A.g A.be A.emb A.w1 A.b1 A.g1 A.be1 A.w2 A.b2 A.g2 A.be2 A.w3 A.b3 A.g3 A.be3 A.f1 A.fb1 A.fg1 A.fbe1 A.f2 A.fb2 p o).trans ?_) p o
  rw [show (fun p k => val_main_v177 (F := Ideal) A.summed A.counts A.protein A.g A.be A.emb A.w1 A.b1 A.g1 A.be1 A.w2 A.b2 A.g2 A.be2 A.w3 A.b3 A.g3 A.be3 A.f1 A.fb1 A.fg1 A.fbe1 (ix2 p k)) = A.head1 from funext fun p => funext fun k => refHead1 A p k]

/-- The reference's result. -/
theorem refValue (p : Fin 500) : val_main_v204 (F := Ideal) A.summed A.counts A.protein A.g A.be A.emb A.w1 A.b1 A.g1 A.be1 A.w2 A.b2 A.g2 A.be2 A.w3 A.b3 A.g3 A.be3 A.f1 A.fb1 A.fg1 A.fbe1 A.f2 A.fb2 A.fg2 A.fbe2 A.o A.ob (ix2 p 0) = A.out p := by
  refine (refOut A.summed A.counts A.protein A.g A.be A.emb A.w1 A.b1 A.g1 A.be1 A.w2 A.b2 A.g2 A.be2 A.w3 A.b3 A.g3 A.be3 A.f1 A.fb1 A.fg1 A.fbe1 A.f2 A.fb2 A.fg2 A.fbe2 A.o A.ob p).trans ?_
  refine congrArg (fun z : EReal => z + A.ob (ix1 0)) (Finset.sum_congr rfl fun k _ => ?_)
  exact congrArg (fun z : EReal => z * A.o (ix2 k 0)) (refHead2 A p k)

end Cert.Protein
-- ==== Proof.Reference.lean ====
/- The reference's run, read as the plain mathematics of `Args`. -/
module

public import proofs.«01_k».proof.Proof.RefValue
public import proofs.«01_k».proof.Proof.Gen.ReferenceIdeal.Run
public import Idealize.ShloMosaic.Lib.Quiescent

@[expose] public section

set_option maxRecDepth 65536
set_option maxHeartbeats 600000

noncomputable section

namespace Cert.Protein

open Idealize.ShloMosaic Idealize.ShloMosaic.TcCoe Idealize.SL.Sem Cert.ReferenceIdeal

variable (m : (ℓ : Loc nD τ sig) → Buf (Elt Ideal) ℓ) (ρ : Dev nD → PrngReg)

/-- The reference's arguments on one device. -/
def refArgs (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20), m ((c.tc : Thread nD τ).loc main_arg21), m ((c.tc : Thread nD τ).loc main_arg22), m ((c.tc : Thread nD τ).loc main_arg23), m ((c.tc : Thread nD τ).loc main_arg24), m ((c.tc : Thread nD τ).loc main_arg25), m ((c.tc : Thread nD τ).loc main_arg26), m ((c.tc : Thread nD τ).loc main_arg27)⟩

/-- One device's arguments end as they were launched. -/
def ArgsKept (c : Dev nD) (s : (ℓ : Loc nD τ sig) → Buf (Elt Ideal) ℓ) : Prop :=
  s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12)
      ∧ s ((c.tc : Thread nD τ).loc main_arg13) = m ((c.tc : Thread nD τ).loc main_arg13)
      ∧ s ((c.tc : Thread nD τ).loc main_arg14) = m ((c.tc : Thread nD τ).loc main_arg14)
      ∧ s ((c.tc : Thread nD τ).loc main_arg15) = m ((c.tc : Thread nD τ).loc main_arg15)
      ∧ s ((c.tc : Thread nD τ).loc main_arg16) = m ((c.tc : Thread nD τ).loc main_arg16)
      ∧ s ((c.tc : Thread nD τ).loc main_arg17) = m ((c.tc : Thread nD τ).loc main_arg17)
      ∧ s ((c.tc : Thread nD τ).loc main_arg18) = m ((c.tc : Thread nD τ).loc main_arg18)
      ∧ s ((c.tc : Thread nD τ).loc main_arg19) = m ((c.tc : Thread nD τ).loc main_arg19)
      ∧ s ((c.tc : Thread nD τ).loc main_arg20) = m ((c.tc : Thread nD τ).loc main_arg20)
      ∧ s ((c.tc : Thread nD τ).loc main_arg21) = m ((c.tc : Thread nD τ).loc main_arg21)
      ∧ s ((c.tc : Thread nD τ).loc main_arg22) = m ((c.tc : Thread nD τ).loc main_arg22)
      ∧ s ((c.tc : Thread nD τ).loc main_arg23) = m ((c.tc : Thread nD τ).loc main_arg23)
      ∧ s ((c.tc : Thread nD τ).loc main_arg24) = m ((c.tc : Thread nD τ).loc main_arg24)
      ∧ s ((c.tc : Thread nD τ).loc main_arg25) = m ((c.tc : Thread nD τ).loc main_arg25)
      ∧ s ((c.tc : Thread nD τ).loc main_arg26) = m ((c.tc : Thread nD τ).loc main_arg26)
      ∧ s ((c.tc : Thread nD τ).loc main_arg27) = m ((c.tc : Thread nD τ).loc main_arg27)

attribute [local irreducible] Read.val_main_v204 in
/-- One device's contents at the launch, read by the reference's result term: the output of its arguments. -/
theorem result_of (c : Dev nD) (x : Buf (Elt Ideal) ((c.tc : Thread nD τ).loc main_v204)) (p : Fin 500)
    (h : x = Read.val_main_v204 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))) :
    x (ix2 p 0) = (refArgs m c).out p := by
  rw [h]
  exact refValue (refArgs m c) p

attribute [local irreducible] Read.val_main_v204 in
/-- Every weakly fair execution of the reference ends, its result the output of its arguments, the arguments unchanged
    and every semaphore counter at zero. -/
theorem reference_run : θ_run defs (onTc (τ := τ) (main (F := Ideal))) ⟨m, fun _ => 0, ρ⟩ fun r =>
    (∀ c : Dev nD, (∀ p : Fin 500, r.2.mem ((c.tc : Thread nD τ).loc main_v204) (ix2 p 0) = (refArgs m c).out p)
      ∧ ArgsKept m c r.2.mem) ∧ r.2.sem = fun _ => 0 := by
  have hrun := Value.run (F := Ideal) m ρ
  refine (θ_run defs _ _).mono ?_ hrun
  intro r h
  refine ⟨fun c => ⟨fun p => ?_, (h c).2⟩, sem_eq_zero_of_no_sems (by decide) r.2⟩
  refine result_of m c _ p ?_
  exact ((h c).1.trans (Read.val_main_v204_eq (F := Ideal) (StableHlo.launchContents m c)))

end Cert.Protein

end
-- ==== Proof.Rows.lean ====
/- Whole rows taken from a table at a column of row numbers, and whole rows added into a table at a column of row numbers. -/
module

public import Idealize.ShloMosaic.Lib.Routing.OpsOne
public import Idealize.ShloMosaic.Lib.ValueIdx
public import Idealize.ShloMosaic.PureOps.Ideal

@[expose] public section

set_option maxRecDepth 16384

noncomputable section

namespace Cert.Drug

open Idealize.ShloMosaic Idealize.ShloMosaic.ValueIdx Idealize.ShloMosaic.Routing

/-- The row a row number names in a table of `N` rows: read signed, and held inside the table. -/
def rowOf (N : ℕ) [NeZero N] (w : BitVec 32) : Fin N := ⟨min w.toInt.toNat (N - 1), by have := NeZero.pos N; omega⟩

/-- The dimension numbers of taking rows of a matrix. -/
def takeMat (N C E : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of taking slabs of a rank-three table. -/
def takeSlab (N H C E : ℕ) (wf : GatherDims.WF ⟨3, ![N, H, C]⟩ ⟨2, ![E, 1]⟩ ⟨3, ![E, H, C]⟩ [1, 2] [0] [] [0] [] 1 ![1, H, C]) :
    GatherDims ⟨3, ![N, H, C]⟩ ⟨2, ![E, 1]⟩ ⟨3, ![E, H, C]⟩ where
  offsetDims := [1, 2]
  collapsedSliceDims := [0]
  operandBatchingDims := []
  startIndicesBatchingDims := []
  startIndexMap := [0]
  indexVectorDim := 1
  sliceSizes := ![1, H, C]
  wf := wf

/-- The dimension numbers of adding rows into a vector. -/
def addVec (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The dimension numbers of adding rows into a matrix. -/
def addMat (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of adding slabs into a rank-three table. -/
def addSlab (N H C E : ℕ) (wf : ScatterDims.WF ⟨3, ![N, H, C]⟩ ⟨2, ![E, 1]⟩ ⟨3, ![E, H, C]⟩ [1, 2] [0] [0] 1) :
    ScatterDims ⟨3, ![N, H, C]⟩ ⟨2, ![E, 1]⟩ ⟨3, ![E, H, C]⟩ where
  updateWindowDims := [1, 2]
  insertedWindowDims := [0]
  scatterDimsToOperandDims := [0]
  indexVectorDim := 1
  wf := wf

variable {α : Type}

/-- Rows taken from a matrix, read at an entry. -/
theorem take_mat {N C E : ℕ} [NeZero N] (wf) (x : (⟨2, ![N, C]⟩ : Shape).Idx → α) (idx : IVec ⟨2, ![E, 1]⟩ 32) (e : Fin E) (c : Fin C) :
    Host.gather (takeMat N C E wf) x idx (ix2 e c) = x (ix2 (rowOf N (idx (ix2 e 0))) c) := by
  unfold Host.gather
  refine congrArg x (funext fun a => Fin.ext ?_)
  match a with
  | ⟨0, _⟩ =>
    show (takeMat N C E wf).start (ix2 e c) idx 0 + 0 + 0 = _
    unfold GatherDims.start
    rw [dif_pos (show (0 : Fin 2) ∈ (takeMat N C E wf).startIndexMap from List.mem_singleton.mpr rfl)]
    have hsi : (takeMat N C E wf).siIdx (ix2 e c) ⟨List.idxOf (0 : Fin 2) [0], List.idxOf_lt_length_iff.2 (List.mem_singleton.mpr rfl)⟩ =
        ix2 e (0 : Fin 1) := by
      funext b
      match b with
      | ⟨0, _⟩ => rfl
      | ⟨1, _⟩ => rfl
    exact congrArg (fun k => min (idx k).toInt.toNat (N - 1)) hsi
  | ⟨1, _⟩ =>
    show 0 + 0 + c.val = c.val
    omega

/-- Slabs taken from a rank-three table, read at an entry. -/
theorem take_slab {N H C E : ℕ} [NeZero N] (wf) (x : (⟨3, ![N, H, C]⟩ : Shape).Idx → α) (idx : IVec ⟨2, ![E, 1]⟩ 32) (e : Fin E) (h : Fin H) (c : Fin C) :
    Host.gather (takeSlab N H C E wf) x idx (ix3 e h c) = x (ix3 (rowOf N (idx (ix2 e 0))) h c) := by
  unfold Host.gather
  refine congrArg x (funext fun a => Fin.ext ?_)
  match a with
  | ⟨0, _⟩ =>
    show (takeSlab N H C E wf).start (ix3 e h c) idx 0 + 0 + 0 = _
    unfold GatherDims.start
    rw [dif_pos (show (0 : Fin 3) ∈ (takeSlab N H C E wf).startIndexMap from List.mem_singleton.mpr rfl)]
    have hsi : (takeSlab N H C E wf).siIdx (ix3 e h c) ⟨List.idxOf (0 : Fin 3) [0], List.idxOf_lt_length_iff.2 (List.mem_singleton.mpr rfl)⟩ =
        ix2 e (0 : Fin 1) := by
      funext b
      match b with
      | ⟨0, _⟩ => rfl
      | ⟨1, _⟩ => rfl
    exact congrArg (fun k => min (idx k).toInt.toNat (N - 1)) hsi
  | ⟨1, _⟩ =>
    show 0 + 0 + h.val = h.val
    omega
  | ⟨2, _⟩ =>
    show 0 + 0 + c.val = c.val
    omega

/-- Where an entry added into a vector lands. -/
theorem lands_vec {N E : ℕ} (wf) (idx : IVec ⟨2, ![E, 1]⟩ 32) (e : Fin E) (i : Fin N) :
    (addVec N E wf).resultIdx? (ix1 e) idx = some (ix1 i) ↔ (idx (ix2 e 0)).toInt = i.val := by
  have hs : (addVec N E wf).start (ix1 e) idx 0 = (idx (ix2 e 0)).toInt := by
    unfold ScatterDims.start
    rw [dif_pos (show (0 : Fin 1) ∈ (addVec N E wf).scatterDimsToOperandDims from List.mem_singleton.mpr rfl)]
    refine congrArg (fun k => (idx k).toInt) (funext fun b => ?_)
    match b with
    | ⟨0, _⟩ => rfl
    | ⟨1, _⟩ => rfl
  rw [resultIdx?_eq_some]
  constructor
  · intro h
    have h0 : (addVec N E wf).start (ix1 e) idx 0 + ((0 : ℕ) : ℤ) = i.val := h 0
    rw [hs] at h0
    omega
  · intro h a
    match a with
    | ⟨0, _⟩ =>
      show (addVec N E wf).start (ix1 e) idx 0 + ((0 : ℕ) : ℤ) = i.val
      rw [hs]
      omega

/-- Where an entry of a row added into a matrix lands. -/
theorem lands_mat {N C E : ℕ} (wf) (idx : IVec ⟨2, ![E, 1]⟩ 32) (e : Fin E) (c' : Fin C) (i : Fin N) (c : Fin C) :
    (addMat N C E wf).resultIdx? (ix2 e c') idx = some (ix2 i c) ↔ (idx (ix2 e 0)).toInt = i.val ∧ c' = c := by
  have hs : (addMat N C E wf).start (ix2 e c') idx 0 = (idx (ix2 e 0)).toInt := by
    unfold ScatterDims.start
    rw [dif_pos (show (0 : Fin 2) ∈ (addMat N C E wf).scatterDimsToOperandDims from List.mem_singleton.mpr rfl)]
    refine congrArg (fun k => (idx k).toInt) (funext fun b => ?_)
    match b with
    | ⟨0, _⟩ => rfl
    | ⟨1, _⟩ => rfl
  rw [resultIdx?_eq_some]
  constructor
  · intro h
    have h0 : (addMat N C E wf).start (ix2 e c') idx 0 + ((0 : ℕ) : ℤ) = i.val := h 0
    have h1 : (0 : ℤ) + (c'.val : ℤ) = c.val := h 1
    rw [hs] at h0
    exact ⟨by omega, Fin.ext (by omega)⟩
  · rintro ⟨h, rfl⟩ a
    match a with
    | ⟨0, _⟩ =>
      show (addMat N C E wf).start (ix2 e c') idx 0 + ((0 : ℕ) : ℤ) = i.val
      rw [hs]
      omega
    | ⟨1, _⟩ =>
      show (0 : ℤ) + (c'.val : ℤ) = c'.val
      omega

/-- Where an entry of a slab added into a rank-three table lands. -/
theorem lands_slab {N H C E : ℕ} (wf) (idx : IVec ⟨2, ![E, 1]⟩ 32) (e : Fin E) (h' : Fin H) (c' : Fin C) (i : Fin N) (h : Fin H) (c : Fin C) :
    (addSlab N H C E wf).resultIdx? (ix3 e h' c') idx = some (ix3 i h c) ↔ (idx (ix2 e 0)).toInt = i.val ∧ h' = h ∧ c' = c := by
  have hs : (addSlab N H C E wf).start (ix3 e h' c') idx 0 = (idx (ix2 e 0)).toInt := by
    unfold ScatterDims.start
    rw [dif_pos (show (0 : Fin 3) ∈ (addSlab N H C E wf).scatterDimsToOperandDims from List.mem_singleton.mpr rfl)]
    refine congrArg (fun k => (idx k).toInt) (funext fun b => ?_)
    match b with
    | ⟨0, _⟩ => rfl
    | ⟨1, _⟩ => rfl
  rw [resultIdx?_eq_some]
  constructor
  · intro q
    have h0 : (addSlab N H C E wf).start (ix3 e h' c') idx 0 + ((0 : ℕ) : ℤ) = i.val := q 0
    have h1 : (0 : ℤ) + (h'.val : ℤ) = h.val := q 1
    have h2 : (0 : ℤ) + (c'.val : ℤ) = c.val := q 2
    rw [hs] at h0
    exact ⟨by omega, Fin.ext (by omega), Fin.ext (by omega)⟩
  · rintro ⟨q, rfl, rfl⟩ a
    match a with
    | ⟨0, _⟩ =>
      show (addSlab N H C E wf).start (ix3 e h' c') idx 0 + ((0 : ℕ) : ℤ) = i.val
      rw [hs]
      omega
    | ⟨1, _⟩ =>
      show (0 : ℤ) + (h'.val : ℤ) = h'.val
      omega
    | ⟨2, _⟩ =>
      show (0 : ℤ) + (c'.val : ℤ) = c'.val
      omega

/-- Entries added into a vector, read at an entry: the sum over the row numbers that name it. -/
theorem add_vec {N E : ℕ} (wf) (x : FVec Ideal ⟨1, ![N]⟩ .f32) (idx : IVec ⟨2, ![E, 1]⟩ 32) (u : FVec Ideal ⟨1, ![E]⟩ .f32)
    (i : Fin N) : Host.scatterAdd (addVec N E wf) x idx u (ix1 i) =
      (x (ix1 i) + ∑ e ∈ Finset.univ.filter (fun e : Fin E => (idx (ix2 e 0)).toInt = i.val), u (ix1 e) : EReal) := by
  refine congrArg (fun q : EReal => (x (ix1 i) + q : EReal)) ?_
  refine Finset.sum_nbij' (fun j => j 0) (fun e => ix1 e) ?_ ?_ ?_ ?_ ?_
  · intro j hj
    obtain ⟨e, rfl⟩ : ∃ e, j = ix1 e := ⟨j 0, eq_ix1 j⟩
    exact Finset.mem_filter.2 ⟨Finset.mem_univ _, ((lands_vec wf idx e i).1 (Finset.mem_filter.1 hj).2)⟩
  · intro e he
    exact Finset.mem_filter.2 ⟨Finset.mem_univ _, (lands_vec wf idx e i).2 (Finset.mem_filter.1 he).2⟩
  · intro j hj
    obtain ⟨e, rfl⟩ : ∃ e, j = ix1 e := ⟨j 0, eq_ix1 j⟩
    rfl
  · intro e _
    rfl
  · intro j hj
    obtain ⟨e, rfl⟩ : ∃ e, j = ix1 e := ⟨j 0, eq_ix1 j⟩
    rfl

/-- Rows added into a matrix, read at an entry: the sum over the row numbers that name its row. -/
theorem add_mat {N C E : ℕ} (wf) (x : FVec Ideal ⟨2, ![N, C]⟩ .f32) (idx : IVec ⟨2, ![E, 1]⟩ 32) (u : FVec Ideal ⟨2, ![E, C]⟩ .f32)
    (i : Fin N) (c : Fin C) : Host.scatterAdd (addMat N C E wf) x idx u (ix2 i c) =
      (x (ix2 i c) + ∑ e ∈ Finset.univ.filter (fun e : Fin E => (idx (ix2 e 0)).toInt = i.val), u (ix2 e c) : EReal) := by
  refine congrArg (fun q : EReal => (x (ix2 i c) + q : EReal)) ?_
  refine Finset.sum_nbij' (fun j => j 0) (fun e => ix2 e c) ?_ ?_ ?_ ?_ ?_
  · intro j hj
    obtain ⟨e, b, rfl⟩ : ∃ e b, j = ix2 e b := ⟨j 0, j 1, eq_ix2 j⟩
    exact Finset.mem_filter.2 ⟨Finset.mem_univ _, ((lands_mat wf idx e b i c).1 (Finset.mem_filter.1 hj).2).1⟩
  · intro e he
    exact Finset.mem_filter.2 ⟨Finset.mem_univ _, (lands_mat wf idx e c i c).2 ⟨(Finset.mem_filter.1 he).2, rfl⟩⟩
  · intro j hj
    obtain ⟨e, b, rfl⟩ : ∃ e b, j = ix2 e b := ⟨j 0, j 1, eq_ix2 j⟩
    obtain ⟨_, rfl⟩ := (lands_mat wf idx e b i c).1 (Finset.mem_filter.1 hj).2
    rfl
  · intro e _
    rfl
  · intro j hj
    obtain ⟨e, b, rfl⟩ : ∃ e b, j = ix2 e b := ⟨j 0, j 1, eq_ix2 j⟩
    obtain ⟨_, rfl⟩ := (lands_mat wf idx e b i c).1 (Finset.mem_filter.1 hj).2
    rfl

/-- Slabs added into a rank-three table, read at an entry: the sum over the row numbers that name its slab. -/
theorem add_slab {N H C E : ℕ} (wf) (x : FVec Ideal ⟨3, ![N, H, C]⟩ .f32) (idx : IVec ⟨2, ![E, 1]⟩ 32) (u : FVec Ideal ⟨3, ![E, H, C]⟩ .f32)
    (i : Fin N) (h : Fin H) (c : Fin C) : Host.scatterAdd (addSlab N H C E wf) x idx u (ix3 i h c) =
      (x (ix3 i h c) + ∑ e ∈ Finset.univ.filter (fun e : Fin E => (idx (ix2 e 0)).toInt = i.val), u (ix3 e h c) : EReal) := by
  refine congrArg (fun q : EReal => (x (ix3 i h c) + q : EReal)) ?_
  refine Finset.sum_nbij' (fun j => j 0) (fun e => ix3 e h c) ?_ ?_ ?_ ?_ ?_
  · intro j hj
    obtain ⟨e, a, b, rfl⟩ : ∃ e a b, j = ix3 e a b := ⟨j 0, j 1, j 2, eq_ix3 j⟩
    exact Finset.mem_filter.2 ⟨Finset.mem_univ _, ((lands_slab wf idx e a b i h c).1 (Finset.mem_filter.1 hj).2).1⟩
  · intro e he
    exact Finset.mem_filter.2 ⟨Finset.mem_univ _, (lands_slab wf idx e h c i h c).2 ⟨(Finset.mem_filter.1 he).2, rfl, rfl⟩⟩
  · intro j hj
    obtain ⟨e, a, b, rfl⟩ : ∃ e a b, j = ix3 e a b := ⟨j 0, j 1, j 2, eq_ix3 j⟩
    obtain ⟨_, rfl, rfl⟩ := (lands_slab wf idx e a b i h c).1 (Finset.mem_filter.1 hj).2
    rfl
  · intro e _
    rfl
  · intro j hj
    obtain ⟨e, a, b, rfl⟩ : ∃ e a b, j = ix3 e a b := ⟨j 0, j 1, j 2, eq_ix3 j⟩
    obtain ⟨_, rfl, rfl⟩ := (lands_slab wf idx e a b i h c).1 (Finset.mem_filter.1 hj).2
    rfl

end Cert.Drug
-- ==== Proof.Gat.lean ====
/- A graph attention layer on its own terms, and the two orders of normalising its messages. -/
module

public import proofs.«01_k».proof.Proof.Rows

@[expose] public section

noncomputable section

namespace Cert.Drug

open Idealize.ShloMosaic

/-- The number of nodes and the number of edges, self loops included. -/
abbrev Node := Fin 50000
@[inherit_doc Node] abbrev Edge := Fin 850000

/-- A node number as it is read: one below zero counts from the end. -/
def nodeOf (w : BitVec 32) : Node := rowOf 50000 (Scalar.select (IntOp.cmpi .slt w 0#32) (IntOp.addi w 50000#32) w)

/-- The slope below zero, and the number kept beside a sum of exponentials. -/
def slope : EReal := Ideal.ofBits .f32 0x3E4CCCCD#32
@[inherit_doc slope] def tiny : EReal := Ideal.ofBits .f32 0x24E69595#32

/-- The leaky rectifier. -/
def leaky (x : EReal) : EReal := if 0 < x then x else slope * x

/-- The exponential linear unit. -/
def elu (x : EReal) : EReal := if 0 < x then x else Ideal.exp x - 1

/-- The edges that end at a node. -/
def into (D : Edge → BitVec 32) (i : Node) : Finset Edge := Finset.univ.filter fun e => (D e).toInt = i.val

/-- An edge that ends at a node reads that node. -/
theorem nodeOf_of_into {D : Edge → BitVec 32} {i : Node} {e : Edge} (h : e ∈ into D i) : nodeOf (D e) = i := by
  have h := (Finset.mem_filter.1 h).2
  have h0 : (D e).slt 0#32 = false := by
    rw [BitVec.slt_eq_decide, h]
    simp
  have hi := i.isLt
  refine Fin.ext ?_
  show min (Scalar.select (IntOp.cmpi .slt (D e) 0#32) (IntOp.addi (D e) 50000#32) (D e)).toInt.toNat (50000 - 1) = i.val
  have hs : Scalar.select (IntOp.cmpi .slt (D e) 0#32) (IntOp.addi (D e) 50000#32) (D e) = D e := by
    simp [Scalar.select, IntOp.cmpi, h0]
  rw [hs, h]
  omega

section Layer

variable {H C : ℕ} (hd : Fin C → Fin H) (S D : Edge → BitVec 32)

/-- The two ends' scores, summed, and the edge's logit. -/
def ends (s d : Node → Fin H → EReal) (e : Edge) (t : Fin H) : EReal := s (nodeOf (S e)) t + d (nodeOf (D e)) t
@[inherit_doc ends] def logit (s d : Node → Fin H → EReal) (e : Edge) (t : Fin H) : EReal := leaky (ends S D s d e t)

/-- An edge's weight before normalising: the exponential of its logit less the largest. -/
def weight (z : Edge → Fin H → EReal) (top : EReal) (e : Edge) (t : Fin H) : EReal := Ideal.exp (z e t - top)

/-- The weights that end at a node, summed. -/
def total (w : Edge → Fin H → EReal) (i : Node) (t : Fin H) : EReal := ∑ e ∈ into D i, w e t

/-- What arrives at a node: the sources' features times their normalised weights. -/
def arrive (h : Node → Fin C → EReal) (w : Edge → Fin H → EReal) (i : Node) (j : Fin C) : EReal :=
  ∑ e ∈ into D i, h (nodeOf (S e)) j * Ideal.div (w e (hd j)) (total D w (nodeOf (D e)) (hd j) + tiny)

/-- The same with one division after the sum. -/
def arriveLate (h : Node → Fin C → EReal) (w : Edge → Fin H → EReal) (i : Node) (j : Fin C) : EReal :=
  Ideal.div (∑ e ∈ into D i, h (nodeOf (S e)) j * w e (hd j)) (total D w i (hd j) + tiny)

/-- The largest of the logits. -/
def topOf (z : Edge → Fin H → EReal) : EReal :=
  Finset.univ.fold max (Ideal.ofBits .f32 0xFF800000#32) fun k : Edge × Fin H => z k.1 k.2

/-- The layer before its bias, from the features and the two scores. -/
def layer (h : Node → Fin C → EReal) (s d : Node → Fin H → EReal) : Node → Fin C → EReal :=
  arrive hd S D h (weight (logit S D s d) (topOf (logit S D s d)))

end Layer

theorem exp_nonneg (x : EReal) : 0 ≤ Ideal.exp x := by
  induction x with
  | bot => exact le_refl _
  | top => exact le_top
  | coe r => exact EReal.coe_nonneg.2 (Real.exp_pos r).le

theorem tiny_pos : 0 < tiny := by
  unfold tiny
  simp [Ideal.ofBits, Ideal.ieee]
  rw [← EReal.coe_mul]
  exact_mod_cast (by positivity)

theorem inv_ne_top (y : EReal) : y⁻¹ ≠ ⊤ := by
  induction y with
  | bot => simp
  | top => simp
  | coe r => rw [← EReal.coe_inv]; exact EReal.coe_ne_top _

/-- A factor that is nonnegative and not infinite goes into a sum. -/
theorem sum_mul_of_nonneg {ι : Type} (s : Finset ι) (f : ι → EReal) {r : EReal} (h0 : 0 ≤ r) (h1 : r ≠ ⊤) :
    (∑ e ∈ s, f e) * r = ∑ e ∈ s, f e * r := by
  classical
  induction s using Finset.induction_on with
  | empty => simp
  | insert a s ha ih => rw [Finset.sum_insert ha, Finset.sum_insert ha, EReal.right_distrib_of_nonneg_of_ne_top h0 h1, ih]

/-- The two orders of normalising agree: the divisor is positive, so its inverse is a nonnegative real number. -/
theorem arriveLate_eq {H C : ℕ} (hd : Fin C → Fin H) (S D : Edge → BitVec 32) (h : Node → Fin C → EReal) (w : Edge → Fin H → EReal)
    (hw : ∀ e t, 0 ≤ w e t) : arriveLate hd S D h w = arrive hd S D h w := by
  funext i j
  have hpos : 0 < total D w i (hd j) + tiny := by
    refine lt_of_lt_of_le tiny_pos (le_add_of_nonneg_left ?_)
    unfold total
    exact Finset.sum_nonneg fun e _ => hw e _
  have hne := hpos.ne'
  unfold arriveLate arrive Ideal.div
  rw [if_neg hne, sum_mul_of_nonneg _ _ (EReal.inv_nonneg_of_nonneg hpos.le)
    (inv_ne_top _)]
  refine Finset.sum_congr rfl fun e he => ?_
  rw [nodeOf_of_into he, if_neg hne, mul_assoc]

end Cert.Drug
-- ==== Proof.Score.lean ====
/- Columns grouped by attention head, and a score read off a matrix that holds each head's weights in that head's rows. -/
module

public import proofs.«01_k».proof.Proof.Gat

@[expose] public section

noncomputable section

namespace Cert.Drug

open Idealize.ShloMosaic Idealize.ShloMosaic.ValueIdx Idealize.ShloMosaic.Routing

variable {H C K : ℕ}

/-- Column `c` of head `t`. -/
def col (hK : H * C = K) (t : Fin H) (c : Fin C) : Fin K :=
  ⟨C * t.val + c.val, by
    have h1 := t.isLt
    have h2 := c.isLt
    calc C * t.val + c.val < C * t.val + C := by omega
      _ = C * (t.val + 1) := by ring
      _ ≤ C * H := Nat.mul_le_mul_left C h1
      _ = K := by rw [Nat.mul_comm]; exact hK⟩

/-- The head a column belongs to. -/
def head (hK : H * C = K) (j : Fin K) : Fin H :=
  ⟨j.val / C, Nat.div_lt_of_lt_mul (by have := j.isLt; rw [Nat.mul_comm]; omega)⟩

theorem head_col (hK : H * C = K) (t : Fin H) (c : Fin C) : head hK (col hK t c) = t := by
  have hc := c.isLt
  refine Fin.ext ?_
  show (C * t.val + c.val) / C = t.val
  rw [Nat.mul_add_div (by omega), Nat.div_eq_of_lt hc, Nat.add_zero]

theorem col_head (hK : H * C = K) (hC : 0 < C) (j : Fin K) : col hK (head hK j) ⟨j.val % C, Nat.mod_lt _ hC⟩ = j :=
  Fin.ext (Nat.div_add_mod j.val C)

/-- A head's score: the features of its columns, weighted. -/
def score (hK : H * C = K) (h : Fin K → EReal) (a : Fin H → Fin C → EReal) (t : Fin H) : EReal := ∑ c : Fin C, h (col hK t c) * a t c

/-- A sum over all columns against weights that vanish outside a head's columns is that head's score. -/
theorem score_of (hK : H * C = K) (h : Fin K → EReal) (a : Fin H → Fin C → EReal) (t : Fin H) (A : Fin K → EReal)
    (hA : ∀ t' c, A (col hK t' c) = if t' = t then a t c else 0) : ∑ k, h k * A k = score hK h a t := by
  subst hK
  have e : ∀ p : Fin H × Fin C, finProdFinEquiv p = col rfl p.1 p.2 := fun p => Fin.ext (Nat.add_comm _ _)
  rw [← Equiv.sum_comp finProdFinEquiv, Fintype.sum_prod_type, Finset.sum_eq_single t]
  · unfold score
    refine Finset.sum_congr rfl fun c _ => ?_
    rw [e, hA, if_pos rfl]
  · intro t' _ ht
    refine Finset.sum_eq_zero fun c _ => ?_
    rw [e, hA, if_neg ht, mul_zero]
  · intro ht
    exact absurd (Finset.mem_univ t) ht

/-- A linear map of every node's features. -/
def lin {J : ℕ} (X : Node → Fin J → EReal) (w : Fin J → Fin K → EReal) (n : Node) (k : Fin K) : EReal := ∑ j, X n j * w j k

/-- An attention layer before its bias, from the nodes' features and the layer's weights. -/
def gat {J : ℕ} (hK : H * C = K) (S D : Edge → BitVec 32) (X : Node → Fin J → EReal) (w : Fin J → Fin K → EReal)
    (a b : Fin H → Fin C → EReal) : Node → Fin K → EReal :=
  layer (head hK) S D (lin X w) (fun n => score hK (lin X w n) a) (fun n => score hK (lin X w n) b)

/-- The bias and the exponential linear unit. -/
def act (X : Node → Fin K → EReal) (b : Fin K → EReal) (n : Node) (k : Fin K) : EReal := elu (X n k + b k)

/-- The nodes' first features: rows of a table of ten, a row number below zero counting from its end. -/
def emb (E : Fin 10 → Fin K → EReal) (x : Node → BitVec 32) (n : Node) (k : Fin K) : EReal :=
  E (rowOf 10 (Scalar.select (IntOp.cmpi .slt (x n) 0#32) (IntOp.addi (x n) 10#32) (x n))) k

/-- One end of an edge: as listed, and after the list one self loop at every node. -/
def endOf (x : Fin 800000 → BitVec 32) (e : Edge) : BitVec 32 :=
  if h : e.val < 800000 then x ⟨e.val, h⟩ else BitVec.ofNat 32 (e.val - 800000)

/-- A graph's nodes. -/
def nodesOf (B : Node → BitVec 32) (p : Fin 500) : Finset Node := Finset.univ.filter fun n => (B n).toInt = p.val

/-- The sum of a graph's node features, and the number of its nodes. -/
def pooled (B : Node → BitVec 32) (X : Node → Fin K → EReal) (p : Fin 500) (k : Fin K) : EReal := ∑ n ∈ nodesOf B p, X n k
@[inherit_doc pooled] def counted (B : Node → BitVec 32) (p : Fin 500) : EReal := ∑ n ∈ nodesOf B p, 1

end Cert.Drug
-- ==== Proof.Drug.lean ====
/- The drug branch's arguments by name, and the function of them both programs compute. -/
module

public import proofs.«01_k».proof.Proof.Score
public import Idealize.ShloMosaic.Lib.Pointwise

@[expose] public section

set_option maxRecDepth 65536
set_option maxHeartbeats 4000000

noncomputable section

namespace Cert.Drug

open Idealize.ShloMosaic Idealize.ShloMosaic.Routing

/-- The argument arrays. -/
structure Args where
  x : IVec ⟨1, ![50000]⟩ 32
  edges : IVec ⟨2, ![2, 800000]⟩ 32
  batch : IVec ⟨1, ![50000]⟩ 32
  table : FVec Ideal ⟨2, ![10, 32]⟩ .f32
  w1 : FVec Ideal ⟨2, ![32, 64]⟩ .f32
  s1 : FVec Ideal ⟨2, ![2, 32]⟩ .f32
  d1 : FVec Ideal ⟨2, ![2, 32]⟩ .f32
  b1 : FVec Ideal ⟨1, ![64]⟩ .f32
  w2 : FVec Ideal ⟨2, ![64, 128]⟩ .f32
  s2 : FVec Ideal ⟨2, ![2, 64]⟩ .f32
  d2 : FVec Ideal ⟨2, ![2, 64]⟩ .f32
  b2 : FVec Ideal ⟨1, ![128]⟩ .f32
  w3 : FVec Ideal ⟨2, ![128, 128]⟩ .f32
  s3 : FVec Ideal ⟨2, ![1, 128]⟩ .f32
  d3 : FVec Ideal ⟨2, ![1, 128]⟩ .f32
  b3 : FVec Ideal ⟨1, ![128]⟩ .f32

namespace Args

variable (A : Args)

/-- The edges' sources and targets. -/
def src : Edge → BitVec 32 := endOf fun k => A.edges (ix2 0 k)
@[inherit_doc src] def dst : Edge → BitVec 32 := endOf fun k => A.edges (ix2 1 k)

/-- The nodes' first features. -/
def feat0 : Node → Fin 32 → EReal := emb (fun i k => A.table (ix2 i k)) fun n => A.x (ix1 n)

/-- The three layers before their biases. -/
def conv1 : Node → Fin 64 → EReal := gat (rfl : 2 * 32 = 64) A.src A.dst A.feat0 (fun j k => A.w1 (ix2 j k)) (fun t c => A.s1 (ix2 t c)) fun t c => A.d1 (ix2 t c)
@[inherit_doc conv1] def conv2 : Node → Fin 128 → EReal := gat (rfl : 2 * 64 = 128) A.src A.dst (act A.conv1 fun k => A.b1 (ix1 k)) (fun j k => A.w2 (ix2 j k)) (fun t c => A.s2 (ix2 t c)) fun t c => A.d2 (ix2 t c)
@[inherit_doc conv1] def conv3 : Node → Fin 128 → EReal := gat (rfl : 1 * 128 = 128) A.src A.dst (act A.conv2 fun k => A.b2 (ix1 k)) (fun j k => A.w3 (ix2 j k)) (fun t c => A.s3 (ix2 t c)) fun t c => A.d3 (ix2 t c)

/-- The two results: each graph's summed node features, and its number of nodes. -/
def summed : Fin 500 → Fin 128 → EReal := pooled (fun n => A.batch (ix1 n)) (act A.conv3 fun k => A.b3 (ix1 k))
@[inherit_doc summed] def counts : Fin 500 → EReal := counted fun n => A.batch (ix1 n)

end Args

variable {H C K J : ℕ} (hK : H * C = K) {S D S' D' S'' D'' : Edge → BitVec 32} {X X' : Node → Fin J → EReal} {w w' : Fin J → Fin K → EReal}
  {a b : Fin H → Fin C → EReal} {h : Node → Fin K → EReal} {s d : Node → Fin H → EReal} {z u : Edge → Fin H → EReal}

theorem lin_congr (hX : ∀ n j, X n j = X' n j) (hw : ∀ j k, w j k = w' j k) : lin X w = lin X' w' := by
  obtain rfl : X = X' := funext fun n => funext fun j => hX n j
  obtain rfl : w = w' := funext fun j => funext fun k => hw j k
  rfl

/-- A layer from its parts, with one division after each sum. -/
theorem gat_of_late (hS : S' = S) (hD : D' = D) (hS' : S'' = S) (hD' : D'' = D) (hh : h = lin X w) (hs : ∀ n t, s n t = score hK (lin X w n) a t)
    (hd : ∀ n t, d n t = score hK (lin X w n) b t) (hz : ∀ e t, z e t = logit S' D' s d e t) :
    arriveLate (head hK) S'' D'' h (weight z (topOf z)) = gat hK S D X w a b := by
  subst hS hD hS' hD' hh
  obtain rfl : s = fun n => score hK (lin X w n) a := funext fun n => funext fun t => hs n t
  obtain rfl : d = fun n => score hK (lin X w n) b := funext fun n => funext fun t => hd n t
  obtain rfl : z = _ := funext fun e => funext fun t => hz e t
  exact arriveLate_eq _ _ _ _ _ fun e t => exp_nonneg _

/-- A layer from its parts, each message divided. -/
theorem gat_of (hS : S' = S) (hD : D' = D) (hh : h = lin X w) (hs : ∀ n t, s n t = score hK (h n) a t)
    (hd : ∀ n t, d n t = score hK (h n) b t) (hz : ∀ e t, z e t = logit S' D' s d e t) (hu : ∀ e t, u e t = weight z (topOf z) e t) :
    arrive (head hK) S' D' h u = gat hK S D X w a b := by
  subst hS hD hh
  obtain rfl : s = fun n => score hK (lin X w n) a := funext fun n => funext fun t => hs n t
  obtain rfl : d = fun n => score hK (lin X w n) b := funext fun n => funext fun t => hd n t
  obtain rfl : z = _ := funext fun e => funext fun t => hz e t
  obtain rfl : u = _ := funext fun e => funext fun t => hu e t
  rfl

end Cert.Drug
-- ==== Proof.DrugRegion.lean ====
/- What the three linear regions of the graph layers leave in their result arrays. -/
module

public import proofs.«01_k».proof.Proof.Gen.Kernel2Ideal.Frame
public import proofs.«01_k».proof.Proof.Score
public import Idealize.ShloMosaic.Lib.Pointwise
public import Idealize.ShloMosaic.Lib.Pipeline.ValueKit

@[expose] public section

set_option maxRecDepth 65536
set_option maxHeartbeats 4000000

noncomputable section

namespace Cert.Drug

open Idealize.ShloMosaic Idealize.ShloMosaic.TcCoe Idealize.SL.Sem Cert.Kernel2Ideal Cert.Kernel2Ideal.Gen
open Idealize.ShloMosaic.Routing
open Idealize.ShloMosaic.Pipeline (Dat)

/-- Node `a` of block `t`. -/
def nodeAt (t : ℕ) (h : t < 10) (a : Fin 5000) : Node := ⟨5000 * t + a.val, by omega⟩

theorem k0_pay1_at (x : Vec Ideal S5000x32 .f32) (w : Vec Ideal S32x64 .f32) (y : Fin 5000) (j : Fin 64) :
    k0_pay1 x w (ix2 y j) = (∑ k : Fin 32, x (ix2 y k) * w (ix2 k j) : EReal) := by
  pointwise [k0_pay1]

theorem k0_pay2_at (x : Vec Ideal S5000x32 .f32) (w : Vec Ideal S32x64 .f32) (a : Vec Ideal S64x8 .f32) (y : Fin 5000) (t : Fin 8) :
    k0_pay2 x w a (ix2 y t) = (∑ j : Fin 64, k0_pay1 x w (ix2 y j) * a (ix2 j t) : EReal) := by
  pointwise [k0_pay2]

theorem k0_pay3_at (x : Vec Ideal S5000x32 .f32) (w : Vec Ideal S32x64 .f32) (a : Vec Ideal S64x8 .f32) (y : Fin 5000) (t : Fin 8) :
    k0_pay3 x w a (ix2 y t) = (∑ j : Fin 64, k0_pay1 x w (ix2 y j) * a (ix2 j t) : EReal) := by
  pointwise [k0_pay3]

theorem k1_pay1_at (x : Vec Ideal S5000x64 .f32) (b : Vec Ideal S1x64 .f32) (w : Vec Ideal S64x128 .f32) (y : Fin 5000) (j : Fin 128) :
    k1_pay1 x b w (ix2 y j) = (∑ k : Fin 64, elu (x (ix2 y k) + b (ix2 0 k)) * w (ix2 k j) : EReal) := by
  pointwise [k1_pay1]
  rfl

theorem k1_pay2_at (x : Vec Ideal S5000x64 .f32) (b : Vec Ideal S1x64 .f32) (w : Vec Ideal S64x128 .f32) (a : Vec Ideal S128x8 .f32)
    (y : Fin 5000) (t : Fin 8) : k1_pay2 x b w a (ix2 y t) = (∑ j : Fin 128, k1_pay1 x b w (ix2 y j) * a (ix2 j t) : EReal) := by
  pointwise [k1_pay2]

theorem k1_pay3_at (x : Vec Ideal S5000x64 .f32) (b : Vec Ideal S1x64 .f32) (w : Vec Ideal S64x128 .f32) (a : Vec Ideal S128x8 .f32)
    (y : Fin 5000) (t : Fin 8) : k1_pay3 x b w a (ix2 y t) = (∑ j : Fin 128, k1_pay1 x b w (ix2 y j) * a (ix2 j t) : EReal) := by
  pointwise [k1_pay3]

theorem k2_pay1_at (x : Vec Ideal S5000x128 .f32) (b : Vec Ideal S1x128 .f32) (w : Vec Ideal S128x128 .f32) (y : Fin 5000)
    (j : Fin 128) : k2_pay1 x b w (ix2 y j) = (∑ k : Fin 128, elu (x (ix2 y k) + b (ix2 0 k)) * w (ix2 k j) : EReal) := by
  pointwise [k2_pay1]
  rfl

theorem k2_pay2_at (x : Vec Ideal S5000x128 .f32) (b : Vec Ideal S1x128 .f32) (w : Vec Ideal S128x128 .f32)
    (a : Vec Ideal S128x8 .f32) (y : Fin 5000) (t : Fin 8) :
    k2_pay2 x b w a (ix2 y t) = (∑ j : Fin 128, k2_pay1 x b w (ix2 y j) * a (ix2 j t) : EReal) := by
  pointwise [k2_pay2]

theorem k2_pay3_at (x : Vec Ideal S5000x128 .f32) (b : Vec Ideal S1x128 .f32) (w : Vec Ideal S128x128 .f32)
    (a : Vec Ideal S128x8 .f32) (y : Fin 5000) (t : Fin 8) :
    k2_pay3 x b w a (ix2 y t) = (∑ j : Fin 128, k2_pay1 x b w (ix2 y j) * a (ix2 j t) : EReal) := by
  pointwise [k2_pay3]

variable (V : (c : Dev nD) → (b : Ref sig .tc) → Buf (Elt Ideal) ((c.tc : Thread nD τ).loc b))

theorem idx0 : ∀ t : Fin cfg0.N, win0_0.index t = ![t.val, 0] ∧ win0_1.index t = ![0, 0] ∧ win0_2.index t = ![0, 0] ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- Region 0's features and scores on the whole arrays. -/
def feat0 (c : Dev nD) : Node → Fin 64 → EReal := lin (fun n k => V c main_v13 (ix2 n k)) fun j k => V c main_arg4 (ix2 j k)
@[inherit_doc feat0] def src0 (c : Dev nD) (n : Node) (t : Fin 8) : EReal := ∑ j : Fin 64, feat0 V c n j * V c main_v26 (ix2 j t)
@[inherit_doc feat0] def dst0 (c : Dev nD) (n : Node) (t : Fin 8) : EReal := ∑ j : Fin 64, feat0 V c n j * V c main_v39 (ix2 j t)

theorem point0 (c : Dev nD) (t : Fin cfg0.N) (ht : t.val < 10) (y : Fin 5000) (j : Fin 64) :
    k0_pay1 (iblk0 V c 0 t) (iblk0 V c 1 t) (ix2 y j) = feat0 V c (nodeAt t.val ht y) j := by
  rw [k0_pay1_at]
  have hx : ∀ k : Fin 32, iblk0 V c 0 t (ix2 y k) = V c main_v13 (ix2 (nodeAt t.val ht y) k) := by
    intro k
    unfold nodeAt
    blk_ext [iblk0, idx0 t]
  have hw : ∀ k : Fin 32, iblk0 V c 1 t (ix2 k j) = V c main_arg4 (ix2 k j) := by
    intro k
    blk_ext [iblk0, idx0 t]
  unfold feat0 lin
  exact Finset.sum_congr rfl fun k _ => by rw [hx, hw]

theorem point0_src (c : Dev nD) (t : Fin cfg0.N) (ht : t.val < 10) (y : Fin 5000) (u : Fin 8) :
    k0_pay2 (iblk0 V c 0 t) (iblk0 V c 1 t) (iblk0 V c 2 t) (ix2 y u) = src0 V c (nodeAt t.val ht y) u := by
  rw [k0_pay2_at]
  have ha : ∀ j : Fin 64, iblk0 V c 2 t (ix2 j u) = V c main_v26 (ix2 j u) := by
    intro j
    blk_ext [iblk0, idx0 t]
  unfold src0
  exact Finset.sum_congr rfl fun j _ => by rw [point0 V c t ht, ha]

theorem point0_dst (c : Dev nD) (t : Fin cfg0.N) (ht : t.val < 10) (y : Fin 5000) (u : Fin 8) :
    k0_pay3 (iblk0 V c 0 t) (iblk0 V c 1 t) (iblk0 V c 3 t) (ix2 y u) = dst0 V c (nodeAt t.val ht y) u := by
  rw [k0_pay3_at]
  have ha : ∀ j : Fin 64, iblk0 V c 3 t (ix2 j u) = V c main_v39 (ix2 j u) := by
    intro j
    blk_ext [iblk0, idx0 t]
  unfold dst0
  exact Finset.sum_congr rfl fun j _ => by rw [point0 V c t ht, ha]

theorem arr0_5 (c : Dev nD) : (dat0 V c).arrAt 5 cfg0.N = fun i : S50000x64.Idx => feat0 V c (i 0) (i 1) := by
  refine (dat0 V c).arrAt_eq_of_covers 5 _ (by decide +kernel) fun t _ y => ?_
  have ht : t.val < 10 := t.isLt
  have h3 := (idx0 t).2.2.2.2.2.1
  rw [after0_5]
  frame_out
  idx_vars y
  have e : ((View.whole main_v41_0).slice (win0_5.rect t)).emb (ix2 y0 y1) = ix2 (nodeAt t.val ht y0) y1 := by
    funext z
    match z with
    | ⟨0, _⟩ => exact Fin.ext (by show win0_5.index t 0 * 5000 + 1 * y0.val = 5000 * t.val + y0.val; rw [h3]; show t.val * 5000 + _ = _; omega)
    | ⟨1, _⟩ => exact Fin.ext (by show win0_5.index t 1 * 64 + 1 * y1.val = y1.val; rw [h3]; show 0 * 64 + _ = _; omega)
  refine Eq.trans ?_ (congrArg (fun i : S50000x64.Idx => feat0 V c (i 0) (i 1)) e.symm)
  refine Eq.trans ?_ (point0 V c t ht y0 y1)
  blk_simp

theorem arr0_6 (c : Dev nD) : (dat0 V c).arrAt 6 cfg0.N = fun i : S50000x8.Idx => src0 V c (i 0) (i 1) := by
  refine (dat0 V c).arrAt_eq_of_covers 6 _ (by decide +kernel) fun t _ y => ?_
  have ht : t.val < 10 := t.isLt
  have h3 := (idx0 t).2.2.2.2.2.2.1
  rw [after0_6]
  frame_out
  idx_vars y
  have e : ((View.whole main_v41_1).slice (win0_6.rect t)).emb (ix2 y0 y1) = ix2 (nodeAt t.val ht y0) y1 := by
    funext z
    match z with
    | ⟨0, _⟩ => exact Fin.ext (by show win0_6.index t 0 * 5000 + 1 * y0.val = 5000 * t.val + y0.val; rw [h3]; show t.val * 5000 + _ = _; omega)
    | ⟨1, _⟩ => exact Fin.ext (by show win0_6.index t 1 * 8 + 1 * y1.val = y1.val; rw [h3]; show 0 * 8 + _ = _; omega)
  refine Eq.trans ?_ (congrArg (fun i : S50000x8.Idx => src0 V c (i 0) (i 1)) e.symm)
  refine Eq.trans ?_ (point0_src V c t ht y0 y1)
  blk_simp

theorem arr0_7 (c : Dev nD) : (dat0 V c).arrAt 7 cfg0.N = fun i : S50000x8.Idx => dst0 V c (i 0) (i 1) := by
  refine (dat0 V c).arrAt_eq_of_covers 7 _ (by decide +kernel) fun t _ y => ?_
  have ht : t.val < 10 := t.isLt
  have h3 := (idx0 t).2.2.2.2.2.2.2
  rw [after0_7]
  frame_out
  idx_vars y
  have e : ((View.whole main_v41_2).slice (win0_7.rect t)).emb (ix2 y0 y1) = ix2 (nodeAt t.val ht y0) y1 := by
    funext z
    match z with
    | ⟨0, _⟩ => exact Fin.ext (by show win0_7.index t 0 * 5000 + 1 * y0.val = 5000 * t.val + y0.val; rw [h3]; show t.val * 5000 + _ = _; omega)
    | ⟨1, _⟩ => exact Fin.ext (by show win0_7.index t 1 * 8 + 1 * y1.val = y1.val; rw [h3]; show 0 * 8 + _ = _; omega)
  refine Eq.trans ?_ (congrArg (fun i : S50000x8.Idx => dst0 V c (i 0) (i 1)) e.symm)
  refine Eq.trans ?_ (point0_dst V c t ht y0 y1)
  blk_simp

theorem idx1 : ∀ t : Fin cfg1.N, win1_0.index t = ![t.val, 0] ∧ win1_1.index t = ![0, 0] ∧ win1_2.index t = ![0, 0] ∧ win1_3.index t = ![0, 0] ∧ win1_4.index t = ![0, 0] ∧ win1_5.index t = ![t.val, 0] ∧ win1_6.index t = ![t.val, 0] ∧ win1_7.index t = ![t.val, 0] :=
  (by decide +kernel : ∀ t : Fin grid1.N, _)

/-- Region 1's features and scores on the whole arrays. -/
def feat1 (c : Dev nD) : Node → Fin 128 → EReal := lin (act (fun n k => V c main_v88 (ix2 n k)) fun k => V c main_v115 (ix2 0 k)) fun j k => V c main_arg8 (ix2 j k)
@[inherit_doc feat1] def src1 (c : Dev nD) (n : Node) (t : Fin 8) : EReal := ∑ j : Fin 128, feat1 V c n j * V c main_v101 (ix2 j t)
@[inherit_doc feat1] def dst1 (c : Dev nD) (n : Node) (t : Fin 8) : EReal := ∑ j : Fin 128, feat1 V c n j * V c main_v114 (ix2 j t)

theorem point1 (c : Dev nD) (t : Fin cfg1.N) (ht : t.val < 10) (y : Fin 5000) (j : Fin 128) :
    k1_pay1 (iblk1 V c 0 t) (iblk1 V c 4 t) (iblk1 V c 1 t) (ix2 y j) = feat1 V c (nodeAt t.val ht y) j := by
  rw [k1_pay1_at]
  have hx : ∀ k : Fin 64, iblk1 V c 0 t (ix2 y k) = V c main_v88 (ix2 (nodeAt t.val ht y) k) := by
    intro k
    unfold nodeAt
    blk_ext [iblk1, idx1 t]
  have hw : ∀ k : Fin 64, iblk1 V c 1 t (ix2 k j) = V c main_arg8 (ix2 k j) := by
    intro k
    blk_ext [iblk1, idx1 t]
  have hb : ∀ k : Fin 64, iblk1 V c 4 t (ix2 0 k) = V c main_v115 (ix2 0 k) := by
    intro k
    blk_ext [iblk1, idx1 t]
  unfold feat1 lin act
  exact Finset.sum_congr rfl fun k _ => by rw [hx, hw, hb]

theorem point1_src (c : Dev nD) (t : Fin cfg1.N) (ht : t.val < 10) (y : Fin 5000) (u : Fin 8) :
    k1_pay2 (iblk1 V c 0 t) (iblk1 V c 4 t) (iblk1 V c 1 t) (iblk1 V c 2 t) (ix2 y u) = src1 V c (nodeAt t.val ht y) u := by
  rw [k1_pay2_at]
  have ha : ∀ j : Fin 128, iblk1 V c 2 t (ix2 j u) = V c main_v101 (ix2 j u) := by
    intro j
    blk_ext [iblk1, idx1 t]
  unfold src1
  exact Finset.sum_congr rfl fun j _ => by rw [point1 V c t ht, ha]

theorem point1_dst (c : Dev nD) (t : Fin cfg1.N) (ht : t.val < 10) (y : Fin 5000) (u : Fin 8) :
    k1_pay3 (iblk1 V c 0 t) (iblk1 V c 4 t) (iblk1 V c 1 t) (iblk1 V c 3 t) (ix2 y u) = dst1 V c (nodeAt t.val ht y) u := by
  rw [k1_pay3_at]
  have ha : ∀ j : Fin 128, iblk1 V c 3 t (ix2 j u) = V c main_v114 (ix2 j u) := by
    intro j
    blk_ext [iblk1, idx1 t]
  unfold dst1
  exact Finset.sum_congr rfl fun j _ => by rw [point1 V c t ht, ha]

theorem arr1_5 (c : Dev nD) : (dat1 V c).arrAt 5 cfg1.N = fun i : S50000x128.Idx => feat1 V c (i 0) (i 1) := by
  refine (dat1 V c).arrAt_eq_of_covers 5 _ (by decide +kernel) fun t _ y => ?_
  have ht : t.val < 10 := t.isLt
  have h3 := (idx1 t).2.2.2.2.2.1
  rw [after1_5]
  frame_out
  idx_vars y
  have e : ((View.whole main_v116_0).slice (win1_5.rect t)).emb (ix2 y0 y1) = ix2 (nodeAt t.val ht y0) y1 := by
    funext z
    match z with
    | ⟨0, _⟩ => exact Fin.ext (by show win1_5.index t 0 * 5000 + 1 * y0.val = 5000 * t.val + y0.val; rw [h3]; show t.val * 5000 + _ = _; omega)
    | ⟨1, _⟩ => exact Fin.ext (by show win1_5.index t 1 * 128 + 1 * y1.val = y1.val; rw [h3]; show 0 * 128 + _ = _; omega)
  refine Eq.trans ?_ (congrArg (fun i : S50000x128.Idx => feat1 V c (i 0) (i 1)) e.symm)
  refine Eq.trans ?_ (point1 V c t ht y0 y1)
  blk_simp

theorem arr1_6 (c : Dev nD) : (dat1 V c).arrAt 6 cfg1.N = fun i : S50000x8.Idx => src1 V c (i 0) (i 1) := by
  refine (dat1 V c).arrAt_eq_of_covers 6 _ (by decide +kernel) fun t _ y => ?_
  have ht : t.val < 10 := t.isLt
  have h3 := (idx1 t).2.2.2.2.2.2.1
  rw [after1_6]
  frame_out
  idx_vars y
  have e : ((View.whole main_v116_1).slice (win1_6.rect t)).emb (ix2 y0 y1) = ix2 (nodeAt t.val ht y0) y1 := by
    funext z
    match z with
    | ⟨0, _⟩ => exact Fin.ext (by show win1_6.index t 0 * 5000 + 1 * y0.val = 5000 * t.val + y0.val; rw [h3]; show t.val * 5000 + _ = _; omega)
    | ⟨1, _⟩ => exact Fin.ext (by show win1_6.index t 1 * 8 + 1 * y1.val = y1.val; rw [h3]; show 0 * 8 + _ = _; omega)
  refine Eq.trans ?_ (congrArg (fun i : S50000x8.Idx => src1 V c (i 0) (i 1)) e.symm)
  refine Eq.trans ?_ (point1_src V c t ht y0 y1)
  blk_simp

theorem arr1_7 (c : Dev nD) : (dat1 V c).arrAt 7 cfg1.N = fun i : S50000x8.Idx => dst1 V c (i 0) (i 1) := by
  refine (dat1 V c).arrAt_eq_of_covers 7 _ (by decide +kernel) fun t _ y => ?_
  have ht : t.val < 10 := t.isLt
  have h3 := (idx1 t).2.2.2.2.2.2.2
  rw [after1_7]
  frame_out
  idx_vars y
  have e : ((View.whole main_v116_2).slice (win1_7.rect t)).emb (ix2 y0 y1) = ix2 (nodeAt t.val ht y0) y1 := by
    funext z
    match z with
    | ⟨0, _⟩ => exact Fin.ext (by show win1_7.index t 0 * 5000 + 1 * y0.val = 5000 * t.val + y0.val; rw [h3]; show t.val * 5000 + _ = _; omega)
    | ⟨1, _⟩ => exact Fin.ext (by show win1_7.index t 1 * 8 + 1 * y1.val = y1.val; rw [h3]; show 0 * 8 + _ = _; omega)
  refine Eq.trans ?_ (congrArg (fun i : S50000x8.Idx => dst1 V c (i 0) (i 1)) e.symm)
  refine Eq.trans ?_ (point1_dst V c t ht y0 y1)
  blk_simp

theorem idx2 : ∀ t : Fin cfg2.N, win2_0.index t = ![t.val, 0] ∧ win2_1.index t = ![0, 0] ∧ win2_2.index t = ![0, 0] ∧ win2_3.index t = ![0, 0] ∧ win2_4.index t = ![0, 0] ∧ win2_5.index t = ![t.val, 0] ∧ win2_6.index t = ![t.val, 0] ∧ win2_7.index t = ![t.val, 0] :=
  (by decide +kernel : ∀ t : Fin grid2.N, _)

/-- Region 2's features and scores on the whole arrays. -/
def feat2 (c : Dev nD) : Node → Fin 128 → EReal := lin (act (fun n k => V c main_v163 (ix2 n k)) fun k => V c main_v172 (ix2 0 k)) fun j k => V c main_arg12 (ix2 j k)
@[inherit_doc feat2] def src2 (c : Dev nD) (n : Node) (t : Fin 8) : EReal := ∑ j : Fin 128, feat2 V c n j * V c main_v167 (ix2 j t)
@[inherit_doc feat2] def dst2 (c : Dev nD) (n : Node) (t : Fin 8) : EReal := ∑ j : Fin 128, feat2 V c n j * V c main_v171 (ix2 j t)

theorem point2 (c : Dev nD) (t : Fin cfg2.N) (ht : t.val < 10) (y : Fin 5000) (j : Fin 128) :
    k2_pay1 (iblk2 V c 0 t) (iblk2 V c 4 t) (iblk2 V c 1 t) (ix2 y j) = feat2 V c (nodeAt t.val ht y) j := by
  rw [k2_pay1_at]
  have hx : ∀ k : Fin 128, iblk2 V c 0 t (ix2 y k) = V c main_v163 (ix2 (nodeAt t.val ht y) k) := by
    intro k
    unfold nodeAt
    blk_ext [iblk2, idx2 t]
  have hw : ∀ k : Fin 128, iblk2 V c 1 t (ix2 k j) = V c main_arg12 (ix2 k j) := by
    intro k
    blk_ext [iblk2, idx2 t]
  have hb : ∀ k : Fin 128, iblk2 V c 4 t (ix2 0 k) = V c main_v172 (ix2 0 k) := by
    intro k
    blk_ext [iblk2, idx2 t]
  unfold feat2 lin act
  exact Finset.sum_congr rfl fun k _ => by rw [hx, hw, hb]

theorem point2_src (c : Dev nD) (t : Fin cfg2.N) (ht : t.val < 10) (y : Fin 5000) (u : Fin 8) :
    k2_pay2 (iblk2 V c 0 t) (iblk2 V c 4 t) (iblk2 V c 1 t) (iblk2 V c 2 t) (ix2 y u) = src2 V c (nodeAt t.val ht y) u := by
  rw [k2_pay2_at]
  have ha : ∀ j : Fin 128, iblk2 V c 2 t (ix2 j u) = V c main_v167 (ix2 j u) := by
    intro j
    blk_ext [iblk2, idx2 t]
  unfold src2
  exact Finset.sum_congr rfl fun j _ => by rw [point2 V c t ht, ha]

theorem point2_dst (c : Dev nD) (t : Fin cfg2.N) (ht : t.val < 10) (y : Fin 5000) (u : Fin 8) :
    k2_pay3 (iblk2 V c 0 t) (iblk2 V c 4 t) (iblk2 V c 1 t) (iblk2 V c 3 t) (ix2 y u) = dst2 V c (nodeAt t.val ht y) u := by
  rw [k2_pay3_at]
  have ha : ∀ j : Fin 128, iblk2 V c 3 t (ix2 j u) = V c main_v171 (ix2 j u) := by
    intro j
    blk_ext [iblk2, idx2 t]
  unfold dst2
  exact Finset.sum_congr rfl fun j _ => by rw [point2 V c t ht, ha]

theorem arr2_5 (c : Dev nD) : (dat2 V c).arrAt 5 cfg2.N = fun i : S50000x128.Idx => feat2 V c (i 0) (i 1) := by
  refine (dat2 V c).arrAt_eq_of_covers 5 _ (by decide +kernel) fun t _ y => ?_
  have ht : t.val < 10 := t.isLt
  have h3 := (idx2 t).2.2.2.2.2.1
  rw [after2_5]
  frame_out
  idx_vars y
  have e : ((View.whole main_v173_0).slice (win2_5.rect t)).emb (ix2 y0 y1) = ix2 (nodeAt t.val ht y0) y1 := by
    funext z
    match z with
    | ⟨0, _⟩ => exact Fin.ext (by show win2_5.index t 0 * 5000 + 1 * y0.val = 5000 * t.val + y0.val; rw [h3]; show t.val * 5000 + _ = _; omega)
    | ⟨1, _⟩ => exact Fin.ext (by show win2_5.index t 1 * 128 + 1 * y1.val = y1.val; rw [h3]; show 0 * 128 + _ = _; omega)
  refine Eq.trans ?_ (congrArg (fun i : S50000x128.Idx => feat2 V c (i 0) (i 1)) e.symm)
  refine Eq.trans ?_ (point2 V c t ht y0 y1)
  blk_simp

theorem arr2_6 (c : Dev nD) : (dat2 V c).arrAt 6 cfg2.N = fun i : S50000x8.Idx => src2 V c (i 0) (i 1) := by
  refine (dat2 V c).arrAt_eq_of_covers 6 _ (by decide +kernel) fun t _ y => ?_
  have ht : t.val < 10 := t.isLt
  have h3 := (idx2 t).2.2.2.2.2.2.1
  rw [after2_6]
  frame_out
  idx_vars y
  have e : ((View.whole main_v173_1).slice (win2_6.rect t)).emb (ix2 y0 y1) = ix2 (nodeAt t.val ht y0) y1 := by
    funext z
    match z with
    | ⟨0, _⟩ => exact Fin.ext (by show win2_6.index t 0 * 5000 + 1 * y0.val = 5000 * t.val + y0.val; rw [h3]; show t.val * 5000 + _ = _; omega)
    | ⟨1, _⟩ => exact Fin.ext (by show win2_6.index t 1 * 8 + 1 * y1.val = y1.val; rw [h3]; show 0 * 8 + _ = _; omega)
  refine Eq.trans ?_ (congrArg (fun i : S50000x8.Idx => src2 V c (i 0) (i 1)) e.symm)
  refine Eq.trans ?_ (point2_src V c t ht y0 y1)
  blk_simp

theorem arr2_7 (c : Dev nD) : (dat2 V c).arrAt 7 cfg2.N = fun i : S50000x8.Idx => dst2 V c (i 0) (i 1) := by
  refine (dat2 V c).arrAt_eq_of_covers 7 _ (by decide +kernel) fun t _ y => ?_
  have ht : t.val < 10 := t.isLt
  have h3 := (idx2 t).2.2.2.2.2.2.2
  rw [after2_7]
  frame_out
  idx_vars y
  have e : ((View.whole main_v173_2).slice (win2_7.rect t)).emb (ix2 y0 y1) = ix2 (nodeAt t.val ht y0) y1 := by
    funext z
    match z with
    | ⟨0, _⟩ => exact Fin.ext (by show win2_7.index t 0 * 5000 + 1 * y0.val = 5000 * t.val + y0.val; rw [h3]; show t.val * 5000 + _ = _; omega)
    | ⟨1, _⟩ => exact Fin.ext (by show win2_7.index t 1 * 8 + 1 * y1.val = y1.val; rw [h3]; show 0 * 8 + _ = _; omega)
  refine Eq.trans ?_ (congrArg (fun i : S50000x8.Idx => dst2 V c (i 0) (i 1)) e.symm)
  refine Eq.trans ?_ (point2_dst V c t ht y0 y1)
  blk_simp

end Cert.Drug
-- ==== Proof.Heads.lean ====
/- Each head's weights set into that head's rows and column of a matrix of zeros, read at a column of a head. -/
module

public import proofs.«01_k».proof.Proof.Score

@[expose] public section

set_option maxRecDepth 65536
set_option maxHeartbeats 4000000

noncomputable section

namespace Cert.Drug

open Idealize.ShloMosaic

/-- The case of two heads, written one after the other. -/
theorem heads_two {C : ℕ} (hC : 0 < C) (a : Fin 2 → Fin C → EReal) {o z w : ℤ} (ho : o = 1) (hz : z = 0) (hw : w = C) (t' t : Fin 2)
    (c : Fin C) {n : ℕ} (hn : n = C * t'.val + c.val) :
    (if o = (t.val : ℤ) ∧ w ≤ (n : ℤ) ∧ (n : ℤ) < w + (C : ℤ) then a 1 ⟨((n : ℤ) - w).toNat % C, Nat.mod_lt _ hC⟩
      else if z = (t.val : ℤ) ∧ z ≤ (n : ℤ) ∧ (n : ℤ) < z + (C : ℤ) then a 0 ⟨((n : ℤ) - z).toNat % C, Nat.mod_lt _ hC⟩
      else 0) = if t' = t then a t c else 0 := by
  subst ho hz hw hn
  have hc := c.isLt
  have m0 : ∀ k : ℕ, k = c.val → k % C = c.val := fun k h => by rw [h, Nat.mod_eq_of_lt hc]
  match t', t with
  | 0, 0 =>
    rw [if_neg (by simp), if_pos (by simp), if_pos rfl]
    exact congrArg (a 0) (Fin.ext (m0 _ (by simp)))
  | 0, 1 => rw [if_neg (by simp), if_neg (by simp), if_neg (by decide)]
  | 1, 0 => rw [if_neg (by simp), if_neg (by simp), if_neg (by decide)]
  | 1, 1 =>
    rw [if_pos (by simp), if_pos rfl]
    exact congrArg (a 1) (Fin.ext (m0 _ (by simp)))

/-- A choice by a comparison. -/
theorem select_of (p : Prop) [Decidable p] (a b : EReal) : Scalar.select (BitVec.ofBool (decide p)) a b = if p then a else b := by
  by_cases h : p
  · simp [Scalar.select, h]
  · simp [Scalar.select, h]

end Cert.Drug
-- ==== Proof.DrugHost0.lean ====
/- The host operations before the first region, read at an index. -/
module

public import proofs.«01_k».proof.Proof.Gen.Kernel2Ideal.Launch
public import proofs.«01_k».proof.Proof.Heads
public import Idealize.ShloMosaic.Lib.Pointwise

@[expose] public section

set_option maxRecDepth 65536
set_option maxHeartbeats 4000000

noncomputable section

namespace Cert.Drug

open Idealize.ShloMosaic Idealize.ShloMosaic.TcCoe Idealize.SL.Sem Cert.Kernel2Ideal Cert.Kernel2Ideal.Gen
open Idealize.ShloMosaic.StableHlo Idealize.ShloMosaic.Routing

variable (V : Valuation τ sig (Elt Ideal))

theorem set32 (x : FVec Ideal S64x8 .f32) (idx : IVec S2 32) (u : FVec Ideal S32 .f32) (r : Fin 64) (c : Fin 8) :
    Host.scatter scatter_S64x8_S2_S32_0_1_01_0 (fun _ b => b) x idx u (ix2 r c) =
      if (idx (ix1 1)).toInt = (c.val : ℤ) ∧ (idx (ix1 0)).toInt ≤ (r.val : ℤ) ∧ (r.val : ℤ) < (idx (ix1 0)).toInt + (32 : ℕ)
      then u (ix1 ⟨((r.val : ℤ) - (idx (ix1 0)).toInt).toNat % 32, Nat.mod_lt _ (by omega)⟩) else x (ix2 r c) :=
  scatter_column_signed _ (by omega) rfl rfl rfl x idx u (ix2 r c)

theorem take10 (x : FVec Ideal S10x32 .f32) (idx : IVec S50000x1 32) (n : Fin 50000) (c : Fin 32) :
    Host.gather gather_S10x32_S50000x1_S50000x32_1_0_n_n_0_1_132 x idx (ix2 n c) = x (ix2 (rowOf 10 (idx (ix2 n 0))) c) :=
  take_mat _ x idx n c

/-- The edges' two ends. -/
theorem host_src (e : Edge) : after hostOps0 V (Proc.devRef .tc main_v3) (ix1 e) = endOf (fun k => V main_arg1 (ix2 0 k)) e := by
  after_results
  pointwise []
  rfl

@[inherit_doc host_src]
theorem host_dst (e : Edge) : after hostOps0 V (Proc.devRef .tc main_v6) (ix1 e) = endOf (fun k => V main_arg1 (ix2 1 k)) e := by
  after_results
  pointwise []
  rfl

/-- The nodes' first features. -/
theorem host_emb (n : Node) (k : Fin 32) :
    after hostOps0 V (Proc.devRef .tc main_v13) (ix2 n k) = emb (fun i k => V main_arg3 (ix2 i k)) (fun n => V main_arg0 (ix1 n)) n k := by
  after_results
  pointwise [take10]
  rfl

/-- The first layer's weights for the two scores. -/
theorem host_att1 (t' t : Fin 2) (c : Fin 32) :
    after hostOps0 V (Proc.devRef .tc main_v26) (ix2 (col (rfl : 2 * 32 = 64) t' c) ⟨t.val, by omega⟩) =
      if t' = t then V main_arg5 (ix2 t c) else (0 : EReal) := by
  after_results
  pointwise [set32]
  exact heads_two (by omega) (fun t c => V main_arg5 (ix2 t c)) rfl rfl rfl t' t c rfl

@[inherit_doc host_att1]
theorem host_att1' (t' t : Fin 2) (c : Fin 32) :
    after hostOps0 V (Proc.devRef .tc main_v39) (ix2 (col (rfl : 2 * 32 = 64) t' c) ⟨t.val, by omega⟩) =
      if t' = t then V main_arg6 (ix2 t c) else (0 : EReal) := by
  after_results
  pointwise [set32]
  exact heads_two (by omega) (fun t c => V main_arg6 (ix2 t c)) rfl rfl rfl t' t c rfl

end Cert.Drug
-- ==== Proof.DrugHost1.lean ====
/- The host operations after the first region, read at an index. -/
module

public import proofs.«01_k».proof.Proof.Gen.Kernel2Ideal.Launch
public import proofs.«01_k».proof.Proof.Heads
public import Idealize.ShloMosaic.Lib.Pointwise

@[expose] public section

set_option maxRecDepth 65536
set_option maxHeartbeats 4000000

noncomputable section

namespace Cert.Drug

open Idealize.ShloMosaic Idealize.ShloMosaic.TcCoe Idealize.SL.Sem Cert.Kernel2Ideal Cert.Kernel2Ideal.Gen
open Idealize.ShloMosaic.StableHlo Idealize.ShloMosaic.Routing

variable (V : Valuation τ sig (Elt Ideal))

theorem take2 (x : FVec Ideal S50000x2 .f32) (idx : IVec S850000x1 32) (e : Edge) (c : Fin 2) :
    Host.gather gather_S50000x2_S850000x1_S850000x2_1_0_n_n_0_1_12 x idx (ix2 e c) = x (ix2 (rowOf 50000 (idx (ix2 e 0))) c) :=
  take_mat _ x idx e c

theorem take64 (x : FVec Ideal S50000x64 .f32) (idx : IVec S850000x1 32) (e : Edge) (c : Fin 64) :
    Host.gather gather_S50000x64_S850000x1_S850000x64_1_0_n_n_0_1_164 x idx (ix2 e c) = x (ix2 (rowOf 50000 (idx (ix2 e 0))) c) :=
  take_mat _ x idx e c

theorem add66 (x : FVec Ideal S50000x66 .f32) (idx : IVec S850000x1 32) (u : FVec Ideal S850000x66 .f32) (i : Node) (c : Fin 66) :
    Host.scatterAdd scatter_S50000x66_S850000x1_S850000x66_1_0_0_1 x idx u (ix2 i c) =
      (x (ix2 i c) + ∑ e ∈ Finset.univ.filter (fun e : Edge => (idx (ix2 e 0)).toInt = (i.val : ℤ)), u (ix2 e c) : EReal) :=
  add_mat _ x idx u i c

theorem set64 (x : FVec Ideal S128x8 .f32) (idx : IVec S2 32) (u : FVec Ideal S64 .f32) (r : Fin 128) (c : Fin 8) :
    Host.scatter scatter_S128x8_S2_S64_0_1_01_0 (fun _ b => b) x idx u (ix2 r c) =
      if (idx (ix1 1)).toInt = (c.val : ℤ) ∧ (idx (ix1 0)).toInt ≤ (r.val : ℤ) ∧ (r.val : ℤ) < (idx (ix1 0)).toInt + (64 : ℕ)
      then u (ix1 ⟨((r.val : ℤ) - (idx (ix1 0)).toInt).toNat % 64, Nat.mod_lt _ (by omega)⟩) else x (ix2 r c) :=
  scatter_column_signed _ (by omega) rfl rfl rfl x idx u (ix2 r c)

theorem sum1_at (e : Edge) (k : Fin 2) : after hostOps1 V (Proc.devRef .tc main_v58) (ix2 e k) = ends (fun e => V main_v3 (ix1 e)) (fun e => V main_v6 (ix1 e))
    (fun n (k : Fin 2) => V main_v41_1 (ix2 n ⟨k.val, by omega⟩))
    (fun n (k : Fin 2) => V main_v41_2 (ix2 n ⟨k.val, by omega⟩)) e k := by
  after_results
  pointwise [take2]
  rfl

theorem pos1_at (e : Edge) (k : Fin 2) : after hostOps1 V (Proc.devRef .tc main_v60) (ix2 e k) = BitVec.ofBool (decide (0 < ends (fun e => V main_v3 (ix1 e)) (fun e => V main_v6 (ix1 e))
    (fun n (k : Fin 2) => V main_v41_1 (ix2 n ⟨k.val, by omega⟩))
    (fun n (k : Fin 2) => V main_v41_2 (ix2 n ⟨k.val, by omega⟩)) e k)) := by
  after_results
  pointwise [take2]
  rfl

theorem low1_at (e : Edge) (k : Fin 2) : after hostOps1 V (Proc.devRef .tc main_v62) (ix2 e k) = slope * ends (fun e => V main_v3 (ix1 e)) (fun e => V main_v6 (ix1 e))
    (fun n (k : Fin 2) => V main_v41_1 (ix2 n ⟨k.val, by omega⟩))
    (fun n (k : Fin 2) => V main_v41_2 (ix2 n ⟨k.val, by omega⟩)) e k := by
  after_results
  pointwise [take2]
  rfl

theorem pick1_at (e : Edge) (k : Fin 2) : after hostOps1_1 V (Proc.devRef .tc main_v63) (ix2 e k) =
    Scalar.select (V main_v60 (ix2 e k)) (V main_v58 (ix2 e k)) (V main_v62 (ix2 e k)) := by
  after_results
  rfl

/-- The first layer's logits. -/
theorem host_logit1 (e : Edge) (k : Fin 2) : after hostOps1_1 (after hostOps1 V) (Proc.devRef .tc main_v63) (ix2 e k) =
    logit (fun e => V main_v3 (ix1 e)) (fun e => V main_v6 (ix1 e))
      (fun n (k : Fin 2) => V main_v41_1 (ix2 n ⟨k.val, by omega⟩))
      (fun n (k : Fin 2) => V main_v41_2 (ix2 n ⟨k.val, by omega⟩)) e k := by
  rw [pick1_at, sum1_at, pos1_at, low1_at]
  exact select_of (0 < ends _ _ _ _ e k) _ _

/-- The first layer before its bias. -/
theorem host_arrive1 (i : Node) (j : Fin 64) : after hostOps1_2 V (Proc.devRef .tc main_v88) (ix2 i j) =
    arriveLate (head (rfl : 2 * 32 = 64)) (fun e => V main_v3 (ix1 e)) (fun e => V main_v6 (ix1 e)) (fun n j => V main_v41_0 (ix2 n j))
      (weight (fun e (t : Fin 2) => V main_v63 (ix2 e t)) (topOf fun e (t : Fin 2) => V main_v63 (ix2 e t))) i j := by
  after_results
  pointwise [take64, add66]
  rfl

/-- The first layer's bias. -/
theorem host_bias1 (k : Fin 64) : after hostOps1_2 V (Proc.devRef .tc main_v115) (ix2 0 k) = V main_arg7 (ix1 k) := by
  after_results
  pointwise []

/-- The second layer's weights for the two scores. -/
theorem host_att2 (t' t : Fin 2) (c : Fin 64) :
    after hostOps1_2 V (Proc.devRef .tc main_v101) (ix2 (col (rfl : 2 * 64 = 128) t' c) ⟨t.val, by omega⟩) =
      if t' = t then V main_arg9 (ix2 t c) else (0 : EReal) := by
  after_results
  pointwise [set64]
  exact heads_two (by omega) (fun t c => V main_arg9 (ix2 t c)) rfl rfl rfl t' t c rfl

@[inherit_doc host_att2]
theorem host_att2' (t' t : Fin 2) (c : Fin 64) :
    after hostOps1_2 V (Proc.devRef .tc main_v114) (ix2 (col (rfl : 2 * 64 = 128) t' c) ⟨t.val, by omega⟩) =
      if t' = t then V main_arg10 (ix2 t c) else (0 : EReal) := by
  after_results
  pointwise [set64]
  exact heads_two (by omega) (fun t c => V main_arg10 (ix2 t c)) rfl rfl rfl t' t c rfl

end Cert.Drug
-- ==== Proof.DrugHost2.lean ====
/- The host operations after the second region, read at an index. -/
module

public import proofs.«01_k».proof.Proof.Gen.Kernel2Ideal.Launch
public import proofs.«01_k».proof.Proof.DrugHost1
public import Idealize.ShloMosaic.Lib.Pointwise

@[expose] public section

set_option maxRecDepth 65536
set_option maxHeartbeats 4000000

noncomputable section

namespace Cert.Drug

open Idealize.ShloMosaic Idealize.ShloMosaic.TcCoe Idealize.SL.Sem Cert.Kernel2Ideal Cert.Kernel2Ideal.Gen
open Idealize.ShloMosaic.StableHlo Idealize.ShloMosaic.Routing

variable (V : Valuation τ sig (Elt Ideal))

theorem take128 (x : FVec Ideal S50000x128 .f32) (idx : IVec S850000x1 32) (e : Edge) (c : Fin 128) :
    Host.gather gather_S50000x128_S850000x1_S850000x128_1_0_n_n_0_1_1128 x idx (ix2 e c) = x (ix2 (rowOf 50000 (idx (ix2 e 0))) c) :=
  take_mat _ x idx e c

theorem add130 (x : FVec Ideal S50000x130 .f32) (idx : IVec S850000x1 32) (u : FVec Ideal S850000x130 .f32) (i : Node) (c : Fin 130) :
    Host.scatterAdd scatter_S50000x130_S850000x1_S850000x130_1_0_0_1 x idx u (ix2 i c) =
      (x (ix2 i c) + ∑ e ∈ Finset.univ.filter (fun e : Edge => (idx (ix2 e 0)).toInt = (i.val : ℤ)), u (ix2 e c) : EReal) :=
  add_mat _ x idx u i c

theorem set128 (x : FVec Ideal S128x8 .f32) (idx : IVec S1 32) (hi : (idx (ix1 0)).toInt = ((0 : Fin 8).val : ℤ)) (u : FVec Ideal S128 .f32)
    (r : Fin 128) : Host.scatter scatter_S128x8_S1_S128_0_1_1_0 (fun _ b => b) x idx u (ix2 r 0) = u (ix1 r) := by
  refine scatter_set_hit _ x idx u _ _ (fun j h => ?_) (ix1 r)
    ((lands_col scatter_S128x8_S1_S128_0_1_1_0 rfl rfl idx 0 hi r r 0).2 ⟨rfl, rfl⟩)
  obtain ⟨a, rfl⟩ : ∃ a : Fin 128, j = ix1 a := ⟨j 0, eq_ix1 j⟩
  rw [((lands_col scatter_S128x8_S1_S128_0_1_1_0 rfl rfl idx 0 hi a r 0).1 h).1]

theorem sum2_at (e : Edge) (k : Fin 2) : after hostOps2 V (Proc.devRef .tc main_v133) (ix2 e k) = ends (fun e => V main_v3 (ix1 e)) (fun e => V main_v6 (ix1 e))
    (fun n (k : Fin 2) => V main_v116_1 (ix2 n ⟨k.val, by omega⟩))
    (fun n (k : Fin 2) => V main_v116_2 (ix2 n ⟨k.val, by omega⟩)) e k := by
  after_results
  pointwise [take2]
  rfl

theorem pos2_at (e : Edge) (k : Fin 2) : after hostOps2 V (Proc.devRef .tc main_v135) (ix2 e k) = BitVec.ofBool (decide (0 < ends (fun e => V main_v3 (ix1 e)) (fun e => V main_v6 (ix1 e))
    (fun n (k : Fin 2) => V main_v116_1 (ix2 n ⟨k.val, by omega⟩))
    (fun n (k : Fin 2) => V main_v116_2 (ix2 n ⟨k.val, by omega⟩)) e k)) := by
  after_results
  pointwise [take2]
  rfl

theorem low2_at (e : Edge) (k : Fin 2) : after hostOps2 V (Proc.devRef .tc main_v137) (ix2 e k) = slope * ends (fun e => V main_v3 (ix1 e)) (fun e => V main_v6 (ix1 e))
    (fun n (k : Fin 2) => V main_v116_1 (ix2 n ⟨k.val, by omega⟩))
    (fun n (k : Fin 2) => V main_v116_2 (ix2 n ⟨k.val, by omega⟩)) e k := by
  after_results
  pointwise [take2]
  rfl

theorem pick2_at (e : Edge) (k : Fin 2) : after hostOps2_1 V (Proc.devRef .tc main_v138) (ix2 e k) =
    Scalar.select (V main_v135 (ix2 e k)) (V main_v133 (ix2 e k)) (V main_v137 (ix2 e k)) := by
  after_results
  rfl

/-- The second layer's logits. -/
theorem host_logit2 (e : Edge) (k : Fin 2) : after hostOps2_1 (after hostOps2 V) (Proc.devRef .tc main_v138) (ix2 e k) =
    logit (fun e => V main_v3 (ix1 e)) (fun e => V main_v6 (ix1 e))
      (fun n (k : Fin 2) => V main_v116_1 (ix2 n ⟨k.val, by omega⟩))
      (fun n (k : Fin 2) => V main_v116_2 (ix2 n ⟨k.val, by omega⟩)) e k := by
  rw [pick2_at, sum2_at, pos2_at, low2_at]
  exact select_of (0 < ends _ _ _ _ e k) _ _

/-- The second layer before its bias. -/
theorem host_arrive2 (i : Node) (j : Fin 128) : after hostOps2_2 V (Proc.devRef .tc main_v163) (ix2 i j) =
    arriveLate (head (rfl : 2 * 64 = 128)) (fun e => V main_v3 (ix1 e)) (fun e => V main_v6 (ix1 e)) (fun n j => V main_v116_0 (ix2 n j))
      (weight (fun e (t : Fin 2) => V main_v138 (ix2 e t)) (topOf fun e (t : Fin 2) => V main_v138 (ix2 e t))) i j := by
  after_results
  pointwise [take128, add130]
  rfl

/-- The second layer's bias. -/
theorem host_bias2 (k : Fin 128) : after hostOps2_2 V (Proc.devRef .tc main_v172) (ix2 0 k) = V main_arg11 (ix1 k) := by
  after_results
  pointwise []

/-- The third layer's weights for the two scores. -/
theorem host_att3 (t' t : Fin 1) (c : Fin 128) :
    after hostOps2_2 V (Proc.devRef .tc main_v167) (ix2 (col (rfl : 1 * 128 = 128) t' c) ⟨t.val, by omega⟩) =
      if t' = t then V main_arg13 (ix2 t c) else (0 : EReal) := by
  obtain rfl := Subsingleton.elim t 0
  obtain rfl := Subsingleton.elim t' 0
  after_results
  pointwise []
  refine (set128 _ _ rfl _ _).trans ?_
  exact congrArg (fun k => V main_arg13 (ix2 0 k)) (Fin.ext (by show 128 * 0 + c.val = c.val; omega))

@[inherit_doc host_att3]
theorem host_att3' (t' t : Fin 1) (c : Fin 128) :
    after hostOps2_2 V (Proc.devRef .tc main_v171) (ix2 (col (rfl : 1 * 128 = 128) t' c) ⟨t.val, by omega⟩) =
      if t' = t then V main_arg14 (ix2 t c) else (0 : EReal) := by
  obtain rfl := Subsingleton.elim t 0
  obtain rfl := Subsingleton.elim t' 0
  after_results
  pointwise []
  refine (set128 _ _ rfl _ _).trans ?_
  exact congrArg (fun k => V main_arg14 (ix2 0 k)) (Fin.ext (by show 128 * 0 + c.val = c.val; omega))

end Cert.Drug
-- ==== Proof.DrugHost3.lean ====
/- The host operations after the third region, read at an index. -/
module

public import proofs.«01_k».proof.Proof.Gen.Kernel2Ideal.Launch
public import proofs.«01_k».proof.Proof.DrugHost2
public import Idealize.ShloMosaic.Lib.Pointwise

@[expose] public section

set_option maxRecDepth 65536
set_option maxHeartbeats 4000000

noncomputable section

namespace Cert.Drug

open Idealize.ShloMosaic Idealize.ShloMosaic.TcCoe Idealize.SL.Sem Cert.Kernel2Ideal Cert.Kernel2Ideal.Gen
open Idealize.ShloMosaic.StableHlo Idealize.ShloMosaic.Routing

variable (V : Valuation τ sig (Elt Ideal))

theorem take1 (x : FVec Ideal S50000x1 .f32) (idx : IVec S850000x1 32) (e : Edge) (c : Fin 1) :
    Host.gather gather_S50000x1_S850000x1_S850000x1_1_0_n_n_0_1_11 x idx (ix2 e c) = x (ix2 (rowOf 50000 (idx (ix2 e 0))) c) :=
  take_mat _ x idx e c

theorem add129 (x : FVec Ideal S50000x129 .f32) (idx : IVec S850000x1 32) (u : FVec Ideal S850000x129 .f32) (i : Node) (c : Fin 129) :
    Host.scatterAdd scatter_S50000x129_S850000x1_S850000x129_1_0_0_1 x idx u (ix2 i c) =
      (x (ix2 i c) + ∑ e ∈ Finset.univ.filter (fun e : Edge => (idx (ix2 e 0)).toInt = (i.val : ℤ)), u (ix2 e c) : EReal) :=
  add_mat _ x idx u i c

theorem pool129 (x : FVec Ideal S500x129 .f32) (idx : IVec S50000x1 32) (u : FVec Ideal S50000x129 .f32) (i : Fin 500) (c : Fin 129) :
    Host.scatterAdd scatter_S500x129_S50000x1_S50000x129_1_0_0_1 x idx u (ix2 i c) =
      (x (ix2 i c) + ∑ e ∈ Finset.univ.filter (fun e : Node => (idx (ix2 e 0)).toInt = (i.val : ℤ)), u (ix2 e c) : EReal) :=
  add_mat _ x idx u i c

theorem sum3_at (e : Edge) (k : Fin 1) : after hostOps3 V (Proc.devRef .tc main_v190) (ix2 e k) = ends (fun e => V main_v3 (ix1 e)) (fun e => V main_v6 (ix1 e))
    (fun n (k : Fin 1) => V main_v173_1 (ix2 n ⟨k.val, by omega⟩))
    (fun n (k : Fin 1) => V main_v173_2 (ix2 n ⟨k.val, by omega⟩)) e k := by
  after_results
  pointwise [take1]
  rfl

theorem pos3_at (e : Edge) (k : Fin 1) : after hostOps3 V (Proc.devRef .tc main_v192) (ix2 e k) = BitVec.ofBool (decide (0 < ends (fun e => V main_v3 (ix1 e)) (fun e => V main_v6 (ix1 e))
    (fun n (k : Fin 1) => V main_v173_1 (ix2 n ⟨k.val, by omega⟩))
    (fun n (k : Fin 1) => V main_v173_2 (ix2 n ⟨k.val, by omega⟩)) e k)) := by
  after_results
  pointwise [take1]
  rfl

theorem low3_at (e : Edge) (k : Fin 1) : after hostOps3 V (Proc.devRef .tc main_v194) (ix2 e k) = slope * ends (fun e => V main_v3 (ix1 e)) (fun e => V main_v6 (ix1 e))
    (fun n (k : Fin 1) => V main_v173_1 (ix2 n ⟨k.val, by omega⟩))
    (fun n (k : Fin 1) => V main_v173_2 (ix2 n ⟨k.val, by omega⟩)) e k := by
  after_results
  pointwise [take1]
  rfl

theorem pick3_at (e : Edge) (k : Fin 1) : after hostOps3_1 V (Proc.devRef .tc main_v195) (ix2 e k) =
    Scalar.select (V main_v192 (ix2 e k)) (V main_v190 (ix2 e k)) (V main_v194 (ix2 e k)) := by
  after_results
  rfl

/-- The third layer's logits. -/
theorem host_logit3 (e : Edge) (k : Fin 1) : after hostOps3_1 (after hostOps3 V) (Proc.devRef .tc main_v195) (ix2 e k) =
    logit (fun e => V main_v3 (ix1 e)) (fun e => V main_v6 (ix1 e))
      (fun n (k : Fin 1) => V main_v173_1 (ix2 n ⟨k.val, by omega⟩))
      (fun n (k : Fin 1) => V main_v173_2 (ix2 n ⟨k.val, by omega⟩)) e k := by
  rw [pick3_at, sum3_at, pos3_at, low3_at]
  exact select_of (0 < ends _ _ _ _ e k) _ _

/-- The third layer before its bias. -/
theorem host_arrive3 (i : Node) (j : Fin 128) : after hostOps3_2 V (Proc.devRef .tc main_v223) (ix2 i j) =
    arriveLate (head (rfl : 1 * 128 = 128)) (fun e => V main_v3 (ix1 e)) (fun e => V main_v6 (ix1 e)) (fun n j => V main_v173_0 (ix2 n j))
      (weight (fun e (t : Fin 1) => V main_v195 (ix2 e t)) (topOf fun e (t : Fin 1) => V main_v195 (ix2 e t))) i j + (V main_arg15 (ix1 j) : EReal) := by
  after_results
  pointwise [take128, add129]
  unfold arriveLate total
  rw [Subsingleton.elim (head (rfl : 1 * 128 = 128) j) 0]
  rfl

theorem tell_at (n : Node) (j : Fin 128) : after hostOps3_2 V (Proc.devRef .tc main_v225) (ix2 n j) =
    BitVec.ofBool (decide ((0 : EReal) < after hostOps3_2 V (Proc.devRef .tc main_v223) (ix2 n j))) := by
  after_results
  pointwise [take128, add129]

theorem other_at (n : Node) (j : Fin 128) : after hostOps3_2 V (Proc.devRef .tc main_v228) (ix2 n j) =
    Ideal.exp (after hostOps3_2 V (Proc.devRef .tc main_v223) (ix2 n j)) - 1 := by
  after_results
  pointwise [take128, add129]

theorem pick4_at (n : Node) (j : Fin 128) : after hostOps3_3 V (Proc.devRef .tc main_v229) (ix2 n j) =
    Scalar.select (V main_v225 (ix2 n j)) (V main_v223 (ix2 n j)) (V main_v228 (ix2 n j)) := by
  after_results
  rfl

/-- The last features. -/
theorem host_elu (n : Node) (j : Fin 128) : after hostOps3_3 (after hostOps3_2 V) (Proc.devRef .tc main_v229) (ix2 n j) =
    elu (after hostOps3_2 V (Proc.devRef .tc main_v223) (ix2 n j)) := by
  rw [pick4_at, tell_at, other_at]
  exact select_of _ _ _

/-- The graphs' sums. -/
theorem host_pooled (p : Fin 500) (j : Fin 128) : after hostOps3_4 V (Proc.devRef .tc main_v235) (ix2 p j) =
    pooled (fun n => V main_arg2 (ix1 n)) (fun n j => V main_v229 (ix2 n j)) p j := by
  after_results
  pointwise [pool129]
  rfl

/-- The graphs' numbers of nodes. -/
theorem host_counted (p : Fin 500) : after hostOps3_4 V (Proc.devRef .tc main_v237) (ix1 p) = counted (fun n => V main_arg2 (ix1 n)) p := by
  after_results
  pointwise [pool129]
  rfl

end Cert.Drug
-- ==== Proof.DrugValue.lean ====
/- The drug branch's kernel: its two results in terms of its arguments. -/
module

public import proofs.«01_k».proof.Proof.Drug
public import proofs.«01_k».proof.Proof.DrugRegion
public import proofs.«01_k».proof.Proof.DrugHost0
public import proofs.«01_k».proof.Proof.DrugHost3

@[expose] public section

set_option maxRecDepth 65536
set_option maxHeartbeats 4000000

noncomputable section

namespace Cert.Drug

open Idealize.ShloMosaic Idealize.ShloMosaic.TcCoe Idealize.SL.Sem Cert.Kernel2Ideal Cert.Kernel2Ideal.Gen Idealize.ShloMosaic.Routing

variable (m : (ℓ : Loc nD τ sig) → Buf (Elt Ideal) ℓ) (ρ : Dev nD → PrngReg) (c : Dev nD)

/-- The kernel's arguments on one device. -/
def argsOf : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15)⟩

/-- The references that hold the edges' ends. -/
def endRefs : List (Ref sig .tc) := [main_v3, main_v6]

/-! The edges' ends keep their contents up to the last layer. -/

theorem keep2 : ∀ r ∈ endRefs, W2 m ρ c (Proc.devRef .tc r) = W1 m ρ c (Proc.devRef .tc r) := fun r hr =>
  (W2_of m ρ c r ((by decide +kernel : ∀ r ∈ endRefs, ∀ w : Fin cfg0.W, Pipeline.arrRef spec0 w = r → (cfg0.win w).isOut = false) r hr))

theorem keep3 : ∀ r ∈ endRefs, W3 m ρ c (Proc.devRef .tc r) = W1 m ρ c (Proc.devRef .tc r) := fun r hr =>
  (W3_of m ρ c r ((by decide +kernel : ∀ r ∈ endRefs, r ∉ hostOps1_W) r hr)).trans (keep2 m ρ c r hr)

theorem keep4 : ∀ r ∈ endRefs, W4 m ρ c (Proc.devRef .tc r) = W1 m ρ c (Proc.devRef .tc r) := fun r hr =>
  (W4_of m ρ c r ((by decide +kernel : ∀ r ∈ endRefs, r ∉ hostOps1_1_W) r hr)).trans (keep3 m ρ c r hr)

theorem keep5 : ∀ r ∈ endRefs, W5 m ρ c (Proc.devRef .tc r) = W1 m ρ c (Proc.devRef .tc r) := fun r hr =>
  (W5_of m ρ c r ((by decide +kernel : ∀ r ∈ endRefs, r ∉ hostOps1_2_W) r hr)).trans (keep4 m ρ c r hr)

theorem keep6 : ∀ r ∈ endRefs, W6 m ρ c (Proc.devRef .tc r) = W1 m ρ c (Proc.devRef .tc r) := fun r hr =>
  (W6_of m ρ c r ((by decide +kernel : ∀ r ∈ endRefs, ∀ w : Fin cfg1.W, Pipeline.arrRef spec1 w = r → (cfg1.win w).isOut = false) r hr)).trans (keep5 m ρ c r hr)

theorem keep7 : ∀ r ∈ endRefs, W7 m ρ c (Proc.devRef .tc r) = W1 m ρ c (Proc.devRef .tc r) := fun r hr =>
  (W7_of m ρ c r ((by decide +kernel : ∀ r ∈ endRefs, r ∉ hostOps2_W) r hr)).trans (keep6 m ρ c r hr)

theorem keep8 : ∀ r ∈ endRefs, W8 m ρ c (Proc.devRef .tc r) = W1 m ρ c (Proc.devRef .tc r) := fun r hr =>
  (W8_of m ρ c r ((by decide +kernel : ∀ r ∈ endRefs, r ∉ hostOps2_1_W) r hr)).trans (keep7 m ρ c r hr)

theorem keep9 : ∀ r ∈ endRefs, W9 m ρ c (Proc.devRef .tc r) = W1 m ρ c (Proc.devRef .tc r) := fun r hr =>
  (W9_of m ρ c r ((by decide +kernel : ∀ r ∈ endRefs, r ∉ hostOps2_2_W) r hr)).trans (keep8 m ρ c r hr)

theorem keep10 : ∀ r ∈ endRefs, W10 m ρ c (Proc.devRef .tc r) = W1 m ρ c (Proc.devRef .tc r) := fun r hr =>
  (W10_of m ρ c r ((by decide +kernel : ∀ r ∈ endRefs, ∀ w : Fin cfg2.W, Pipeline.arrRef spec2 w = r → (cfg2.win w).isOut = false) r hr)).trans (keep9 m ρ c r hr)

theorem keep11 : ∀ r ∈ endRefs, W11 m ρ c (Proc.devRef .tc r) = W1 m ρ c (Proc.devRef .tc r) := fun r hr =>
  (W11_of m ρ c r ((by decide +kernel : ∀ r ∈ endRefs, r ∉ hostOps3_W) r hr)).trans (keep10 m ρ c r hr)

theorem keep12 : ∀ r ∈ endRefs, W12 m ρ c (Proc.devRef .tc r) = W1 m ρ c (Proc.devRef .tc r) := fun r hr =>
  (W12_of m ρ c r ((by decide +kernel : ∀ r ∈ endRefs, r ∉ hostOps3_1_W) r hr)).trans (keep11 m ρ c r hr)

theorem from1 : (fun e : Edge => W1 m ρ c (Proc.devRef .tc main_v3) (ix1 e)) = (argsOf m c).src := funext fun e => host_src (W0 m ρ c) e

theorem to1 : (fun e : Edge => W1 m ρ c (Proc.devRef .tc main_v6) (ix1 e)) = (argsOf m c).dst := funext fun e => host_dst (W0 m ρ c) e

theorem from2 : (fun e : Edge => W2 m ρ c (Proc.devRef .tc main_v3) (ix1 e)) = (argsOf m c).src := by
  rw [keep2 m ρ c main_v3 (by decide)]
  exact from1 m ρ c

theorem to2 : (fun e : Edge => W2 m ρ c (Proc.devRef .tc main_v6) (ix1 e)) = (argsOf m c).dst := by
  rw [keep2 m ρ c main_v6 (by decide)]
  exact to1 m ρ c

theorem from4 : (fun e : Edge => W4 m ρ c (Proc.devRef .tc main_v3) (ix1 e)) = (argsOf m c).src := by
  rw [keep4 m ρ c main_v3 (by decide)]
  exact from1 m ρ c

theorem to4 : (fun e : Edge => W4 m ρ c (Proc.devRef .tc main_v6) (ix1 e)) = (argsOf m c).dst := by
  rw [keep4 m ρ c main_v6 (by decide)]
  exact to1 m ρ c

theorem from6 : (fun e : Edge => W6 m ρ c (Proc.devRef .tc main_v3) (ix1 e)) = (argsOf m c).src := by
  rw [keep6 m ρ c main_v3 (by decide)]
  exact from1 m ρ c

theorem to6 : (fun e : Edge => W6 m ρ c (Proc.devRef .tc main_v6) (ix1 e)) = (argsOf m c).dst := by
  rw [keep6 m ρ c main_v6 (by decide)]
  exact to1 m ρ c

theorem from8 : (fun e : Edge => W8 m ρ c (Proc.devRef .tc main_v3) (ix1 e)) = (argsOf m c).src := by
  rw [keep8 m ρ c main_v3 (by decide)]
  exact from1 m ρ c

theorem to8 : (fun e : Edge => W8 m ρ c (Proc.devRef .tc main_v6) (ix1 e)) = (argsOf m c).dst := by
  rw [keep8 m ρ c main_v6 (by decide)]
  exact to1 m ρ c

theorem from10 : (fun e : Edge => W10 m ρ c (Proc.devRef .tc main_v3) (ix1 e)) = (argsOf m c).src := by
  rw [keep10 m ρ c main_v3 (by decide)]
  exact from1 m ρ c

theorem to10 : (fun e : Edge => W10 m ρ c (Proc.devRef .tc main_v6) (ix1 e)) = (argsOf m c).dst := by
  rw [keep10 m ρ c main_v6 (by decide)]
  exact to1 m ρ c

theorem from12 : (fun e : Edge => W12 m ρ c (Proc.devRef .tc main_v3) (ix1 e)) = (argsOf m c).src := by
  rw [keep12 m ρ c main_v3 (by decide)]
  exact from1 m ρ c

theorem to12 : (fun e : Edge => W12 m ρ c (Proc.devRef .tc main_v6) (ix1 e)) = (argsOf m c).dst := by
  rw [keep12 m ρ c main_v6 (by decide)]
  exact to1 m ρ c

/-- Region 0's features are the first layer's. -/
theorem feat0_eq : feat0 (V1 m ρ) c = lin (argsOf m c).feat0 (fun j k => (argsOf m c).w1 (ix2 j k)) := by
  refine lin_congr (fun n k => ?_) fun j k => congrFun (W1_args m ρ c main_arg4 (by decide)) _
  exact host_emb (W0 m ρ c) n k

theorem src0_eq (n : Node) (t : Fin 2) : src0 (V1 m ρ) c n ⟨t.val, by omega⟩ =
    score (rfl : 2 * 32 = 64) (lin (argsOf m c).feat0 (fun j k => (argsOf m c).w1 (ix2 j k)) n) (fun t c' => (argsOf m c).s1 (ix2 t c')) t := by
  rw [← feat0_eq]
  refine score_of _ _ _ t _ fun t' k => ?_
  refine (host_att1 (W0 m ρ c) t' t k).trans ?_
  rw [W0_args m ρ c main_arg5 (by decide)]
  rfl

theorem dst0_eq (n : Node) (t : Fin 2) : dst0 (V1 m ρ) c n ⟨t.val, by omega⟩ =
    score (rfl : 2 * 32 = 64) (lin (argsOf m c).feat0 (fun j k => (argsOf m c).w1 (ix2 j k)) n) (fun t c' => (argsOf m c).d1 (ix2 t c')) t := by
  rw [← feat0_eq]
  refine score_of _ _ _ t _ fun t' k => ?_
  refine (host_att1' (W0 m ρ c) t' t k).trans ?_
  rw [W0_args m ρ c main_arg6 (by decide)]
  rfl

/-- The first layer before its bias. -/
theorem conv1_eq : arriveLate (head (rfl : 2 * 32 = 64)) (fun e => W4 m ρ c (Proc.devRef .tc main_v3) (ix1 e))
    (fun e => W4 m ρ c (Proc.devRef .tc main_v6) (ix1 e)) (fun n j => W4 m ρ c (Proc.devRef .tc main_v41_0) (ix2 n j))
    (weight (fun e (t : Fin 2) => W4 m ρ c (Proc.devRef .tc main_v63) (ix2 e t))
      (topOf fun e (t : Fin 2) => W4 m ρ c (Proc.devRef .tc main_v63) (ix2 e t))) = (argsOf m c).conv1 := by
  refine gat_of_late _ (from2 m ρ c) (to2 m ρ c) (from4 m ρ c) (to4 m ρ c) ?_ (src0_eq m ρ c) (dst0_eq m ρ c) fun e t => ?_
  · rw [W4_of m ρ c main_v41_0 (by decide +kernel), W3_of m ρ c main_v41_0 (by decide +kernel), ← feat0_eq]
    have h : W2 m ρ c (Proc.devRef .tc main_v41_0) = _ := (W2_arr m ρ c 5).trans (arr0_5 (V1 m ρ) c)
    rw [h]
    rfl
  · refine (host_logit1 (W2 m ρ c) e t).trans ?_
    have hs : W2 m ρ c (Proc.devRef .tc main_v41_1) = _ := (W2_arr m ρ c 6).trans (arr0_6 (V1 m ρ) c)
    have hd : W2 m ρ c (Proc.devRef .tc main_v41_2) = _ := (W2_arr m ρ c 7).trans (arr0_7 (V1 m ρ) c)
    rw [hs, hd]
    rfl

/-- Region 1's features are the second layer's. -/
theorem feat1_eq : feat1 (V5 m ρ) c = lin (act (argsOf m c).conv1 fun k => (argsOf m c).b1 (ix1 k)) (fun j k => (argsOf m c).w2 (ix2 j k)) := by
  refine lin_congr (fun n k => ?_) fun j k => congrFun (W5_args m ρ c main_arg8 (by decide)) _
  unfold act
  refine congrArg₂ (fun x y : EReal => elu (x + y)) ?_ ?_
  · exact (host_arrive1 (W4 m ρ c) n k).trans (congrFun (congrFun (conv1_eq m ρ c) n) k)
  · exact (host_bias1 (W4 m ρ c) k).trans (congrFun (W4_args m ρ c main_arg7 (by decide)) _)

theorem src1_eq (n : Node) (t : Fin 2) : src1 (V5 m ρ) c n ⟨t.val, by omega⟩ =
    score (rfl : 2 * 64 = 128) (lin (act (argsOf m c).conv1 fun k => (argsOf m c).b1 (ix1 k)) (fun j k => (argsOf m c).w2 (ix2 j k)) n) (fun t c' => (argsOf m c).s2 (ix2 t c')) t := by
  rw [← feat1_eq]
  refine score_of _ _ _ t _ fun t' k => ?_
  refine (host_att2 (W4 m ρ c) t' t k).trans ?_
  rw [W4_args m ρ c main_arg9 (by decide)]
  rfl

theorem dst1_eq (n : Node) (t : Fin 2) : dst1 (V5 m ρ) c n ⟨t.val, by omega⟩ =
    score (rfl : 2 * 64 = 128) (lin (act (argsOf m c).conv1 fun k => (argsOf m c).b1 (ix1 k)) (fun j k => (argsOf m c).w2 (ix2 j k)) n) (fun t c' => (argsOf m c).d2 (ix2 t c')) t := by
  rw [← feat1_eq]
  refine score_of _ _ _ t _ fun t' k => ?_
  refine (host_att2' (W4 m ρ c) t' t k).trans ?_
  rw [W4_args m ρ c main_arg10 (by decide)]
  rfl

/-- The second layer before its bias. -/
theorem conv2_eq : arriveLate (head (rfl : 2 * 64 = 128)) (fun e => W8 m ρ c (Proc.devRef .tc main_v3) (ix1 e))
    (fun e => W8 m ρ c (Proc.devRef .tc main_v6) (ix1 e)) (fun n j => W8 m ρ c (Proc.devRef .tc main_v116_0) (ix2 n j))
    (weight (fun e (t : Fin 2) => W8 m ρ c (Proc.devRef .tc main_v138) (ix2 e t))
      (topOf fun e (t : Fin 2) => W8 m ρ c (Proc.devRef .tc main_v138) (ix2 e t))) = (argsOf m c).conv2 := by
  refine gat_of_late _ (from6 m ρ c) (to6 m ρ c) (from8 m ρ c) (to8 m ρ c) ?_ (src1_eq m ρ c) (dst1_eq m ρ c) fun e t => ?_
  · rw [W8_of m ρ c main_v116_0 (by decide +kernel), W7_of m ρ c main_v116_0 (by decide +kernel), ← feat1_eq]
    have h : W6 m ρ c (Proc.devRef .tc main_v116_0) = _ := (W6_arr m ρ c 5).trans (arr1_5 (V5 m ρ) c)
    rw [h]
    rfl
  · refine (host_logit2 (W6 m ρ c) e t).trans ?_
    have hs : W6 m ρ c (Proc.devRef .tc main_v116_1) = _ := (W6_arr m ρ c 6).trans (arr1_6 (V5 m ρ) c)
    have hd : W6 m ρ c (Proc.devRef .tc main_v116_2) = _ := (W6_arr m ρ c 7).trans (arr1_7 (V5 m ρ) c)
    rw [hs, hd]
    rfl

/-- Region 2's features are the third layer's. -/
theorem feat2_eq : feat2 (V9 m ρ) c = lin (act (argsOf m c).conv2 fun k => (argsOf m c).b2 (ix1 k)) (fun j k => (argsOf m c).w3 (ix2 j k)) := by
  refine lin_congr (fun n k => ?_) fun j k => congrFun (W9_args m ρ c main_arg12 (by decide)) _
  unfold act
  refine congrArg₂ (fun x y : EReal => elu (x + y)) ?_ ?_
  · exact (host_arrive2 (W8 m ρ c) n k).trans (congrFun (congrFun (conv2_eq m ρ c) n) k)
  · exact (host_bias2 (W8 m ρ c) k).trans (congrFun (W8_args m ρ c main_arg11 (by decide)) _)

theorem src2_eq (n : Node) (t : Fin 1) : src2 (V9 m ρ) c n ⟨t.val, by omega⟩ =
    score (rfl : 1 * 128 = 128) (lin (act (argsOf m c).conv2 fun k => (argsOf m c).b2 (ix1 k)) (fun j k => (argsOf m c).w3 (ix2 j k)) n) (fun t c' => (argsOf m c).s3 (ix2 t c')) t := by
  rw [← feat2_eq]
  refine score_of _ _ _ t _ fun t' k => ?_
  refine (host_att3 (W8 m ρ c) t' t k).trans ?_
  rw [W8_args m ρ c main_arg13 (by decide)]
  rfl

theorem dst2_eq (n : Node) (t : Fin 1) : dst2 (V9 m ρ) c n ⟨t.val, by omega⟩ =
    score (rfl : 1 * 128 = 128) (lin (act (argsOf m c).conv2 fun k => (argsOf m c).b2 (ix1 k)) (fun j k => (argsOf m c).w3 (ix2 j k)) n) (fun t c' => (argsOf m c).d3 (ix2 t c')) t := by
  rw [← feat2_eq]
  refine score_of _ _ _ t _ fun t' k => ?_
  refine (host_att3' (W8 m ρ c) t' t k).trans ?_
  rw [W8_args m ρ c main_arg14 (by decide)]
  rfl

/-- The third layer before its bias. -/
theorem conv3_eq : arriveLate (head (rfl : 1 * 128 = 128)) (fun e => W12 m ρ c (Proc.devRef .tc main_v3) (ix1 e))
    (fun e => W12 m ρ c (Proc.devRef .tc main_v6) (ix1 e)) (fun n j => W12 m ρ c (Proc.devRef .tc main_v173_0) (ix2 n j))
    (weight (fun e (t : Fin 1) => W12 m ρ c (Proc.devRef .tc main_v195) (ix2 e t))
      (topOf fun e (t : Fin 1) => W12 m ρ c (Proc.devRef .tc main_v195) (ix2 e t))) = (argsOf m c).conv3 := by
  refine gat_of_late _ (from10 m ρ c) (to10 m ρ c) (from12 m ρ c) (to12 m ρ c) ?_ (src2_eq m ρ c) (dst2_eq m ρ c) fun e t => ?_
  · rw [W12_of m ρ c main_v173_0 (by decide +kernel), W11_of m ρ c main_v173_0 (by decide +kernel), ← feat2_eq]
    have h : W10 m ρ c (Proc.devRef .tc main_v173_0) = _ := (W10_arr m ρ c 5).trans (arr2_5 (V9 m ρ) c)
    rw [h]
    rfl
  · refine (host_logit3 (W10 m ρ c) e t).trans ?_
    have hs : W10 m ρ c (Proc.devRef .tc main_v173_1) = _ := (W10_arr m ρ c 6).trans (arr2_6 (V9 m ρ) c)
    have hd : W10 m ρ c (Proc.devRef .tc main_v173_2) = _ := (W10_arr m ρ c 7).trans (arr2_7 (V9 m ρ) c)
    rw [hs, hd]
    rfl

/-- The kernel's first result. -/
theorem summed_eq (p : Fin 500) (j : Fin 128) : W15 m ρ c (Proc.devRef .tc main_v235) (ix2 p j) = (argsOf m c).summed p j := by
  refine (host_pooled (W14 m ρ c) p j).trans ?_
  rw [W14_args m ρ c main_arg2 (by decide)]
  refine congrArg (fun X => pooled (fun n => (argsOf m c).batch (ix1 n)) X p j) (funext fun n => funext fun j => ?_)
  refine (host_elu (W12 m ρ c) n j).trans (congrArg elu ((host_arrive3 (W12 m ρ c) n j).trans ?_))
  exact congrArg₂ (fun x y : EReal => x + y) (congrFun (congrFun (conv3_eq m ρ c) n) j) (congrFun (W12_args m ρ c main_arg15 (by decide)) _)

/-- The kernel's second result. -/
theorem counts_eq (p : Fin 500) : W15 m ρ c (Proc.devRef .tc main_v237) (ix1 p) = (argsOf m c).counts p := by
  refine (host_counted (W14 m ρ c) p).trans ?_
  rw [W14_args m ρ c main_arg2 (by decide)]
  rfl

end Cert.Drug
-- ==== Proof.DrugRun.lean ====
/- The run of the drug branch's kernel, keeping every buffer's final contents. -/
module

public import proofs.«01_k».proof.Proof.Gen.Kernel2Ideal.Frame
public import Idealize.ShloMosaic.PureOps.Ideal

@[expose] public section

set_option maxRecDepth 16384

noncomputable section

namespace Cert.Drug

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

/-- What a run of the kernel needs of one device at its end: every unscoped buffer as the last boundary has it. -/
def Ends (c : Dev nD) (s : MemSt nD τ sig (Elt Ideal)) : Prop :=
  ∀ b ∈ Pipeline.ucRefs τ sig, s.mem (((c : Thread nD τ)).1, b) = W15 m ρ c b

/-- Holding the buffers at the last boundary's contents beside a state, that state has them. -/
theorem ends_of_held (c : Dev nD) (s : Phys nD τ sig (Elt Ideal)) :
    iprop(Tₙ m ρ c ∗ SI s) ⊢ (iprop(|={Set.univ}=> (⌜Ends m ρ c s.mem⌝ ∗ SI s)) : sProp 𝕄) := by
  iintro ⟨⟨Hh, -⟩, HSI⟩
  unfold StableHlo.held Ends
  imodintro
  iapply (pointsTo_read_all (Pipeline.ucRefs τ sig) (fun b => (((c : Thread nD τ)).1, b)) (W15 m ρ c) s)
  isplitl [Hh] <;> iassumption

-- the launch theorem's implicit arguments are found by unfolding definitions in the types of metavariables
set_option backward.isDefEq.respectTransparency.types false in
/-- Every weakly fair execution of the idealized kernel ends, with each unscoped buffer at the contents of the last
    boundary. -/
theorem kernel_run : θ_run defs (onTc (τ := τ) (main (F := Ideal))) ⟨m, fun _ => 0, ρ⟩
    (fun r => ∀ c : Dev nD, Ends m ρ c r.2) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := Ends m ρ) (hfin := fun c s => ends_of_held m ρ c s) (hQ := fun _ h _ => h)

end Cert.Drug

end
-- ==== Proof.DrugRef1.lean ====
/- The reference's first graph layer, read at an index. -/
module

public import proofs.«01_k».proof.Proof.Gen.Reference2Ideal.Read
public import proofs.«01_k».proof.Proof.Score
public import Idealize.ShloMosaic.Lib.Pointwise

@[expose] public section

set_option maxRecDepth 65536
set_option maxHeartbeats 4000000

noncomputable section

namespace Cert.Drug.Ref

open Idealize.ShloMosaic Idealize.ShloMosaic.TcCoe Idealize.SL.Sem Cert.Reference2Ideal Cert.Reference2Ideal.Gen Cert.Reference2Ideal.Read
open Idealize.ShloMosaic.Routing Cert.Drug

/-- The rectifier with the comparison that holds at zero too. -/
theorem leaky_of_ge (x : EReal) : (if 0 ≤ x then x else slope * x) = leaky x := by
  unfold leaky
  rcases lt_trichotomy x 0 with h | h | h
  · rw [if_neg (not_le.2 h), if_neg (not_lt.2 h.le)]
  · subst h
    rw [if_pos (le_refl _), if_neg (lt_irrefl _), mul_zero]
  · rw [if_pos h.le, if_pos h]

/-- The linear unit with the exponential taken of zero above zero. -/
theorem elu_of (x : EReal) : (if 0 < x then x else Ideal.exp (if 0 < x then 0 else x) - 1) = elu x := by
  unfold elu
  by_cases h : 0 < x
  · rw [if_pos h, if_pos h]
  · rw [if_neg h, if_neg h, if_neg h]

theorem take10 (x : FVec Ideal S10x32 .f32) (idx : IVec S50000x1 32) (e : Node) (c : Fin 32) :
    Host.gather gather_S10x32_S50000x1_S50000x32_1_0_n_n_0_1_132 x idx (ix2 e c) = x (ix2 (rowOf 10 (idx (ix2 e 0))) c) :=
  take_mat _ x idx e c

theorem take2 (x : FVec Ideal S50000x2 .f32) (idx : IVec S850000x1 32) (e : Edge) (c : Fin 2) :
    Host.gather gather_S50000x2_S850000x1_S850000x2_1_0_n_n_0_1_12 x idx (ix2 e c) = x (ix2 (rowOf 50000 (idx (ix2 e 0))) c) :=
  take_mat _ x idx e c

theorem slab32 (x : FVec Ideal S50000x2x32 .f32) (idx : IVec S850000x1 32) (e : Edge) (h : Fin 2) (c : Fin 32) :
    Host.gather gather_S50000x2x32_S850000x1_S850000x2x32_12_0_n_n_0_1_1232 x idx (ix3 e h c) =
      x (ix3 (rowOf 50000 (idx (ix2 e 0))) h c) := take_slab _ x idx e h c

theorem add2 (x : FVec Ideal S50000x2 .f32) (idx : IVec S850000x1 32) (u : FVec Ideal S850000x2 .f32) (i : Node) (c : Fin 2) :
    Host.scatterAdd scatter_S50000x2_S850000x1_S850000x2_1_0_0_1 x idx u (ix2 i c) =
      (x (ix2 i c) + ∑ e ∈ Finset.univ.filter (fun e : Edge => (idx (ix2 e 0)).toInt = (i.val : ℤ)), u (ix2 e c) : EReal) :=
  add_mat _ x idx u i c

theorem addslab32 (x : FVec Ideal S50000x2x32 .f32) (idx : IVec S850000x1 32) (u : FVec Ideal S850000x2x32 .f32) (i : Node) (h : Fin 2) (c : Fin 32) :
    Host.scatterAdd scatter_S50000x2x32_S850000x1_S850000x2x32_12_0_0_1 x idx u (ix3 i h c) =
      (x (ix3 i h c) + ∑ e ∈ Finset.univ.filter (fun e : Edge => (idx (ix2 e 0)).toInt = (i.val : ℤ)), u (ix3 e h c) : EReal) :=
  add_slab _ x idx u i h c

variable (x0 : IVec S50000 32) (x1 : IVec S2x800000 32) (x2 : IVec S50000 32) (x3 : FVec Ideal S10x32 .f32) (x4 : FVec Ideal S32x64 .f32)
  (x5 x6 : FVec Ideal S2x32 .f32) (x7 : FVec Ideal S64 .f32) (x8 : FVec Ideal S64x128 .f32) (x9 x10 : FVec Ideal S2x64 .f32)
  (x11 : FVec Ideal S128 .f32) (x12 : FVec Ideal S128x128 .f32) (x13 x14 : FVec Ideal S1x128 .f32) (x15 : FVec Ideal S128 .f32)

/-- The edges' two ends. -/
theorem ref_ends0 (e : Edge) : val_main_v3 (F := Ideal) x1 (ix1 e) = endOf (fun k => x1 (ix2 0 k)) e := by
  unfold val_main_v3 val_main_v2 val_main_v1 val_main_v0
  pointwise []
  rfl

@[inherit_doc ref_ends0]
theorem ref_ends1 (e : Edge) : val_main_v6 (F := Ideal) x1 (ix1 e) = endOf (fun k => x1 (ix2 1 k)) e := by
  unfold val_main_v6 val_main_v5 val_main_v4 val_main_v0
  pointwise []
  rfl

/-- The nodes' first features. -/
theorem ref_emb (n : Node) (k : Fin 32) : val_main_v13 (F := Ideal) x0 x3 (ix2 n k) = emb (fun i k => x3 (ix2 i k)) (fun n => x0 (ix1 n)) n k := by
  unfold val_main_v13 val_main_v12 val_main_v11 val_main_v10 val_main_v9 val_main_c_0 val_main_v8 val_main_v7 val_main_c
  pointwise [take10]
  rfl

/-- The first layer's features. -/
theorem ref_lin1 (n : Node) (k : Fin 64) : val_main_v14 (F := Ideal) x0 x3 x4 (ix2 n k) =
    lin (fun n j => val_main_v13 (F := Ideal) x0 x3 (ix2 n j)) (fun j k => x4 (ix2 j k)) n k := by
  unfold val_main_v14
  generalize val_main_v13 (F := Ideal) x0 x3 = y0
  pointwise []
  rfl

theorem ref_heads1 (n : Node) (t : Fin 2) (c : Fin 32) : val_main_v15 (F := Ideal) x0 x3 x4 (ix3 n t c) = val_main_v14 (F := Ideal) x0 x3 x4 (ix2 n (col (rfl : 2 * 32 = 64) t c)) := by
  unfold val_main_v15
  generalize val_main_v14 (F := Ideal) x0 x3 x4 = y0
  pointwise []
  exact congrArg (fun k => y0 (ix2 n k)) (Fin.ext (by show t.val * 32 + c.val = 32 * t.val + c.val; omega))

/-- The first layer's scores. -/
theorem ref_src1 (n : Node) (t : Fin 2) : val_main_v19 (F := Ideal) x0 x3 x4 x5 (ix2 n t) =
    score (rfl : 2 * 32 = 64) (fun k => val_main_v14 (F := Ideal) x0 x3 x4 (ix2 n k)) (fun t c => x5 (ix2 t c)) t := by
  unfold score
  simp only [← ref_heads1]
  unfold val_main_v19 val_main_cst val_main_v18 val_main_v17 val_main_v16
  generalize val_main_v15 (F := Ideal) x0 x3 x4 = y0
  pointwise []

theorem ref_dst1 (n : Node) (t : Fin 2) : val_main_v23 (F := Ideal) x0 x3 x4 x6 (ix2 n t) =
    score (rfl : 2 * 32 = 64) (fun k => val_main_v14 (F := Ideal) x0 x3 x4 (ix2 n k)) (fun t c => x6 (ix2 t c)) t := by
  unfold score
  simp only [← ref_heads1]
  unfold val_main_v23 val_main_cst_1 val_main_v22 val_main_v21 val_main_v20
  generalize val_main_v15 (F := Ideal) x0 x3 x4 = y0
  pointwise []

/-- The first layer's logits. -/
theorem ref_logit1 (e : Edge) (t : Fin 2) : val_main_v39 (F := Ideal) x0 x1 x3 x4 x5 x6 (ix2 e t) =
    logit (fun e => val_main_v3 (F := Ideal) x1 (ix1 e)) (fun e => val_main_v6 (F := Ideal) x1 (ix1 e)) (fun n t => val_main_v19 (F := Ideal) x0 x3 x4 x5 (ix2 n t)) (fun n t => val_main_v23 (F := Ideal) x0 x3 x4 x6 (ix2 n t)) e t := by
  unfold val_main_v39 val_main_call0_v4 val_main_call0_v3 val_main_call0_v2 val_main_call0_v1 val_main_call0_v0
    val_main_call0_cst val_main_cst_6 val_main_v38 val_main_v37 val_main_v36 val_main_v35 val_main_v34 val_main_v33
    val_main_c_5 val_main_v32 val_main_v31 val_main_c_4 val_main_v30 val_main_v29 val_main_v28 val_main_v27 val_main_v26
    val_main_c_3 val_main_v25 val_main_v24 val_main_c_2
  generalize val_main_v19 (F := Ideal) x0 x3 x4 x5 = y0
  generalize val_main_v23 (F := Ideal) x0 x3 x4 x6 = y1
  generalize val_main_v3 (F := Ideal) x1 = y2
  generalize val_main_v6 (F := Ideal) x1 = y3
  pointwise [take2]
  exact leaky_of_ge _

/-- The first layer's weights. -/
theorem ref_weight1 (e : Edge) (t : Fin 2) : val_main_v43 (F := Ideal) x0 x1 x3 x4 x5 x6 (ix2 e t) =
    weight (fun e t => val_main_v39 (F := Ideal) x0 x1 x3 x4 x5 x6 (ix2 e t)) (topOf fun e t => val_main_v39 (F := Ideal) x0 x1 x3 x4 x5 x6 (ix2 e t)) e t := by
  unfold val_main_v43 val_main_v42 val_main_v41 val_main_v40 val_main_cst_7
  generalize val_main_v39 (F := Ideal) x0 x1 x3 x4 x5 x6 = y0
  pointwise []
  rfl

/-- The first layer before its bias. -/
theorem ref_arrive1 (i : Node) (j : Fin 64) : val_main_v70 (F := Ideal) x0 x1 x3 x4 x5 x6 (ix2 i j) =
    arrive (head (rfl : 2 * 32 = 64)) (fun e => val_main_v3 (F := Ideal) x1 (ix1 e)) (fun e => val_main_v6 (F := Ideal) x1 (ix1 e)) (fun n j => val_main_v14 (F := Ideal) x0 x3 x4 (ix2 n j)) (fun e t => val_main_v43 (F := Ideal) x0 x1 x3 x4 x5 x6 (ix2 e t)) i j := by
  unfold val_main_v70 val_main_v69 val_main_v68 val_main_v67 val_main_cst_14 val_main_v66 val_main_v65 val_main_v64
    val_main_v63 val_main_v62 val_main_v61 val_main_v60 val_main_v59 val_main_c_13 val_main_v58 val_main_v57 val_main_c_12
    val_main_v56 val_main_v55 val_main_v54 val_main_cst_11 val_main_v53 val_main_v52 val_main_v51 val_main_v50 val_main_v49
    val_main_c_10 val_main_v48 val_main_v47 val_main_c_9 val_main_v46 val_main_v45 val_main_v44 val_main_cst_8
  unfold val_main_v15
  generalize val_main_v43 (F := Ideal) x0 x1 x3 x4 x5 x6 = y0
  generalize val_main_v14 (F := Ideal) x0 x3 x4 = y1
  generalize val_main_v3 (F := Ideal) x1 = y2
  generalize val_main_v6 (F := Ideal) x1 = y3
  pointwise [take2, slab32, add2, addslab32]
  rfl

/-- The first layer's result. -/
theorem ref_act1 (n : Node) (k : Fin 64) : val_main_v74 (F := Ideal) x0 x1 x3 x4 x5 x6 x7 (ix2 n k) =
    act (fun n k => val_main_v70 (F := Ideal) x0 x1 x3 x4 x5 x6 (ix2 n k)) (fun k => x7 (ix1 k)) n k := by
  unfold val_main_v74 val_main_call1_v7 val_main_call1_v6 val_main_call1_cst_2 val_main_call1_v5 val_main_call1_v4
    val_main_call1_call0_v1 val_main_call1_call0_v0 val_main_call1_cst_1 val_main_call1_v3 val_main_call1_v2
    val_main_call1_cst_0 val_main_call1_v1 val_main_call1_v0 val_main_call1_cst val_main_v73 val_main_v72 val_main_v71
  generalize val_main_v70 (F := Ideal) x0 x1 x3 x4 x5 x6 = y0
  simp only [id_eq]
  pointwise []
  exact elu_of _

end Cert.Drug.Ref
-- ==== Proof.DrugRef2.lean ====
/- The reference's second graph layer, read at an index. -/
module

public import proofs.«01_k».proof.Proof.DrugRef1

@[expose] public section

set_option maxRecDepth 65536
set_option maxHeartbeats 4000000

noncomputable section

namespace Cert.Drug.Ref

open Idealize.ShloMosaic Idealize.ShloMosaic.TcCoe Idealize.SL.Sem Cert.Reference2Ideal Cert.Reference2Ideal.Gen Cert.Reference2Ideal.Read
open Idealize.ShloMosaic.Routing Cert.Drug

theorem slab64 (x : FVec Ideal S50000x2x64 .f32) (idx : IVec S850000x1 32) (e : Edge) (h : Fin 2) (c : Fin 64) :
    Host.gather gather_S50000x2x64_S850000x1_S850000x2x64_12_0_n_n_0_1_1264 x idx (ix3 e h c) =
      x (ix3 (rowOf 50000 (idx (ix2 e 0))) h c) := take_slab _ x idx e h c

theorem addslab64 (x : FVec Ideal S50000x2x64 .f32) (idx : IVec S850000x1 32) (u : FVec Ideal S850000x2x64 .f32) (i : Node) (h : Fin 2) (c : Fin 64) :
    Host.scatterAdd scatter_S50000x2x64_S850000x1_S850000x2x64_12_0_0_1 x idx u (ix3 i h c) =
      (x (ix3 i h c) + ∑ e ∈ Finset.univ.filter (fun e : Edge => (idx (ix2 e 0)).toInt = (i.val : ℤ)), u (ix3 e h c) : EReal) :=
  add_slab _ x idx u i h c

variable (x0 : IVec S50000 32) (x1 : IVec S2x800000 32) (x2 : IVec S50000 32) (x3 : FVec Ideal S10x32 .f32) (x4 : FVec Ideal S32x64 .f32)
  (x5 x6 : FVec Ideal S2x32 .f32) (x7 : FVec Ideal S64 .f32) (x8 : FVec Ideal S64x128 .f32) (x9 x10 : FVec Ideal S2x64 .f32)
  (x11 : FVec Ideal S128 .f32) (x12 : FVec Ideal S128x128 .f32) (x13 x14 : FVec Ideal S1x128 .f32) (x15 : FVec Ideal S128 .f32)

/-- The second layer's features. -/
theorem ref_lin2 (n : Node) (k : Fin 128) : val_main_v75 (F := Ideal) x0 x1 x3 x4 x5 x6 x7 x8 (ix2 n k) =
    lin (fun n j => val_main_v74 (F := Ideal) x0 x1 x3 x4 x5 x6 x7 (ix2 n j)) (fun j k => x8 (ix2 j k)) n k := by
  unfold val_main_v75
  generalize val_main_v74 (F := Ideal) x0 x1 x3 x4 x5 x6 x7 = y0
  pointwise []
  rfl

theorem ref_heads2 (n : Node) (t : Fin 2) (c : Fin 64) : val_main_v76 (F := Ideal) x0 x1 x3 x4 x5 x6 x7 x8 (ix3 n t c) = val_main_v75 (F := Ideal) x0 x1 x3 x4 x5 x6 x7 x8 (ix2 n (col (rfl : 2 * 64 = 128) t c)) := by
  unfold val_main_v76
  generalize val_main_v75 (F := Ideal) x0 x1 x3 x4 x5 x6 x7 x8 = y0
  pointwise []
  exact congrArg (fun k => y0 (ix2 n k)) (Fin.ext (by show t.val * 64 + c.val = 64 * t.val + c.val; omega))

/-- The second layer's scores. -/
theorem ref_src2 (n : Node) (t : Fin 2) : val_main_v80 (F := Ideal) x0 x1 x3 x4 x5 x6 x7 x8 x9 (ix2 n t) =
    score (rfl : 2 * 64 = 128) (fun k => val_main_v75 (F := Ideal) x0 x1 x3 x4 x5 x6 x7 x8 (ix2 n k)) (fun t c => x9 (ix2 t c)) t := by
  unfold score
  simp only [← ref_heads2]
  unfold val_main_v80 val_main_cst_15 val_main_v79 val_main_v78 val_main_v77
  generalize val_main_v76 (F := Ideal) x0 x1 x3 x4 x5 x6 x7 x8 = y0
  pointwise []

theorem ref_dst2 (n : Node) (t : Fin 2) : val_main_v84 (F := Ideal) x0 x1 x3 x4 x5 x6 x7 x8 x10 (ix2 n t) =
    score (rfl : 2 * 64 = 128) (fun k => val_main_v75 (F := Ideal) x0 x1 x3 x4 x5 x6 x7 x8 (ix2 n k)) (fun t c => x10 (ix2 t c)) t := by
  unfold score
  simp only [← ref_heads2]
  unfold val_main_v84 val_main_cst_16 val_main_v83 val_main_v82 val_main_v81
  generalize val_main_v76 (F := Ideal) x0 x1 x3 x4 x5 x6 x7 x8 = y0
  pointwise []

/-- The second layer's logits. -/
theorem ref_logit2 (e : Edge) (t : Fin 2) : val_main_v100 (F := Ideal) x0 x1 x3 x4 x5 x6 x7 x8 x9 x10 (ix2 e t) =
    logit (fun e => val_main_v3 (F := Ideal) x1 (ix1 e)) (fun e => val_main_v6 (F := Ideal) x1 (ix1 e)) (fun n t => val_main_v80 (F := Ideal) x0 x1 x3 x4 x5 x6 x7 x8 x9 (ix2 n t)) (fun n t => val_main_v84 (F := Ideal) x0 x1 x3 x4 x5 x6 x7 x8 x10 (ix2 n t)) e t := by
  unfold val_main_v100 val_main_call2_v4 val_main_call2_v3 val_main_call2_v2 val_main_call2_v1 val_main_call2_v0
    val_main_call2_cst val_main_cst_21 val_main_v99 val_main_v98 val_main_v97 val_main_v96 val_main_v95 val_main_v94
    val_main_c_20 val_main_v93 val_main_v92 val_main_c_19 val_main_v91 val_main_v90 val_main_v89 val_main_v88 val_main_v87
    val_main_c_18 val_main_v86 val_main_v85 val_main_c_17
  generalize val_main_v80 (F := Ideal) x0 x1 x3 x4 x5 x6 x7 x8 x9 = y0
  generalize val_main_v84 (F := Ideal) x0 x1 x3 x4 x5 x6 x7 x8 x10 = y1
  generalize val_main_v3 (F := Ideal) x1 = y2
  generalize val_main_v6 (F := Ideal) x1 = y3
  pointwise [take2]
  exact leaky_of_ge _

/-- The second layer's weights. -/
theorem ref_weight2 (e : Edge) (t : Fin 2) : val_main_v104 (F := Ideal) x0 x1 x3 x4 x5 x6 x7 x8 x9 x10 (ix2 e t) =
    weight (fun e t => val_main_v100 (F := Ideal) x0 x1 x3 x4 x5 x6 x7 x8 x9 x10 (ix2 e t)) (topOf fun e t => val_main_v100 (F := Ideal) x0 x1 x3 x4 x5 x6 x7 x8 x9 x10 (ix2 e t)) e t := by
  unfold val_main_v104 val_main_v103 val_main_v102 val_main_v101 val_main_cst_22
  generalize val_main_v100 (F := Ideal) x0 x1 x3 x4 x5 x6 x7 x8 x9 x10 = y0
  pointwise []
  rfl

/-- The second layer before its bias. -/
theorem ref_arrive2 (i : Node) (j : Fin 128) : val_main_v131 (F := Ideal) x0 x1 x3 x4 x5 x6 x7 x8 x9 x10 (ix2 i j) =
    arrive (head (rfl : 2 * 64 = 128)) (fun e => val_main_v3 (F := Ideal) x1 (ix1 e)) (fun e => val_main_v6 (F := Ideal) x1 (ix1 e)) (fun n j => val_main_v75 (F := Ideal) x0 x1 x3 x4 x5 x6 x7 x8 (ix2 n j)) (fun e t => val_main_v104 (F := Ideal) x0 x1 x3 x4 x5 x6 x7 x8 x9 x10 (ix2 e t)) i j := by
  unfold val_main_v131 val_main_v130 val_main_v129 val_main_v128 val_main_cst_29 val_main_v127 val_main_v126 val_main_v125
    val_main_v124 val_main_v123 val_main_v122 val_main_v121 val_main_v120 val_main_c_28 val_main_v119 val_main_v118
    val_main_c_27 val_main_v117 val_main_v116 val_main_v115 val_main_cst_26 val_main_v114 val_main_v113 val_main_v112
    val_main_v111 val_main_v110 val_main_c_25 val_main_v109 val_main_v108 val_main_c_24 val_main_v107 val_main_v106
    val_main_v105 val_main_cst_23
  unfold val_main_v76
  generalize val_main_v104 (F := Ideal) x0 x1 x3 x4 x5 x6 x7 x8 x9 x10 = y0
  generalize val_main_v75 (F := Ideal) x0 x1 x3 x4 x5 x6 x7 x8 = y1
  generalize val_main_v3 (F := Ideal) x1 = y2
  generalize val_main_v6 (F := Ideal) x1 = y3
  pointwise [take2, slab64, add2, addslab64]
  rfl

/-- The second layer's result. -/
theorem ref_act2 (n : Node) (k : Fin 128) : val_main_v135 (F := Ideal) x0 x1 x3 x4 x5 x6 x7 x8 x9 x10 x11 (ix2 n k) =
    act (fun n k => val_main_v131 (F := Ideal) x0 x1 x3 x4 x5 x6 x7 x8 x9 x10 (ix2 n k)) (fun k => x11 (ix1 k)) n k := by
  unfold val_main_v135 val_main_call3_v7 val_main_call3_v6 val_main_call3_cst_2 val_main_call3_v5 val_main_call3_v4
    val_main_call3_call0_v1 val_main_call3_call0_v0 val_main_call3_cst_1 val_main_call3_v3 val_main_call3_v2
    val_main_call3_cst_0 val_main_call3_v1 val_main_call3_v0 val_main_call3_cst val_main_v134 val_main_v133 val_main_v132
  generalize val_main_v131 (F := Ideal) x0 x1 x3 x4 x5 x6 x7 x8 x9 x10 = y0
  simp only [id_eq]
  pointwise []
  exact elu_of _

end Cert.Drug.Ref
-- ==== Proof.DrugRef3.lean ====
/- The reference's third graph layer and its sums over the graphs, read at an index. -/
module

public import proofs.«01_k».proof.Proof.DrugRef2

@[expose] public section

set_option maxRecDepth 65536
set_option maxHeartbeats 4000000

noncomputable section

namespace Cert.Drug.Ref

open Idealize.ShloMosaic Idealize.ShloMosaic.TcCoe Idealize.SL.Sem Cert.Reference2Ideal Cert.Reference2Ideal.Gen Cert.Reference2Ideal.Read
open Idealize.ShloMosaic.Routing Cert.Drug

theorem take1 (x : FVec Ideal S50000x1 .f32) (idx : IVec S850000x1 32) (e : Edge) (c : Fin 1) :
    Host.gather gather_S50000x1_S850000x1_S850000x1_1_0_n_n_0_1_11 x idx (ix2 e c) = x (ix2 (rowOf 50000 (idx (ix2 e 0))) c) :=
  take_mat _ x idx e c

theorem slab128 (x : FVec Ideal S50000x1x128 .f32) (idx : IVec S850000x1 32) (e : Edge) (h : Fin 1) (c : Fin 128) :
    Host.gather gather_S50000x1x128_S850000x1_S850000x1x128_12_0_n_n_0_1_11128 x idx (ix3 e h c) =
      x (ix3 (rowOf 50000 (idx (ix2 e 0))) h c) := take_slab _ x idx e h c

theorem add1 (x : FVec Ideal S50000x1 .f32) (idx : IVec S850000x1 32) (u : FVec Ideal S850000x1 .f32) (i : Node) (c : Fin 1) :
    Host.scatterAdd scatter_S50000x1_S850000x1_S850000x1_1_0_0_1 x idx u (ix2 i c) =
      (x (ix2 i c) + ∑ e ∈ Finset.univ.filter (fun e : Edge => (idx (ix2 e 0)).toInt = (i.val : ℤ)), u (ix2 e c) : EReal) :=
  add_mat _ x idx u i c

theorem addslab128 (x : FVec Ideal S50000x1x128 .f32) (idx : IVec S850000x1 32) (u : FVec Ideal S850000x1x128 .f32) (i : Node) (h : Fin 1) (c : Fin 128) :
    Host.scatterAdd scatter_S50000x1x128_S850000x1_S850000x1x128_12_0_0_1 x idx u (ix3 i h c) =
      (x (ix3 i h c) + ∑ e ∈ Finset.univ.filter (fun e : Edge => (idx (ix2 e 0)).toInt = (i.val : ℤ)), u (ix3 e h c) : EReal) :=
  add_slab _ x idx u i h c

theorem pool128 (x : FVec Ideal S500x128 .f32) (idx : IVec S50000x1 32) (u : FVec Ideal S50000x128 .f32) (i : Fin 500) (c : Fin 128) :
    Host.scatterAdd scatter_S500x128_S50000x1_S50000x128_1_0_0_1 x idx u (ix2 i c) =
      (x (ix2 i c) + ∑ e ∈ Finset.univ.filter (fun e : Node => (idx (ix2 e 0)).toInt = (i.val : ℤ)), u (ix2 e c) : EReal) :=
  add_mat _ x idx u i c

theorem pool1 (x : FVec Ideal S500 .f32) (idx : IVec S50000x1 32) (u : FVec Ideal S50000 .f32) (i : Fin 500) :
    Host.scatterAdd scatter_S500_S50000x1_S50000_n_0_0_1 x idx u (ix1 i) =
      (x (ix1 i) + ∑ e ∈ Finset.univ.filter (fun e : Node => (idx (ix2 e 0)).toInt = (i.val : ℤ)), u (ix1 e) : EReal) :=
  add_vec _ x idx u i

variable (x0 : IVec S50000 32) (x1 : IVec S2x800000 32) (x2 : IVec S50000 32) (x3 : FVec Ideal S10x32 .f32) (x4 : FVec Ideal S32x64 .f32)
  (x5 x6 : FVec Ideal S2x32 .f32) (x7 : FVec Ideal S64 .f32) (x8 : FVec Ideal S64x128 .f32) (x9 x10 : FVec Ideal S2x64 .f32)
  (x11 : FVec Ideal S128 .f32) (x12 : FVec Ideal S128x128 .f32) (x13 x14 : FVec Ideal S1x128 .f32) (x15 : FVec Ideal S128 .f32)

/-- The third layer's features. -/
theorem ref_lin3 (n : Node) (k : Fin 128) : val_main_v136 (F := Ideal) x0 x1 x3 x4 x5 x6 x7 x8 x9 x10 x11 x12 (ix2 n k) =
    lin (fun n j => val_main_v135 (F := Ideal) x0 x1 x3 x4 x5 x6 x7 x8 x9 x10 x11 (ix2 n j)) (fun j k => x12 (ix2 j k)) n k := by
  unfold val_main_v136
  generalize val_main_v135 (F := Ideal) x0 x1 x3 x4 x5 x6 x7 x8 x9 x10 x11 = y0
  pointwise []
  rfl

theorem ref_heads3 (n : Node) (t : Fin 1) (c : Fin 128) : val_main_v137 (F := Ideal) x0 x1 x3 x4 x5 x6 x7 x8 x9 x10 x11 x12 (ix3 n t c) = val_main_v136 (F := Ideal) x0 x1 x3 x4 x5 x6 x7 x8 x9 x10 x11 x12 (ix2 n (col (rfl : 1 * 128 = 128) t c)) := by
  unfold val_main_v137
  generalize val_main_v136 (F := Ideal) x0 x1 x3 x4 x5 x6 x7 x8 x9 x10 x11 x12 = y0
  pointwise []
  exact congrArg (fun k => y0 (ix2 n k)) (Fin.ext (by show c.val = 128 * t.val + c.val; omega))

/-- The third layer's scores. -/
theorem ref_src3 (n : Node) (t : Fin 1) : val_main_v141 (F := Ideal) x0 x1 x3 x4 x5 x6 x7 x8 x9 x10 x11 x12 x13 (ix2 n t) =
    score (rfl : 1 * 128 = 128) (fun k => val_main_v136 (F := Ideal) x0 x1 x3 x4 x5 x6 x7 x8 x9 x10 x11 x12 (ix2 n k)) (fun t c => x13 (ix2 t c)) t := by
  obtain rfl := Subsingleton.elim t 0
  unfold score
  simp only [← ref_heads3]
  unfold val_main_v141 val_main_cst_30 val_main_v140 val_main_v139 val_main_v138
  generalize val_main_v137 (F := Ideal) x0 x1 x3 x4 x5 x6 x7 x8 x9 x10 x11 x12 = y0
  pointwise []

theorem ref_dst3 (n : Node) (t : Fin 1) : val_main_v145 (F := Ideal) x0 x1 x3 x4 x5 x6 x7 x8 x9 x10 x11 x12 x14 (ix2 n t) =
    score (rfl : 1 * 128 = 128) (fun k => val_main_v136 (F := Ideal) x0 x1 x3 x4 x5 x6 x7 x8 x9 x10 x11 x12 (ix2 n k)) (fun t c => x14 (ix2 t c)) t := by
  obtain rfl := Subsingleton.elim t 0
  unfold score
  simp only [← ref_heads3]
  unfold val_main_v145 val_main_cst_31 val_main_v144 val_main_v143 val_main_v142
  generalize val_main_v137 (F := Ideal) x0 x1 x3 x4 x5 x6 x7 x8 x9 x10 x11 x12 = y0
  pointwise []

/-- The third layer's logits. -/
theorem ref_logit3 (e : Edge) (t : Fin 1) : val_main_v161 (F := Ideal) x0 x1 x3 x4 x5 x6 x7 x8 x9 x10 x11 x12 x13 x14 (ix2 e t) =
    logit (fun e => val_main_v3 (F := Ideal) x1 (ix1 e)) (fun e => val_main_v6 (F := Ideal) x1 (ix1 e)) (fun n t => val_main_v141 (F := Ideal) x0 x1 x3 x4 x5 x6 x7 x8 x9 x10 x11 x12 x13 (ix2 n t)) (fun n t => val_main_v145 (F := Ideal) x0 x1 x3 x4 x5 x6 x7 x8 x9 x10 x11 x12 x14 (ix2 n t)) e t := by
  unfold val_main_v161 val_main_call4_v4 val_main_call4_v3 val_main_call4_v2 val_main_call4_v1 val_main_call4_v0
    val_main_call4_cst val_main_cst_36 val_main_v160 val_main_v159 val_main_v158 val_main_v157 val_main_v156 val_main_v155
    val_main_c_35 val_main_v154 val_main_v153 val_main_c_34 val_main_v152 val_main_v151 val_main_v150 val_main_v149
    val_main_v148 val_main_c_33 val_main_v147 val_main_v146 val_main_c_32
  generalize val_main_v141 (F := Ideal) x0 x1 x3 x4 x5 x6 x7 x8 x9 x10 x11 x12 x13 = y0
  generalize val_main_v145 (F := Ideal) x0 x1 x3 x4 x5 x6 x7 x8 x9 x10 x11 x12 x14 = y1
  generalize val_main_v3 (F := Ideal) x1 = y2
  generalize val_main_v6 (F := Ideal) x1 = y3
  pointwise [take1]
  exact leaky_of_ge _

/-- The third layer's weights. -/
theorem ref_weight3 (e : Edge) (t : Fin 1) : val_main_v165 (F := Ideal) x0 x1 x3 x4 x5 x6 x7 x8 x9 x10 x11 x12 x13 x14 (ix2 e t) =
    weight (fun e t => val_main_v161 (F := Ideal) x0 x1 x3 x4 x5 x6 x7 x8 x9 x10 x11 x12 x13 x14 (ix2 e t)) (topOf fun e t => val_main_v161 (F := Ideal) x0 x1 x3 x4 x5 x6 x7 x8 x9 x10 x11 x12 x13 x14 (ix2 e t)) e t := by
  unfold val_main_v165 val_main_v164 val_main_v163 val_main_v162 val_main_cst_37
  generalize val_main_v161 (F := Ideal) x0 x1 x3 x4 x5 x6 x7 x8 x9 x10 x11 x12 x13 x14 = y0
  pointwise []
  rfl

/-- The third layer before its bias. -/
theorem ref_arrive3 (i : Node) (j : Fin 128) : val_main_v192 (F := Ideal) x0 x1 x3 x4 x5 x6 x7 x8 x9 x10 x11 x12 x13 x14 (ix2 i j) =
    arrive (head (rfl : 1 * 128 = 128)) (fun e => val_main_v3 (F := Ideal) x1 (ix1 e)) (fun e => val_main_v6 (F := Ideal) x1 (ix1 e)) (fun n j => val_main_v136 (F := Ideal) x0 x1 x3 x4 x5 x6 x7 x8 x9 x10 x11 x12 (ix2 n j)) (fun e t => val_main_v165 (F := Ideal) x0 x1 x3 x4 x5 x6 x7 x8 x9 x10 x11 x12 x13 x14 (ix2 e t)) i j := by
  unfold val_main_v192 val_main_v191 val_main_v190 val_main_v189 val_main_cst_44 val_main_v188 val_main_v187 val_main_v186
    val_main_v185 val_main_v184 val_main_v183 val_main_v182 val_main_v181 val_main_c_43 val_main_v180 val_main_v179
    val_main_c_42 val_main_v178 val_main_v177 val_main_v176 val_main_cst_41 val_main_v175 val_main_v174 val_main_v173
    val_main_v172 val_main_v171 val_main_c_40 val_main_v170 val_main_v169 val_main_c_39 val_main_v168 val_main_v167
    val_main_v166 val_main_cst_38
  unfold val_main_v137
  generalize val_main_v165 (F := Ideal) x0 x1 x3 x4 x5 x6 x7 x8 x9 x10 x11 x12 x13 x14 = y0
  generalize val_main_v136 (F := Ideal) x0 x1 x3 x4 x5 x6 x7 x8 x9 x10 x11 x12 = y1
  generalize val_main_v3 (F := Ideal) x1 = y2
  generalize val_main_v6 (F := Ideal) x1 = y3
  pointwise [take1, slab128, add1, addslab128]
  unfold arrive total
  rw [Subsingleton.elim (head (rfl : 1 * 128 = 128) j) 0]
  rfl

/-- The third layer's result. -/
theorem ref_act3 (n : Node) (k : Fin 128) : val_main_v196 (F := Ideal) x0 x1 x3 x4 x5 x6 x7 x8 x9 x10 x11 x12 x13 x14 x15 (ix2 n k) =
    act (fun n k => val_main_v192 (F := Ideal) x0 x1 x3 x4 x5 x6 x7 x8 x9 x10 x11 x12 x13 x14 (ix2 n k)) (fun k => x15 (ix1 k)) n k := by
  unfold val_main_v196 val_main_call5_v7 val_main_call5_v6 val_main_call5_cst_2 val_main_call5_v5 val_main_call5_v4
    val_main_call5_call0_v1 val_main_call5_call0_v0 val_main_call5_cst_1 val_main_call5_v3 val_main_call5_v2
    val_main_call5_cst_0 val_main_call5_v1 val_main_call5_v0 val_main_call5_cst val_main_v195 val_main_v194 val_main_v193
  generalize val_main_v192 (F := Ideal) x0 x1 x3 x4 x5 x6 x7 x8 x9 x10 x11 x12 x13 x14 = y0
  simp only [id_eq]
  pointwise []
  exact elu_of _

/-- The graphs' numbers of nodes. -/
theorem ref_counted (p : Fin 500) : val_main_v200 (F := Ideal) x2 (ix1 p) = counted (fun n => x2 (ix1 n)) p := by
  unfold val_main_v200 val_main_v199 val_main_v198 val_main_cst_46 val_main_v197 val_main_cst_45
  pointwise [pool1]
  rfl

/-- The graphs' sums. -/
theorem ref_pooled (p : Fin 500) (j : Fin 128) : val_main_v203 (F := Ideal) x0 x1 x2 x3 x4 x5 x6 x7 x8 x9 x10 x11 x12 x13 x14 x15 (ix2 p j) =
    pooled (fun n => x2 (ix1 n)) (fun n j => val_main_v196 (F := Ideal) x0 x1 x3 x4 x5 x6 x7 x8 x9 x10 x11 x12 x13 x14 x15 (ix2 n j)) p j := by
  unfold val_main_v203 val_main_v202 val_main_v201 val_main_cst_47
  generalize val_main_v196 (F := Ideal) x0 x1 x3 x4 x5 x6 x7 x8 x9 x10 x11 x12 x13 x14 x15 = y0
  pointwise [pool128]
  rfl

end Cert.Drug.Ref
-- ==== Proof.DrugRefValue.lean ====
/- The drug branch's reference: its two results in terms of its arguments. -/
module

public import proofs.«01_k».proof.Proof.Drug
public import proofs.«01_k».proof.Proof.DrugRef3

@[expose] public section

set_option maxRecDepth 65536
set_option maxHeartbeats 4000000

noncomputable section

namespace Cert.Drug

open Idealize.ShloMosaic Idealize.ShloMosaic.TcCoe Idealize.SL.Sem Cert.Reference2Ideal Cert.Reference2Ideal.Gen Cert.Reference2Ideal.Read
open Idealize.ShloMosaic.Routing Cert.Drug.Ref

variable (A : Args)

theorem ref_src : (fun e : Edge => val_main_v3 (F := Ideal) A.edges (ix1 e)) = A.src := funext fun e => ref_ends0 _ e

theorem ref_dst : (fun e : Edge => val_main_v6 (F := Ideal) A.edges (ix1 e)) = A.dst := funext fun e => ref_ends1 _ e

theorem ref_conv1 : (fun n (k : Fin 64) => val_main_v70 (F := Ideal) A.x A.edges A.table A.w1 A.s1 A.d1 (ix2 n k)) = A.conv1 := by
  have hx : (fun n k => val_main_v14 (F := Ideal) A.x A.table A.w1 (ix2 n k)) = lin A.feat0 (fun j k => A.w1 (ix2 j k)) := by
    funext n k
    refine (ref_lin1 _ _ _ n k).trans (congrFun (congrFun (lin_congr (fun n j => ?_) fun _ _ => rfl) n) k)
    exact ref_emb _ _ n j
  refine Eq.trans (funext fun n => funext fun k => ref_arrive1 _ _ _ _ _ _ n k) ?_
  exact gat_of _ (ref_src A) (ref_dst A) hx (ref_src1 _ _ _ _ ) (ref_dst1 _ _ _ _ ) (ref_logit1 _ _ _ _ _ _ )
    (ref_weight1 _ _ _ _ _ _ )

theorem ref_conv2 : (fun n (k : Fin 128) => val_main_v131 (F := Ideal) A.x A.edges A.table A.w1 A.s1 A.d1 A.b1 A.w2 A.s2 A.d2 (ix2 n k)) = A.conv2 := by
  have hx : (fun n k => val_main_v75 (F := Ideal) A.x A.edges A.table A.w1 A.s1 A.d1 A.b1 A.w2 (ix2 n k)) = lin (act A.conv1 fun k => A.b1 (ix1 k)) (fun j k => A.w2 (ix2 j k)) := by
    funext n k
    refine (ref_lin2 _ _ _ _ _ _ _ _ n k).trans (congrFun (congrFun (lin_congr (fun n j => ?_) fun _ _ => rfl) n) k)
    refine (ref_act1 _ _ _ _ _ _ _ n j).trans ?_
    rw [ref_conv1]
  refine Eq.trans (funext fun n => funext fun k => ref_arrive2 _ _ _ _ _ _ _ _ _ _ n k) ?_
  exact gat_of _ (ref_src A) (ref_dst A) hx (ref_src2 _ _ _ _ _ _ _ _ _ ) (ref_dst2 _ _ _ _ _ _ _ _ _ ) (ref_logit2 _ _ _ _ _ _ _ _ _ _ )
    (ref_weight2 _ _ _ _ _ _ _ _ _ _ )

theorem ref_conv3 : (fun n (k : Fin 128) => val_main_v192 (F := Ideal) A.x A.edges A.table A.w1 A.s1 A.d1 A.b1 A.w2 A.s2 A.d2 A.b2 A.w3 A.s3 A.d3 (ix2 n k)) = A.conv3 := by
  have hx : (fun n k => val_main_v136 (F := Ideal) A.x A.edges A.table A.w1 A.s1 A.d1 A.b1 A.w2 A.s2 A.d2 A.b2 A.w3 (ix2 n k)) = lin (act A.conv2 fun k => A.b2 (ix1 k)) (fun j k => A.w3 (ix2 j k)) := by
    funext n k
    refine (ref_lin3 _ _ _ _ _ _ _ _ _ _ _ _ n k).trans (congrFun (congrFun (lin_congr (fun n j => ?_) fun _ _ => rfl) n) k)
    refine (ref_act2 _ _ _ _ _ _ _ _ _ _ _ n j).trans ?_
    rw [ref_conv2]
  refine Eq.trans (funext fun n => funext fun k => ref_arrive3 _ _ _ _ _ _ _ _ _ _ _ _ _ _ n k) ?_
  exact gat_of _ (ref_src A) (ref_dst A) hx (ref_src3 _ _ _ _ _ _ _ _ _ _ _ _ _ ) (ref_dst3 _ _ _ _ _ _ _ _ _ _ _ _ _ ) (ref_logit3 _ _ _ _ _ _ _ _ _ _ _ _ _ _ )
    (ref_weight3 _ _ _ _ _ _ _ _ _ _ _ _ _ _ )

/-- The reference's first result. -/
theorem ref_summed (p : Fin 500) (j : Fin 128) : val_main_v203 (F := Ideal) A.x A.edges A.batch A.table A.w1 A.s1 A.d1 A.b1 A.w2 A.s2 A.d2 A.b2 A.w3 A.s3 A.d3 A.b3 (ix2 p j) = A.summed p j := by
  refine (ref_pooled _ _ _ _ _ _ _ _ _ _ _ _ _ _ _ _ p j).trans ?_
  refine congrArg (fun X => pooled (fun n => A.batch (ix1 n)) X p j) (funext fun n => funext fun j => ?_)
  refine (ref_act3 _ _ _ _ _ _ _ _ _ _ _ _ _ _ _ n j).trans ?_
  rw [ref_conv3]

/-- The reference's second result. -/
theorem ref_counts (p : Fin 500) : val_main_v200 (F := Ideal) A.batch (ix1 p) = A.counts p := ref_counted _ p

end Cert.Drug
-- ==== Proof.DrugReference.lean ====
/- The run of the drug branch's reference, read as the plain mathematics of `Args`. -/
module

public import proofs.«01_k».proof.Proof.DrugRefValue
public import proofs.«01_k».proof.Proof.Gen.Reference2Ideal.Run
public import Idealize.ShloMosaic.Lib.Quiescent

@[expose] public section

set_option maxRecDepth 65536
set_option maxHeartbeats 4000000

noncomputable section

namespace Cert.Drug

open Idealize.ShloMosaic Idealize.ShloMosaic.TcCoe Idealize.SL.Sem Cert.Reference2Ideal Idealize.ShloMosaic.Routing

variable (m : (ℓ : Loc nD τ sig) → Buf (Elt Ideal) ℓ) (ρ : Dev nD → PrngReg)

/-- The reference's arguments on one device. -/
def refArgs (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15)⟩

/-- One device's arguments end as they were launched. -/
def ArgsKept (c : Dev nD) (s : (ℓ : Loc nD τ sig) → Buf (Elt Ideal) ℓ) : Prop :=
  s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12)
      ∧ s ((c.tc : Thread nD τ).loc main_arg13) = m ((c.tc : Thread nD τ).loc main_arg13)
      ∧ s ((c.tc : Thread nD τ).loc main_arg14) = m ((c.tc : Thread nD τ).loc main_arg14)
      ∧ s ((c.tc : Thread nD τ).loc main_arg15) = m ((c.tc : Thread nD τ).loc main_arg15)

attribute [local irreducible] Read.val_main_v203 in
/-- The first result's term, read at an index. -/
theorem summed_of (c : Dev nD) (x : Buf (Elt Ideal) ((c.tc : Thread nD τ).loc main_v203)) (p : Fin 500) (j : Fin 128)
    (h : x = Read.val_main_v203 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) :
    x (ix2 p j) = (refArgs m c).summed p j := by
  rw [h]
  exact ref_summed (refArgs m c) p j

attribute [local irreducible] Read.val_main_v200 in
/-- The second result's term, read at an index. -/
theorem counts_of (c : Dev nD) (x : Buf (Elt Ideal) ((c.tc : Thread nD τ).loc main_v200)) (p : Fin 500)
    (h : x = Read.val_main_v200 (F := Ideal) (m ((c.tc : Thread nD τ).loc main_arg2))) :
    x (ix1 p) = (refArgs m c).counts p := by
  rw [h]
  exact ref_counts (refArgs m c) p

attribute [local irreducible] Read.val_main_v203 Read.val_main_v200 in
/-- Every weakly fair execution of the reference ends, its results those of its arguments, the arguments unchanged and
    every semaphore counter at zero. -/
theorem reference_run : θ_run defs (onTc (τ := τ) (main (F := Ideal))) ⟨m, fun _ => 0, ρ⟩ fun r =>
    (∀ c : Dev nD, (∀ (p : Fin 500) (j : Fin 128), r.2.mem ((c.tc : Thread nD τ).loc main_v203) (ix2 p j) = (refArgs m c).summed p j)
      ∧ (∀ p : Fin 500, r.2.mem ((c.tc : Thread nD τ).loc main_v200) (ix1 p) = (refArgs m c).counts p)
      ∧ ArgsKept m c r.2.mem) ∧ r.2.sem = fun _ => 0 := by
  have hrun := Value.run (F := Ideal) m ρ
  refine (θ_run defs _ _).mono ?_ hrun
  intro r h
  refine ⟨fun c => ⟨fun p j => ?_, fun p => ?_, (h c).2.2⟩, sem_eq_zero_of_no_sems (by decide) r.2⟩
  · refine summed_of m c _ p j ?_
    exact (h c).1.trans (Read.val_main_v203_eq (F := Ideal) (StableHlo.launchContents m c))
  · refine counts_of m c _ p ?_
    exact (h c).2.1.trans (Read.val_main_v200_eq (F := Ideal) (StableHlo.launchContents m c))

end Cert.Drug

end
-- ==== Proof.lean ====
/- The claim. -/
module

public import proofs.«01_k».proof.Defs
public import proofs.«01_k».proof.Proof.Gen.Kernel.Frame
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.KernelValue
public import proofs.«01_k».proof.Proof.Run
public import proofs.«01_k».proof.Proof.Finite
public import proofs.«01_k».proof.Proof.Reference
public import proofs.«01_k».proof.Proof.DrugValue
public import proofs.«01_k».proof.Proof.DrugRun
public import proofs.«01_k».proof.Proof.DrugReference

@[expose] public section

set_option maxRecDepth 65536
set_option maxHeartbeats 4000000

noncomputable section

namespace Cert.Proof

open Idealize.ShloMosaic Idealize.ShloMosaic.TcCoe Idealize.SL.Sem

section Kernel

open Cert.KernelIdeal Cert.KernelIdeal.Gen Cert.Protein

variable (m : (ℓ : Loc nD τ sig) → Buf (Elt Ideal) ℓ) (ρ : Dev nD → PrngReg)

/-- The kernel's result and its arguments at the end of a run, on one device. -/
theorem kernel_end (c : Dev nD) (s : MemSt nD τ sig (Elt Ideal)) (h : Ends m ρ c s) :
    s.mem ((c.tc : Thread nD τ).loc main_v100) = W13 m ρ c (Proc.devRef .tc main_v100)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20)
      ∧ s.mem ((c.tc : Thread nD τ).loc main_arg21) = m ((c.tc : Thread nD τ).loc main_arg21)
      ∧ s.mem ((c.tc : Thread nD τ).loc main_arg22) = m ((c.tc : Thread nD τ).loc main_arg22)
      ∧ s.mem ((c.tc : Thread nD τ).loc main_arg23) = m ((c.tc : Thread nD τ).loc main_arg23)
      ∧ s.mem ((c.tc : Thread nD τ).loc main_arg24) = m ((c.tc : Thread nD τ).loc main_arg24)
      ∧ s.mem ((c.tc : Thread nD τ).loc main_arg25) = m ((c.tc : Thread nD τ).loc main_arg25)
      ∧ s.mem ((c.tc : Thread nD τ).loc main_arg26) = m ((c.tc : Thread nD τ).loc main_arg26)
      ∧ s.mem ((c.tc : Thread nD τ).loc main_arg27) = m ((c.tc : Thread nD τ).loc main_arg27) :=
  ⟨h _ (mem_uc main_v100 (by decide)),
    (h _ (mem_uc main_arg0 (by decide))).trans (W13_main_arg0 m ρ c),
    (h _ (mem_uc main_arg1 (by decide))).trans (W13_main_arg1 m ρ c),
    (h _ (mem_uc main_arg2 (by decide))).trans (W13_main_arg2 m ρ c),
    (h _ (mem_uc main_arg3 (by decide))).trans (W13_main_arg3 m ρ c),
    (h _ (mem_uc main_arg4 (by decide))).trans (W13_main_arg4 m ρ c),
    (h _ (mem_uc main_arg5 (by decide))).trans (W13_main_arg5 m ρ c),
    (h _ (mem_uc main_arg6 (by decide))).trans (W13_main_arg6 m ρ c),
    (h _ (mem_uc main_arg7 (by decide))).trans (W13_main_arg7 m ρ c),
    (h _ (mem_uc main_arg8 (by decide))).trans (W13_main_arg8 m ρ c),
    (h _ (mem_uc main_arg9 (by decide))).trans (W13_main_arg9 m ρ c),
    (h _ (mem_uc main_arg10 (by decide))).trans (W13_main_arg10 m ρ c),
    (h _ (mem_uc main_arg11 (by decide))).trans (W13_main_arg11 m ρ c),
    (h _ (mem_uc main_arg12 (by decide))).trans (W13_main_arg12 m ρ c),
    (h _ (mem_uc main_arg13 (by decide))).trans (W13_main_arg13 m ρ c),
    (h _ (mem_uc main_arg14 (by decide))).trans (W13_main_arg14 m ρ c),
    (h _ (mem_uc main_arg15 (by decide))).trans (W13_main_arg15 m ρ c),
    (h _ (mem_uc main_arg16 (by decide))).trans (W13_main_arg16 m ρ c),
    (h _ (mem_uc main_arg17 (by decide))).trans (W13_main_arg17 m ρ c),
    (h _ (mem_uc main_arg18 (by decide))).trans (W13_main_arg18 m ρ c),
    (h _ (mem_uc main_arg19 (by decide))).trans (W13_main_arg19 m ρ c),
    (h _ (mem_uc main_arg20 (by decide))).trans (W13_main_arg20 m ρ c),
    (h _ (mem_uc main_arg21 (by decide))).trans (W13_main_arg21 m ρ c),
    (h _ (mem_uc main_arg22 (by decide))).trans (W13_main_arg22 m ρ c),
    (h _ (mem_uc main_arg23 (by decide))).trans (W13_main_arg23 m ρ c),
    (h _ (mem_uc main_arg24 (by decide))).trans (W13_main_arg24 m ρ c),
    (h _ (mem_uc main_arg25 (by decide))).trans (W13_main_arg25 m ρ c),
    (h _ (mem_uc main_arg26 (by decide))).trans (W13_main_arg26 m ρ c),
    (h _ (mem_uc main_arg27 (by decide))).trans (W13_main_arg27 m ρ c)⟩

end Kernel

/-- The reference alone: it ends, its arguments unchanged and every counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => (∀ c, Cert.Protein.ArgsKept m c r.2.mem) ∧ r.2.sem = fun _ => 0 :=
  (θ_run Cert.ReferenceIdeal.defs _ _).mono (fun _ h => ⟨fun c => (h.1 c).2, h.2⟩) (Cert.Protein.reference_run m ρ)

/-- The kernel and the reference, run on the same arguments, end with the same result whenever the arguments are finite:
    each index of either is the output of the arguments there. -/
theorem algebraic [Cert.Pre_finite.Facts] : Cert.algebraic_KernelIdeal_ReferenceIdeal_pre_finite := by
  intro m g m' g' hpre hargs
  refine ⟨fun c => Cert.KernelIdeal.Gen.W13 m g c (Proc.devRef .tc Cert.KernelIdeal.main_v100), ?_, ?_⟩
  · exact (θ_run Cert.KernelIdeal.defs _ _).mono (fun r h c => kernel_end m g c r.2 (h c)) (Cert.Protein.kernel_run m g)
  · refine (θ_run Cert.ReferenceIdeal.defs _ _).mono (fun r h c => ⟨?_, (h.1 c).2⟩) (Cert.Protein.reference_run m' g')
    have hA : Cert.Protein.refArgs m' c = Cert.Protein.argsOf m c := by
      obtain ⟨h0, h1, h2, h3, h4, h5, h6, h7, h8, h9, h10, h11, h12, h13, h14, h15, h16, h17, h18, h19, h20, h21, h22, h23, h24, h25, h26, h27⟩ := hargs c
      unfold Cert.Protein.refArgs Cert.Protein.argsOf
      congr 1
    funext i
    have hi : i = ix2 (i 0) 0 := by
      rw [eq_ix2 i]
      congr 1
      exact Subsingleton.elim (α := Fin 1) _ _
    rw [hi]
    refine ((h.1 c).1 (i 0)).trans ?_
    rw [hA]
    exact (Cert.Protein.value_eq g (Cert.Protein.finite_of_pre hpre c) (i 0)).symm

section Drug

open Cert.Kernel2Ideal Cert.Kernel2Ideal.Gen Cert.Drug

variable (m : (ℓ : Loc nD τ sig) → Buf (Elt Ideal) ℓ) (ρ : Dev nD → PrngReg)

/-- The drug branch's results and its arguments at the end of a run of the kernel, on one device. -/
theorem kernel2_end (c : Dev nD) (s : MemSt nD τ sig (Elt Ideal)) (h : Ends m ρ c s) :
    s.mem ((c.tc : Thread nD τ).loc main_v235) = W15 m ρ c (Proc.devRef .tc main_v235)
      ∧ s.mem ((c.tc : Thread nD τ).loc main_v237) = W15 m ρ c (Proc.devRef .tc main_v237)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15) :=
  ⟨h _ (mem_uc main_v235 (by decide)), h _ (mem_uc main_v237 (by decide)),
    (h _ (mem_uc main_arg0 (by decide))).trans (W15_main_arg0 m ρ c),
    (h _ (mem_uc main_arg1 (by decide))).trans (W15_main_arg1 m ρ c),
    (h _ (mem_uc main_arg2 (by decide))).trans (W15_main_arg2 m ρ c),
    (h _ (mem_uc main_arg3 (by decide))).trans (W15_main_arg3 m ρ c),
    (h _ (mem_uc main_arg4 (by decide))).trans (W15_main_arg4 m ρ c),
    (h _ (mem_uc main_arg5 (by decide))).trans (W15_main_arg5 m ρ c),
    (h _ (mem_uc main_arg6 (by decide))).trans (W15_main_arg6 m ρ c),
    (h _ (mem_uc main_arg7 (by decide))).trans (W15_main_arg7 m ρ c),
    (h _ (mem_uc main_arg8 (by decide))).trans (W15_main_arg8 m ρ c),
    (h _ (mem_uc main_arg9 (by decide))).trans (W15_main_arg9 m ρ c),
    (h _ (mem_uc main_arg10 (by decide))).trans (W15_main_arg10 m ρ c),
    (h _ (mem_uc main_arg11 (by decide))).trans (W15_main_arg11 m ρ c),
    (h _ (mem_uc main_arg12 (by decide))).trans (W15_main_arg12 m ρ c),
    (h _ (mem_uc main_arg13 (by decide))).trans (W15_main_arg13 m ρ c),
    (h _ (mem_uc main_arg14 (by decide))).trans (W15_main_arg14 m ρ c),
    (h _ (mem_uc main_arg15 (by decide))).trans (W15_main_arg15 m ρ c)⟩

end Drug

/-- The drug branch's reference alone: it ends, its arguments unchanged and every counter at zero. -/
theorem reference2_frame (m : (ℓ : Loc Cert.Reference2Ideal.nD Cert.Reference2Ideal.τ Cert.Reference2Ideal.sig) → Buf (Elt Ideal) ℓ)
    (ρ : Dev Cert.Reference2Ideal.nD → PrngReg) :
    θ_run Cert.Reference2Ideal.defs (onTc (τ := Cert.Reference2Ideal.τ) (Cert.Reference2Ideal.main (F := Ideal))) ⟨m, fun _ => 0, ρ⟩
      fun r => (∀ c, Cert.Drug.ArgsKept m c r.2.mem) ∧ r.2.sem = fun _ => 0 :=
  (θ_run Cert.Reference2Ideal.defs _ _).mono (fun _ h => ⟨fun c => (h.1 c).2.2, h.2⟩) (Cert.Drug.reference_run m ρ)

/-- The drug branch's kernel and reference, run on the same arguments, end with the same results. -/
theorem algebraic2 : Cert.algebraic_Kernel2Ideal_Reference2Ideal := by
  intro m g m' g' _ hargs
  refine ⟨fun c => Cert.Kernel2Ideal.Gen.W15 m g c (Proc.devRef .tc Cert.Kernel2Ideal.main_v235),
    fun c => Cert.Kernel2Ideal.Gen.W15 m g c (Proc.devRef .tc Cert.Kernel2Ideal.main_v237), ?_, ?_⟩
  · exact (θ_run Cert.Kernel2Ideal.defs _ _).mono (fun r h c => kernel2_end m g c r.2 (h c)) (Cert.Drug.kernel_run m g)
  · refine (θ_run Cert.Reference2Ideal.defs _ _).mono (fun r h c => ?_) (Cert.Drug.reference_run m' g')
    have hA : Cert.Drug.refArgs m' c = Cert.Drug.argsOf m c := by
      obtain ⟨h0, h1, h2, h3, h4, h5, h6, h7, h8, h9, h10, h11, h12, h13, h14, h15⟩ := hargs c
      unfold Cert.Drug.refArgs Cert.Drug.argsOf
      congr 1
    refine ⟨?_, ?_, (h.1 c).2.2⟩
    · funext i
      rw [eq_ix2 i]
      refine ((h.1 c).1 (i 0) (i 1)).trans ?_
      rw [hA]
      exact (Cert.Drug.summed_eq m g c (i 0) (i 1)).symm
    · funext i
      rw [eq_ix1 i]
      refine ((h.1 c).2.1 (i 0)).trans ?_
      rw [hA]
      exact (Cert.Drug.counts_eq m g c (i 0)).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Protein.preFacts,
    fun m ρ _ => Cert.Kernel.Gen.frame m ρ, fun m ρ _ => Cert.KernelIdeal.Gen.frame m ρ,
    fun m ρ _ => Cert.KernelIdeal.Gen.frame m ρ, fun m ρ _ => reference_frame m ρ, fun m ρ _ => reference_frame m ρ,
    fun m ρ _ => Cert.Kernel2.Gen.frame m ρ, fun m ρ _ => Cert.Kernel2Ideal.Gen.frame m ρ, fun m ρ _ => reference2_frame m ρ,
    trivial, @algebraic Cert.Protein.preFacts, trivial, algebraic2⟩

end Cert.Proof

end
